-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x1024 : Shape := ⟨3, ![8, 8192, 1024]⟩
abbrev S2x8x8192x256 : Shape := ⟨4, ![2, 8, 8192, 256]⟩
abbrev S2x1024 : Shape := ⟨2, ![2, 1024]⟩
abbrev S2x1024x3584 : Shape := ⟨3, ![2, 1024, 3584]⟩
abbrev S2x512 : Shape := ⟨2, ![2, 512]⟩
abbrev S2x4x128x128 : Shape := ⟨4, ![2, 4, 128, 128]⟩
abbrev S2x4x128 : Shape := ⟨3, ![2, 4, 128]⟩
abbrev S2x512x3 : Shape := ⟨3, ![2, 512, 3]⟩
abbrev S2x1024x1024 : Shape := ⟨3, ![2, 1024, 1024]⟩
abbrev S2x256x1024 : Shape := ⟨3, ![2, 256, 1024]⟩
abbrev S1024 : Shape := ⟨1, ![1024]⟩
abbrev S2x128x4 : Shape := ⟨3, ![2, 128, 4]⟩
abbrev S2x128x4x128 : Shape := ⟨4, ![2, 128, 4, 128]⟩
abbrev S2x128x512 : Shape := ⟨3, ![2, 128, 512]⟩
abbrev S1x256x3584 : Shape := ⟨3, ![1, 256, 3584]⟩
abbrev S1x256x1024 : Shape := ⟨3, ![1, 256, 1024]⟩
abbrev S1x64x1024 : Shape := ⟨3, ![1, 64, 1024]⟩
abbrev S1x256x128 : Shape := ⟨3, ![1, 256, 128]⟩
abbrev S256x128 : Shape := ⟨2, ![256, 128]⟩
abbrev S256x1024 : Shape := ⟨2, ![256, 1024]⟩
abbrev S64x1024 : Shape := ⟨2, ![64, 1024]⟩
abbrev S2x3x512 : Shape := ⟨3, ![2, 3, 512]⟩
abbrev S1x1024 : Shape := ⟨2, ![1, 1024]⟩
abbrev S1x1024x1024 : Shape := ⟨3, ![1, 1024, 1024]⟩
abbrev S1x1x1024x256 : Shape := ⟨4, ![1, 1, 1024, 256]⟩
abbrev S1x1024x3584 : Shape := ⟨3, ![1, 1024, 3584]⟩
abbrev S1x4x128x128 : Shape := ⟨4, ![1, 4, 128, 128]⟩
abbrev S1x128x512 : Shape := ⟨3, ![1, 128, 512]⟩
abbrev S1x3x512 : Shape := ⟨3, ![1, 3, 512]⟩
abbrev S8x512 : Shape := ⟨2, ![8, 512]⟩
abbrev S128x128 : Shape := ⟨2, ![128, 128]⟩
abbrev S256 : Shape := ⟨1, ![256]⟩
abbrev S256x1 : Shape := ⟨2, ![256, 1]⟩
abbrev S1x1x256x256 : Shape := ⟨4, ![1, 1, 256, 256]⟩
abbrev S256x256 : Shape := ⟨2, ![256, 256]⟩
abbrev S1x1024x512 : Shape := ⟨3, ![1, 1024, 512]⟩
abbrev S1024x512 : Shape := ⟨2, ![1024, 512]⟩
abbrev S256x512 : Shape := ⟨2, ![256, 512]⟩
abbrev S1x512 : Shape := ⟨2, ![1, 512]⟩
abbrev S8x128 : Shape := ⟨2, ![8, 128]⟩
abbrev S248x128 : Shape := ⟨2, ![248, 128]⟩
abbrev S1x1x128 : Shape := ⟨3, ![1, 1, 128]⟩
abbrev S1x128 : Shape := ⟨2, ![1, 128]⟩
abbrev S128x256 : Shape := ⟨2, ![128, 256]⟩
abbrev S1x1x128x128 : Shape := ⟨4, ![1, 1, 128, 128]⟩
abbrev S1x128x128 : Shape := ⟨3, ![1, 128, 128]⟩
abbrev S1024x1024 : Shape := ⟨2, ![1024, 1024]⟩

abbrev nBuf : Space → Nat
  | .hbm => 26
  | .vmem => 54
  | .smem => 0
  | _ => 0

abbrev bufTy : (tb : Table) → Fin (tcTables nBuf tb) → BufTy
  | .hbm, ⟨0, _⟩ => ⟨S8x8192x1024, .f32⟩
  | .hbm, ⟨1, _⟩ => ⟨S2x8x8192x256, .f32⟩
  | .hbm, ⟨2, _⟩ => ⟨S2x1024, .f32⟩
  | .hbm, ⟨3, _⟩ => ⟨S2x1024x3584, .f32⟩
  | .hbm, ⟨4, _⟩ => ⟨S2x512, .f32⟩
  | .hbm, ⟨5, _⟩ => ⟨S2x512, .f32⟩
  | .hbm, ⟨6, _⟩ => ⟨S2x4x128x128, .f32⟩
  | .hbm, ⟨7, _⟩ => ⟨S2x4x128, .f32⟩
  | .hbm, ⟨8, _⟩ => ⟨S2x512x3, .f32⟩
  | .hbm, ⟨9, _⟩ => ⟨S2x1024x1024, .f32⟩
  | .hbm, ⟨10, _⟩ => ⟨S2x1024, .f32⟩
  | .hbm, ⟨11, _⟩ => ⟨S2x1024x1024, .f32⟩
  | .hbm, ⟨12, _⟩ => ⟨S2x256x1024, .f32⟩
  | .hbm, ⟨13, _⟩ => ⟨S1024, .f32⟩
  | .hbm, ⟨14, _⟩ => ⟨S2x128x4, .f32⟩
  | .hbm, ⟨15, _⟩ => ⟨S2x128x4x128, .f32⟩
  | .hbm, ⟨16, _⟩ => ⟨S2x128x512, .f32⟩
  | .hbm, ⟨17, _⟩ => ⟨S2x1024x3584, .bf16⟩
  | .hbm, ⟨18, _⟩ => ⟨S2x1024x1024, .bf16⟩
  | .hbm, ⟨19, _⟩ => ⟨S2x1024x1024, .bf16⟩
  | .hbm, ⟨20, _⟩ => ⟨S2x256x1024, .bf16⟩
  | .hbm, ⟨21, _⟩ => ⟨S2x3x512, .f32⟩
  | .hbm, ⟨22, _⟩ => ⟨S1x1024, .f32⟩
  | .hbm, ⟨23, _⟩ => ⟨S8x8192x1024, .f32⟩
  | .hbm, ⟨24, _⟩ => ⟨S1x1024, .f32⟩
  | .hbm, ⟨25, _⟩ => ⟨S8x8192x1024, .f32⟩
  | .local _ .vmem, ⟨0, _⟩ => ⟨S1x256x3584, .f32⟩
  | .local _ .vmem, ⟨1, _⟩ => ⟨S1x256x3584, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x256x3584, .bf16⟩
  | .local _ .vmem, ⟨9, _⟩ => ⟨S1x256x3584, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x64x1024, .bf16⟩
  | .local _ .vmem, ⟨15, _⟩ => ⟨S1x64x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x1x1024x256, .f32⟩
  | .local _ .vmem, ⟨19, _⟩ => ⟨S1x1x1024x256, .f32⟩
  | .local _ .vmem, ⟨20, _⟩ => ⟨S2x1024, .f32⟩
  | .local _ .vmem, ⟨21, _⟩ => ⟨S1x1024x3584, .bf16⟩
  | .local _ .vmem, ⟨22, _⟩ => ⟨S2x512, .f32⟩
  | .local _ .vmem, ⟨23, _⟩ => ⟨S2x512, .f32⟩
  | .local _ .vmem, ⟨24, _⟩ => ⟨S1x4x128x128, .f32⟩
  | .local _ .vmem, ⟨25, _⟩ => ⟨S1x128x512, .f32⟩
  | .local _ .vmem, ⟨26, _⟩ => ⟨S1x3x512, .f32⟩
  | .local _ .vmem, ⟨27, _⟩ => ⟨S1x1024x1024, .bf16⟩
  | .local _ .vmem, ⟨28, _⟩ => ⟨S2x1024, .f32⟩
  | .local _ .vmem, ⟨29, _⟩ => ⟨S1x1024x1024, .bf16⟩
  | .local _ .vmem, ⟨30, _⟩ => ⟨S1x256x1024, .bf16⟩
  | .local _ .vmem, ⟨31, _⟩ => ⟨S1x1024, .f32⟩
  | .local _ .vmem, ⟨32, _⟩ => ⟨S1x1024x1024, .f32⟩
  | .local _ .vmem, ⟨33, _⟩ => ⟨S1x1024x1024, .f32⟩
  | .local _ .vmem, ⟨34, _⟩ => ⟨S8x512, .f32⟩
  | .local _ .vmem, ⟨35, _⟩ => ⟨S1x1024x1024, .f32⟩
  | .local _ .vmem, ⟨36, _⟩ => ⟨S1x1024x1024, .f32⟩
  | .local _ .vmem, ⟨37, _⟩ => ⟨S1x1x1024x256, .f32⟩
  | .local _ .vmem, ⟨38, _⟩ => ⟨S1x1x1024x256, .f32⟩
  | .local _ .vmem, ⟨39, _⟩ => ⟨S2x1024, .f32⟩
  | .local _ .vmem, ⟨40, _⟩ => ⟨S1x1024x3584, .bf16⟩
  | .local _ .vmem, ⟨41, _⟩ => ⟨S2x512, .f32⟩
  | .local _ .vmem, ⟨42, _⟩ => ⟨S2x512, .f32⟩
  | .local _ .vmem, ⟨43, _⟩ => ⟨S1x4x128x128, .f32⟩
  | .local _ .vmem, ⟨44, _⟩ => ⟨S1x128x512, .f32⟩
  | .local _ .vmem, ⟨45, _⟩ => ⟨S1x3x512, .f32⟩
  | .local _ .vmem, ⟨46, _⟩ => ⟨S1x1024x1024, .bf16⟩
  | .local _ .vmem, ⟨47, _⟩ => ⟨S2x1024, .f32⟩
  | .local _ .vmem, ⟨48, _⟩ => ⟨S1x1024x1024, .bf16⟩
  | .local _ .vmem, ⟨49, _⟩ => ⟨S1x256x1024, .bf16⟩
  | .local _ .vmem, ⟨50, _⟩ => ⟨S1x1024, .f32⟩
  | .local _ .vmem, ⟨51, _⟩ => ⟨S1x1024x1024, .f32⟩
  | .local _ .vmem, ⟨52, _⟩ => ⟨S1x1024x1024, .f32⟩
  | .local _ .vmem, ⟨53, _⟩ => ⟨S8x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg14_1 : Ref sig .tc := ⟨.vmem, 33, rfl⟩
abbrev cc1_scratch0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg10_0 : Ref sig .tc := ⟨.vmem, 47, rfl⟩
abbrev cc2_stg11_0 : Ref sig .tc := ⟨.vmem, 48, rfl⟩
abbrev cc2_stg12_0 : Ref sig .tc := ⟨.vmem, 49, rfl⟩
abbrev cc2_stg13_0 : Ref sig .tc := ⟨.vmem, 50, rfl⟩
abbrev cc2_stg14_0 : Ref sig .tc := ⟨.vmem, 51, rfl⟩
abbrev cc2_stg14_1 : Ref sig .tc := ⟨.vmem, 52, rfl⟩
abbrev cc2_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem14_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem10_0 : DmaSem sig := 46
abbrev cc2_sem11_0 : DmaSem sig := 47
abbrev cc2_sem12_0 : DmaSem sig := 48
abbrev cc2_sem13_0 : DmaSem sig := 49
abbrev cc2_sem14_0 : DmaSem sig := 50
abbrev cc2_sem14_1 : DmaSem sig := 51

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024x3584 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x4x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x3x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S2x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1024x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x256x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S1x1024x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc2_transform_7 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S2x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024x3584 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S2x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S2x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x4x128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x128x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x3x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x1024x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S2x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x1024x1024 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x256x1024 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x1024 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 2 → Memref sig .tc .vmem S1x1024x1024 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]
-- ==== ReferenceIdeal.lean ====
abbrev S8x8192x1024 : Shape := ⟨3, ![8, 8192, 1024]⟩
abbrev S2x8x8192x256 : Shape := ⟨4, ![2, 8, 8192, 256]⟩
abbrev S2x1024 : Shape := ⟨2, ![2, 1024]⟩
abbrev S2x1024x3584 : Shape := ⟨3, ![2, 1024, 3584]⟩
abbrev S2x512 : Shape := ⟨2, ![2, 512]⟩
abbrev S2x4x128x128 : Shape := ⟨4, ![2, 4, 128, 128]⟩
abbrev S2x4x128 : Shape := ⟨3, ![2, 4, 128]⟩
abbrev S2x512x3 : Shape := ⟨3, ![2, 512, 3]⟩
abbrev S2x1024x1024 : Shape := ⟨3, ![2, 1024, 1024]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x3584 : Shape := ⟨3, ![1, 1024, 3584]⟩
abbrev S1024x3584 : Shape := ⟨2, ![1024, 3584]⟩
abbrev S8x8192x3584 : Shape := ⟨3, ![8, 8192, 3584]⟩
abbrev S8x8192x512 : Shape := ⟨3, ![8, 8192, 512]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S1x1x512 : Shape := ⟨3, ![1, 1, 512]⟩
abbrev S8x64x128x4x128 : Shape := ⟨5, ![8, 64, 128, 4, 128]⟩
abbrev S128x128 : Shape := ⟨2, ![128, 128]⟩
abbrev S1x128x128 : Shape := ⟨3, ![1, 128, 128]⟩
abbrev S4x8x64x128x128 : Shape := ⟨5, ![4, 8, 64, 128, 128]⟩
abbrev S128x4 : Shape := ⟨2, ![128, 4]⟩
abbrev S1x1x128x4x1 : Shape := ⟨5, ![1, 1, 128, 4, 1]⟩
abbrev S1x512x3 : Shape := ⟨3, ![1, 512, 3]⟩
abbrev S512x3 : Shape := ⟨2, ![512, 3]⟩
abbrev S8x8194x512 : Shape := ⟨3, ![8, 8194, 512]⟩
abbrev S512x1 : Shape := ⟨2, ![512, 1]⟩
abbrev S1x1024x1024 : Shape := ⟨3, ![1, 1024, 1024]⟩
abbrev S1024x1024 : Shape := ⟨2, ![1024, 1024]⟩
abbrev S1x8x8192x256 : Shape := ⟨4, ![1, 8, 8192, 256]⟩
abbrev S8x8192x256 : Shape := ⟨3, ![8, 8192, 256]⟩
abbrev S1x256x1024 : Shape := ⟨3, ![1, 256, 1024]⟩
abbrev S256x1024 : Shape := ⟨2, ![256, 1024]⟩

abbrev nBuf : Space → Nat
  | .hbm => 378
  | .vmem => 0
  | .smem => 0
  | _ => 0

abbrev hbmTy0_0 (i : Nat) : BufTy := match i % 128 with
  | 0 => ⟨S8x8192x1024, .f32⟩
  | 1 => ⟨S2x8x8192x256, .f32⟩
  | 2 => ⟨S2x1024, .f32⟩
  | 3 => ⟨S2x1024x3584, .f32⟩
  | 4 => ⟨S2x512, .f32⟩
  | 5 => ⟨S2x512, .f32⟩
  | 6 => ⟨S2x4x128x128, .f32⟩
  | 7 => ⟨S2x4x128, .f32⟩
  | 8 => ⟨S2x512x3, .f32⟩
  | 9 => ⟨S2x1024x1024, .f32⟩
  | 10 => ⟨S2x1024, .f32⟩
  | 11 => ⟨S2x1024x1024, .f32⟩
  | 12 => ⟨S2x256x1024, .f32⟩
  | 13 => ⟨S1024, .f32⟩
  | 14 => ⟨S1x1024, .f32⟩
  | 15 => ⟨S1024, .f32⟩
  | 16 => ⟨S8x8192x1024, .f32⟩
  | 17 => ⟨S_, .f32⟩
  | 18 => ⟨S8x8192, .f32⟩
  | 19 => ⟨S8x8192x1, .f32⟩
  | 20 => ⟨S_, .f32⟩
  | 21 => ⟨S8x8192x1, .f32⟩
  | 22 => ⟨S8x8192x1, .f32⟩
  | 23 => ⟨S_, .f32⟩
  | 24 => ⟨S8x8192x1, .f32⟩
  | 25 => ⟨S8x8192x1, .f32⟩
  | 26 => ⟨S8x8192x1, .f32⟩
  | 27 => ⟨S8x8192x1024, .f32⟩
  | 28 => ⟨S8x8192x1024, .f32⟩
  | 29 => ⟨S1x1x1024, .f32⟩
  | 30 => ⟨S8x8192x1024, .f32⟩
  | 31 => ⟨S8x8192x1024, .f32⟩
  | 32 => ⟨S1x1024x3584, .f32⟩
  | 33 => ⟨S1024x3584, .f32⟩
  | 34 => ⟨S8x8192x3584, .f32⟩
  | 35 => ⟨S8x8192x512, .f32⟩
  | 36 => ⟨S8x8192x512, .f32⟩
  | 37 => ⟨S8x8192x512, .f32⟩
  | 38 => ⟨S8x8192x512, .f32⟩
  | 39 => ⟨S8x8192x512, .f32⟩
  | 40 => ⟨S8x8192x512, .f32⟩
  | 41 => ⟨S8x8192x512, .f32⟩
  | 42 => ⟨S1x512, .f32⟩
  | 43 => ⟨S512, .f32⟩
  | 44 => ⟨S1x512, .f32⟩
  | 45 => ⟨S512, .f32⟩
  | 46 => ⟨S1x4x128x128, .f32⟩
  | 47 => ⟨S4x128x128, .f32⟩
  | 48 => ⟨S1x4x128, .f32⟩
  | 49 => ⟨S4x128, .f32⟩
  | 50 => ⟨S_, .f32⟩
  | 51 => ⟨S8x8192, .f32⟩
  | 52 => ⟨S8x8192x1, .f32⟩
  | 53 => ⟨S_, .f32⟩
  | 54 => ⟨S8x8192x1, .f32⟩
  | 55 => ⟨S8x8192x1, .f32⟩
  | 56 => ⟨S8x8192x512, .f32⟩
  | 57 => ⟨S8x8192x512, .f32⟩
  | 58 => ⟨S8x8192x512, .f32⟩
  | 59 => ⟨S_, .f32⟩
  | 60 => ⟨S8x8192, .f32⟩
  | 61 => ⟨S8x8192x1, .f32⟩
  | 62 => ⟨S_, .f32⟩
  | 63 => ⟨S8x8192x1, .f32⟩
  | 64 => ⟨S8x8192x1, .f32⟩
  | 65 => ⟨S_, .f32⟩
  | 66 => ⟨S8x8192x1, .f32⟩
  | 67 => ⟨S8x8192x1, .f32⟩
  | 68 => ⟨S8x8192x1, .f32⟩
  | 69 => ⟨S8x8192x512, .f32⟩
  | 70 => ⟨S8x8192x512, .f32⟩
  | 71 => ⟨S1x1x512, .f32⟩
  | 72 => ⟨S8x8192x512, .f32⟩
  | 73 => ⟨S8x8192x512, .f32⟩
  | 74 => ⟨S1x1x512, .f32⟩
  | 75 => ⟨S8x8192x512, .f32⟩
  | 76 => ⟨S8x8192x512, .f32⟩
  | 77 => ⟨S8x64x128x4x128, .f32⟩
  | 78 => ⟨S_, .f32⟩
  | 79 => ⟨S128x128, .f32⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S1x128x128, .f32⟩
  | 90 => ⟨S4x128x128, .f32⟩
  | 91 => ⟨S4x128x128, .f32⟩
  | 92 => ⟨S4x8x64x128x128, .f32⟩
  | 93 => ⟨S8x64x128x4x128, .f32⟩
  | 94 => ⟨S128x4, .f32⟩
  | 95 => ⟨S1x1x128x4x1, .f32⟩
  | 96 => ⟨S8x64x128x4x128, .f32⟩
  | 97 => ⟨S8x64x128x4x128, .f32⟩
  | 98 => ⟨S8x8192x512, .f32⟩
  | 99 => ⟨S8x8192x512, .f32⟩
  | 100 => ⟨S8x8192x512, .f32⟩
  | 101 => ⟨S8x8192x512, .f32⟩
  | 102 => ⟨S_, .f32⟩
  | 103 => ⟨S8x8192x512, .f32⟩
  | 104 => ⟨S8x8192x512, .f32⟩
  | 105 => ⟨S_, .f32⟩
  | 106 => ⟨S8x8192x512, .f32⟩
  | 107 => ⟨S8x8192x512, .f32⟩
  | 108 => ⟨S8x8192x512, .f32⟩
  | 109 => ⟨S8x8192x512, .f32⟩
  | 110 => ⟨S1x512x3, .f32⟩
  | 111 => ⟨S512x3, .f32⟩
  | 112 => ⟨S8x8192x512, .f32⟩
  | 113 => ⟨S_, .i32⟩
  | 114 => ⟨S_, .f32⟩
  | 115 => ⟨S8x8194x512, .f32⟩
  | 116 => ⟨S8x8192x512, .f32⟩
  | 117 => ⟨S512x1, .f32⟩
  | 118 => ⟨S512, .f32⟩
  | 119 => ⟨S1x1x512, .f32⟩
  | 120 => ⟨S8x8192x512, .f32⟩
  | 121 => ⟨S8x8192x512, .f32⟩
  | 122 => ⟨S8x8192x512, .f32⟩
  | 123 => ⟨S512x1, .f32⟩
  | 124 => ⟨S512, .f32⟩
  | 125 => ⟨S1x1x512, .f32⟩
  | 126 => ⟨S8x8192x512, .f32⟩
  | 127 => ⟨S8x8192x512, .f32⟩
  | _ => ⟨S8x8192x1024, .f32⟩

abbrev hbmTy0_1 (i : Nat) : BufTy := match i % 128 with
  | 0 => ⟨S8x8192x512, .f32⟩
  | 1 => ⟨S8x8192x512, .f32⟩
  | 2 => ⟨S512x1, .f32⟩
  | 3 => ⟨S512, .f32⟩
  | 4 => ⟨S1x1x512, .f32⟩
  | 5 => ⟨S8x8192x512, .f32⟩
  | 6 => ⟨S8x8192x512, .f32⟩
  | 7 => ⟨S8x8192x512, .f32⟩
  | 8 => ⟨S8x8192x512, .f32⟩
  | 9 => ⟨S8x8192x512, .f32⟩
  | 10 => ⟨S8x8192x512, .f32⟩
  | 11 => ⟨S_, .f32⟩
  | 12 => ⟨S8x8192x512, .f32⟩
  | 13 => ⟨S8x8192x512, .f32⟩
  | 14 => ⟨S_, .f32⟩
  | 15 => ⟨S8x8192x512, .f32⟩
  | 16 => ⟨S8x8192x512, .f32⟩
  | 17 => ⟨S8x8192x512, .f32⟩
  | 18 => ⟨S8x8192x512, .f32⟩
  | 19 => ⟨S8x8192x1024, .f32⟩
  | 20 => ⟨S1x1024x1024, .f32⟩
  | 21 => ⟨S1024x1024, .f32⟩
  | 22 => ⟨S8x8192x1024, .f32⟩
  | 23 => ⟨S8x8192x1024, .f32⟩
  | 24 => ⟨S1x1024, .f32⟩
  | 25 => ⟨S1024, .f32⟩
  | 26 => ⟨S8x8192x1024, .f32⟩
  | 27 => ⟨S_, .f32⟩
  | 28 => ⟨S8x8192, .f32⟩
  | 29 => ⟨S8x8192x1, .f32⟩
  | 30 => ⟨S_, .f32⟩
  | 31 => ⟨S8x8192x1, .f32⟩
  | 32 => ⟨S8x8192x1, .f32⟩
  | 33 => ⟨S_, .f32⟩
  | 34 => ⟨S8x8192x1, .f32⟩
  | 35 => ⟨S8x8192x1, .f32⟩
  | 36 => ⟨S8x8192x1, .f32⟩
  | 37 => ⟨S8x8192x1024, .f32⟩
  | 38 => ⟨S8x8192x1024, .f32⟩
  | 39 => ⟨S1x1x1024, .f32⟩
  | 40 => ⟨S8x8192x1024, .f32⟩
  | 41 => ⟨S8x8192x1024, .f32⟩
  | 42 => ⟨S1x1024x1024, .f32⟩
  | 43 => ⟨S1024x1024, .f32⟩
  | 44 => ⟨S8x8192x1024, .f32⟩
  | 45 => ⟨S8x8192x1024, .f32⟩
  | 46 => ⟨S8x8192x1024, .f32⟩
  | 47 => ⟨S_, .f32⟩
  | 48 => ⟨S8x8192x1024, .f32⟩
  | 49 => ⟨S8x8192x1024, .f32⟩
  | 50 => ⟨S_, .f32⟩
  | 51 => ⟨S8x8192x1024, .f32⟩
  | 52 => ⟨S8x8192x1024, .f32⟩
  | 53 => ⟨S1x8x8192x256, .f32⟩
  | 54 => ⟨S8x8192x256, .f32⟩
  | 55 => ⟨S1x256x1024, .f32⟩
  | 56 => ⟨S256x1024, .f32⟩
  | 57 => ⟨S8x8192x1024, .f32⟩
  | 58 => ⟨S8x8192x1024, .f32⟩
  | 59 => ⟨S8x8192x1024, .f32⟩
  | 60 => ⟨S1x1024, .f32⟩
  | 61 => ⟨S1024, .f32⟩
  | 62 => ⟨S8x8192x1024, .f32⟩
  | 63 => ⟨S_, .f32⟩
  | 64 => ⟨S8x8192, .f32⟩
  | 65 => ⟨S8x8192x1, .f32⟩
  | 66 => ⟨S_, .f32⟩
  | 67 => ⟨S8x8192x1, .f32⟩
  | 68 => ⟨S8x8192x1, .f32⟩
  | 69 => ⟨S_, .f32⟩
  | 70 => ⟨S8x8192x1, .f32⟩
  | 71 => ⟨S8x8192x1, .f32⟩
  | 72 => ⟨S8x8192x1, .f32⟩
  | 73 => ⟨S8x8192x1024, .f32⟩
  | 74 => ⟨S8x8192x1024, .f32⟩
  | 75 => ⟨S1x1x1024, .f32⟩
  | 76 => ⟨S8x8192x1024, .f32⟩
  | 77 => ⟨S8x8192x1024, .f32⟩
  | 78 => ⟨S1x1024x3584, .f32⟩
  | 79 => ⟨S1024x3584, .f32⟩
  | 80 => ⟨S8x8192x3584, .f32⟩
  | 81 => ⟨S8x8192x512, .f32⟩
  | 82 => ⟨S8x8192x512, .f32⟩
  | 83 => ⟨S8x8192x512, .f32⟩
  | 84 => ⟨S8x8192x512, .f32⟩
  | 85 => ⟨S8x8192x512, .f32⟩
  | 86 => ⟨S8x8192x512, .f32⟩
  | 87 => ⟨S8x8192x512, .f32⟩
  | 88 => ⟨S1x512, .f32⟩
  | 89 => ⟨S512, .f32⟩
  | 90 => ⟨S1x512, .f32⟩
  | 91 => ⟨S512, .f32⟩
  | 92 => ⟨S1x4x128x128, .f32⟩
  | 93 => ⟨S4x128x128, .f32⟩
  | 94 => ⟨S1x4x128, .f32⟩
  | 95 => ⟨S4x128, .f32⟩
  | 96 => ⟨S_, .f32⟩
  | 97 => ⟨S8x8192, .f32⟩
  | 98 => ⟨S8x8192x1, .f32⟩
  | 99 => ⟨S_, .f32⟩
  | 100 => ⟨S8x8192x1, .f32⟩
  | 101 => ⟨S8x8192x1, .f32⟩
  | 102 => ⟨S8x8192x512, .f32⟩
  | 103 => ⟨S8x8192x512, .f32⟩
  | 104 => ⟨S8x8192x512, .f32⟩
  | 105 => ⟨S_, .f32⟩
  | 106 => ⟨S8x8192, .f32⟩
  | 107 => ⟨S8x8192x1, .f32⟩
  | 108 => ⟨S_, .f32⟩
  | 109 => ⟨S8x8192x1, .f32⟩
  | 110 => ⟨S8x8192x1, .f32⟩
  | 111 => ⟨S_, .f32⟩
  | 112 => ⟨S8x8192x1, .f32⟩
  | 113 => ⟨S8x8192x1, .f32⟩
  | 114 => ⟨S8x8192x1, .f32⟩
  | 115 => ⟨S8x8192x512, .f32⟩
  | 116 => ⟨S8x8192x512, .f32⟩
  | 117 => ⟨S1x1x512, .f32⟩
  | 118 => ⟨S8x8192x512, .f32⟩
  | 119 => ⟨S8x8192x512, .f32⟩
  | 120 => ⟨S1x1x512, .f32⟩
  | 121 => ⟨S8x8192x512, .f32⟩
  | 122 => ⟨S8x8192x512, .f32⟩
  | 123 => ⟨S8x64x128x4x128, .f32⟩
  | 124 => ⟨S_, .f32⟩
  | 125 => ⟨S128x128, .f32⟩
  | 126 => ⟨S128x128, .i32⟩
  | 127 => ⟨S_, .i32⟩
  | _ => ⟨S8x8192x1024, .f32⟩

abbrev hbmTy0_2 (i : Nat) : BufTy := match i % 128 with
  | 0 => ⟨S128x128, .i32⟩
  | 1 => ⟨S128x128, .i32⟩
  | 2 => ⟨S128x128, .i32⟩
  | 3 => ⟨S128x128, .i1⟩
  | 4 => ⟨S_, .f32⟩
  | 5 => ⟨S128x128, .f32⟩
  | 6 => ⟨S128x128, .f32⟩
  | 7 => ⟨S1x128x128, .f32⟩
  | 8 => ⟨S4x128x128, .f32⟩
  | 9 => ⟨S4x128x128, .f32⟩
  | 10 => ⟨S4x8x64x128x128, .f32⟩
  | 11 => ⟨S8x64x128x4x128, .f32⟩
  | 12 => ⟨S128x4, .f32⟩
  | 13 => ⟨S1x1x128x4x1, .f32⟩
  | 14 => ⟨S8x64x128x4x128, .f32⟩
  | 15 => ⟨S8x64x128x4x128, .f32⟩
  | 16 => ⟨S8x8192x512, .f32⟩
  | 17 => ⟨S8x8192x512, .f32⟩
  | 18 => ⟨S8x8192x512, .f32⟩
  | 19 => ⟨S8x8192x512, .f32⟩
  | 20 => ⟨S_, .f32⟩
  | 21 => ⟨S8x8192x512, .f32⟩
  | 22 => ⟨S8x8192x512, .f32⟩
  | 23 => ⟨S_, .f32⟩
  | 24 => ⟨S8x8192x512, .f32⟩
  | 25 => ⟨S8x8192x512, .f32⟩
  | 26 => ⟨S8x8192x512, .f32⟩
  | 27 => ⟨S8x8192x512, .f32⟩
  | 28 => ⟨S1x512x3, .f32⟩
  | 29 => ⟨S512x3, .f32⟩
  | 30 => ⟨S8x8192x512, .f32⟩
  | 31 => ⟨S_, .i32⟩
  | 32 => ⟨S_, .f32⟩
  | 33 => ⟨S8x8194x512, .f32⟩
  | 34 => ⟨S8x8192x512, .f32⟩
  | 35 => ⟨S512x1, .f32⟩
  | 36 => ⟨S512, .f32⟩
  | 37 => ⟨S1x1x512, .f32⟩
  | 38 => ⟨S8x8192x512, .f32⟩
  | 39 => ⟨S8x8192x512, .f32⟩
  | 40 => ⟨S8x8192x512, .f32⟩
  | 41 => ⟨S512x1, .f32⟩
  | 42 => ⟨S512, .f32⟩
  | 43 => ⟨S1x1x512, .f32⟩
  | 44 => ⟨S8x8192x512, .f32⟩
  | 45 => ⟨S8x8192x512, .f32⟩
  | 46 => ⟨S8x8192x512, .f32⟩
  | 47 => ⟨S8x8192x512, .f32⟩
  | 48 => ⟨S512x1, .f32⟩
  | 49 => ⟨S512, .f32⟩
  | 50 => ⟨S1x1x512, .f32⟩
  | 51 => ⟨S8x8192x512, .f32⟩
  | 52 => ⟨S8x8192x512, .f32⟩
  | 53 => ⟨S8x8192x512, .f32⟩
  | 54 => ⟨S8x8192x512, .f32⟩
  | 55 => ⟨S8x8192x512, .f32⟩
  | 56 => ⟨S8x8192x512, .f32⟩
  | 57 => ⟨S_, .f32⟩
  | 58 => ⟨S8x8192x512, .f32⟩
  | 59 => ⟨S8x8192x512, .f32⟩
  | 60 => ⟨S_, .f32⟩
  | 61 => ⟨S8x8192x512, .f32⟩
  | 62 => ⟨S8x8192x512, .f32⟩
  | 63 => ⟨S8x8192x512, .f32⟩
  | 64 => ⟨S8x8192x512, .f32⟩
  | 65 => ⟨S8x8192x1024, .f32⟩
  | 66 => ⟨S1x1024x1024, .f32⟩
  | 67 => ⟨S1024x1024, .f32⟩
  | 68 => ⟨S8x8192x1024, .f32⟩
  | 69 => ⟨S8x8192x1024, .f32⟩
  | 70 => ⟨S1x1024, .f32⟩
  | 71 => ⟨S1024, .f32⟩
  | 72 => ⟨S8x8192x1024, .f32⟩
  | 73 => ⟨S_, .f32⟩
  | 74 => ⟨S8x8192, .f32⟩
  | 75 => ⟨S8x8192x1, .f32⟩
  | 76 => ⟨S_, .f32⟩
  | 77 => ⟨S8x8192x1, .f32⟩
  | 78 => ⟨S8x8192x1, .f32⟩
  | 79 => ⟨S_, .f32⟩
  | 80 => ⟨S8x8192x1, .f32⟩
  | 81 => ⟨S8x8192x1, .f32⟩
  | 82 => ⟨S8x8192x1, .f32⟩
  | 83 => ⟨S8x8192x1024, .f32⟩
  | 84 => ⟨S8x8192x1024, .f32⟩
  | 85 => ⟨S1x1x1024, .f32⟩
  | 86 => ⟨S8x8192x1024, .f32⟩
  | 87 => ⟨S8x8192x1024, .f32⟩
  | 88 => ⟨S1x1024x1024, .f32⟩
  | 89 => ⟨S1024x1024, .f32⟩
  | 90 => ⟨S8x8192x1024, .f32⟩
  | 91 => ⟨S8x8192x1024, .f32⟩
  | 92 => ⟨S8x8192x1024, .f32⟩
  | 93 => ⟨S_, .f32⟩
  | 94 => ⟨S8x8192x1024, .f32⟩
  | 95 => ⟨S8x8192x1024, .f32⟩
  | 96 => ⟨S_, .f32⟩
  | 97 => ⟨S8x8192x1024, .f32⟩
  | 98 => ⟨S8x8192x1024, .f32⟩
  | 99 => ⟨S1x8x8192x256, .f32⟩
  | 100 => ⟨S8x8192x256, .f32⟩
  | 101 => ⟨S1x256x1024, .f32⟩
  | 102 => ⟨S256x1024, .f32⟩
  | 103 => ⟨S8x8192x1024, .f32⟩
  | 104 => ⟨S8x8192x1024, .f32⟩
  | 105 => ⟨S8x8192x1024, .f32⟩
  | 106 => ⟨S8x8192x1024, .f32⟩
  | 107 => ⟨S_, .f32⟩
  | 108 => ⟨S8x8192, .f32⟩
  | 109 => ⟨S8x8192x1, .f32⟩
  | 110 => ⟨S_, .f32⟩
  | 111 => ⟨S8x8192x1, .f32⟩
  | 112 => ⟨S8x8192x1, .f32⟩
  | 113 => ⟨S_, .f32⟩
  | 114 => ⟨S8x8192x1, .f32⟩
  | 115 => ⟨S8x8192x1, .f32⟩
  | 116 => ⟨S8x8192x1, .f32⟩
  | 117 => ⟨S8x8192x1024, .f32⟩
  | 118 => ⟨S8x8192x1024, .f32⟩
  | 119 => ⟨S1x1x1024, .f32⟩
  | 120 => ⟨S8x8192x1024, .f32⟩
  | 121 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c : Ref sig .tc := ⟨.hbm, 113, rfl⟩
abbrev main_call2_v0 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_call3_v0 : Ref sig .tc := ⟨.hbm, 137, rfl⟩
abbrev main_call3_v1 : Ref sig .tc := ⟨.hbm, 138, rfl⟩
abbrev main_call3_cst : Ref sig .tc := ⟨.hbm, 139, rfl⟩
abbrev main_call3_v2 : Ref sig .tc := ⟨.hbm, 140, rfl⟩
abbrev main_call3_v3 : Ref sig .tc := ⟨.hbm, 141, rfl⟩
abbrev main_call3_cst_0 : Ref sig .tc := ⟨.hbm, 142, rfl⟩
abbrev main_call3_v4 : Ref sig .tc := ⟨.hbm, 143, rfl⟩
abbrev main_call3_v5 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_8 : Ref sig .tc := ⟨.hbm, 155, rfl⟩
abbrev main_v106 : Ref sig .tc := ⟨.hbm, 156, rfl⟩
abbrev main_v107 : Ref sig .tc := ⟨.hbm, 157, rfl⟩
abbrev main_cst_9 : Ref sig .tc := ⟨.hbm, 158, rfl⟩
abbrev main_v108 : Ref sig .tc := ⟨.hbm, 159, rfl⟩
abbrev main_v109 : Ref sig .tc := ⟨.hbm, 160, rfl⟩
abbrev main_cst_10 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_11 : Ref sig .tc := ⟨.hbm, 175, rfl⟩
abbrev main_v123 : Ref sig .tc := ⟨.hbm, 176, rfl⟩
abbrev main_v124 : Ref sig .tc := ⟨.hbm, 177, rfl⟩
abbrev main_cst_12 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_13 : Ref sig .tc := ⟨.hbm, 191, rfl⟩
abbrev main_v137 : Ref sig .tc := ⟨.hbm, 192, rfl⟩
abbrev main_v138 : Ref sig .tc := ⟨.hbm, 193, rfl⟩
abbrev main_cst_14 : Ref sig .tc := ⟨.hbm, 194, rfl⟩
abbrev main_v139 : Ref sig .tc := ⟨.hbm, 195, rfl⟩
abbrev main_v140 : Ref sig .tc := ⟨.hbm, 196, rfl⟩
abbrev main_cst_15 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_16 : Ref sig .tc := ⟨.hbm, 224, rfl⟩
abbrev main_v167 : Ref sig .tc := ⟨.hbm, 225, rfl⟩
abbrev main_v168 : Ref sig .tc := ⟨.hbm, 226, rfl⟩
abbrev main_cst_17 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_18 : Ref sig .tc := ⟨.hbm, 233, rfl⟩
abbrev main_v174 : Ref sig .tc := ⟨.hbm, 234, rfl⟩
abbrev main_v175 : Ref sig .tc := ⟨.hbm, 235, rfl⟩
abbrev main_cst_19 : Ref sig .tc := ⟨.hbm, 236, rfl⟩
abbrev main_v176 : Ref sig .tc := ⟨.hbm, 237, rfl⟩
abbrev main_v177 : Ref sig .tc := ⟨.hbm, 238, rfl⟩
abbrev main_cst_20 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_cst_21 : Ref sig .tc := ⟨.hbm, 252, rfl⟩
abbrev main_v190 : Ref sig .tc := ⟨.hbm, 253, rfl⟩
abbrev main_call4_v0 : Ref sig .tc := ⟨.hbm, 254, rfl⟩
abbrev main_call4_c : Ref sig .tc := ⟨.hbm, 255, rfl⟩
abbrev main_call4_v1 : Ref sig .tc := ⟨.hbm, 256, rfl⟩
abbrev main_call4_v2 : Ref sig .tc := ⟨.hbm, 257, rfl⟩
abbrev main_call4_v3 : Ref sig .tc := ⟨.hbm, 258, rfl⟩
abbrev main_call4_v4 : Ref sig .tc := ⟨.hbm, 259, rfl⟩
abbrev main_call4_cst : Ref sig .tc := ⟨.hbm, 260, rfl⟩
abbrev main_call4_v5 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_call5_v0 : Ref sig .tc := ⟨.hbm, 274, rfl⟩
abbrev main_call5_v1 : Ref sig .tc := ⟨.hbm, 275, rfl⟩
abbrev main_call5_cst : Ref sig .tc := ⟨.hbm, 276, rfl⟩
abbrev main_call5_v2 : Ref sig .tc := ⟨.hbm, 277, rfl⟩
abbrev main_call5_v3 : Ref sig .tc := ⟨.hbm, 278, rfl⟩
abbrev main_call5_cst_0 : Ref sig .tc := ⟨.hbm, 279, rfl⟩
abbrev main_call5_v4 : Ref sig .tc := ⟨.hbm, 280, rfl⟩
abbrev main_call5_v5 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_c_22 : Ref sig .tc := ⟨.hbm, 287, rfl⟩
abbrev main_call6_v0 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_call7_v0 : Ref sig .tc := ⟨.hbm, 311, rfl⟩
abbrev main_call7_v1 : Ref sig .tc := ⟨.hbm, 312, rfl⟩
abbrev main_call7_cst : Ref sig .tc := ⟨.hbm, 313, rfl⟩
abbrev main_call7_v2 : Ref sig .tc := ⟨.hbm, 314, rfl⟩
abbrev main_call7_v3 : Ref sig .tc := ⟨.hbm, 315, rfl⟩
abbrev main_call7_cst_0 : Ref sig .tc := ⟨.hbm, 316, rfl⟩
abbrev main_call7_v4 : Ref sig .tc := ⟨.hbm, 317, rfl⟩
abbrev main_call7_v5 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_cst_23 : Ref sig .tc := ⟨.hbm, 329, rfl⟩
abbrev main_v240 : Ref sig .tc := ⟨.hbm, 330, rfl⟩
abbrev main_v241 : Ref sig .tc := ⟨.hbm, 331, rfl⟩
abbrev main_cst_24 : Ref sig .tc := ⟨.hbm, 332, rfl⟩
abbrev main_v242 : Ref sig .tc := ⟨.hbm, 333, rfl⟩
abbrev main_v243 : Ref sig .tc := ⟨.hbm, 334, rfl⟩
abbrev main_cst_25 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_cst_26 : Ref sig .tc := ⟨.hbm, 349, rfl⟩
abbrev main_v257 : Ref sig .tc := ⟨.hbm, 350, rfl⟩
abbrev main_v258 : Ref sig .tc := ⟨.hbm, 351, rfl⟩
abbrev main_cst_27 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_cst_28 : Ref sig .tc := ⟨.hbm, 363, rfl⟩
abbrev main_v269 : Ref sig .tc := ⟨.hbm, 364, rfl⟩
abbrev main_v270 : Ref sig .tc := ⟨.hbm, 365, rfl⟩
abbrev main_cst_29 : Ref sig .tc := ⟨.hbm, 366, rfl⟩
abbrev main_v271 : Ref sig .tc := ⟨.hbm, 367, rfl⟩
abbrev main_v272 : Ref sig .tc := ⟨.hbm, 368, rfl⟩
abbrev main_cst_30 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩

abbrev nD : Nat := 1
abbrev τ : Topo := Topo.v7x

variable {F : FTy → Type} [FloatOps F]
-- ==== Proof.Run0.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

set_option maxRecDepth 16384

noncomputable section

namespace Cert.KernelIdeal.L0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x256x3584 .f32) (harg2 : arg2.IsWhole)
  (arg3 : Memref sig .tc .vmem S1x256x1024 .f32) (harg3 : arg3.IsWhole)
  (arg4 : Memref sig .tc .vmem S1x256x1024 .f32) (harg4 : arg4.IsWhole)
  (arg5 : Memref sig .tc .vmem S1x64x1024 .f32) (harg5 : arg5.IsWhole)
  (arg6 : Memref sig .tc .vmem S1x256x3584 .bf16) (harg6 : arg6.IsWhole)
  (arg7 : Memref sig .tc .vmem S1x256x1024 .bf16) (harg7 : arg7.IsWhole)
  (arg8 : Memref sig .tc .vmem S1x256x1024 .bf16) (harg8 : arg8.IsWhole)
  (arg9 : Memref sig .tc .vmem S1x64x1024 .bf16) (harg9 : arg9.IsWhole)
  (x0 : Vec F S1x256x3584 .f32) (x1 : Vec F S1x256x1024 .f32) (x2 : Vec F S1x256x1024 .f32) (x3 : Vec F S1x64x1024 .f32)

set_option maxHeartbeats 4000000 in
/-- The weight preparation's body run at any point: the pieces stored into the four output blocks, with the proof that the body,
    from the inputs at `x·`, reaches any continuation holding the inputs as they were and those pieces written. -/
def run :
    Σ' (L4 : List (View.Piece (Elt F) S1x256x3584 .bf16)) (L5 : List (View.Piece (Elt F) S1x256x1024 .bf16)) (L6 : List (View.Piece (Elt F) S1x256x1024 .bf16)),
      { L7 : List (View.Piece (Elt F) S1x64x1024 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_trunk_weight_prep i arg2 harg2 arg3 harg3 arg4 harg4 arg5 harg5 arg6 harg6 arg7 harg7 arg8 harg8 arg9 harg9) K } := by
  refine ⟨?_, ?_, ?_, ?_, fun E K => ?run⟩
  case run =>
    simp only [cc0_trunk_weight_prep_eq_skeleton]; unfold cc0_trunk_weight_prep_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

end Cert.KernelIdeal.L0
-- ==== Proof.Blk0.lean ====
module

public import proofs.«01_k».proof.Proof.Run0
public import Idealize.ShloMosaic.Lib.Pipeline.FrameBody

/-! # The weight preparation's body: what its stores hold -/

@[expose] public section

set_option maxRecDepth 65536

noncomputable section

namespace Cert.KernelIdeal.L0

open Cert.KernelIdeal Cert.KernelIdeal.Gen
open Idealize.ShloMosaic Idealize.ShloMosaic.TcCoe

variable {F : FTy → Type} [FloatOps F]

/-- A block of 128 columns, rounded. -/
def blk (v : Vec F S1x256x128 .f32) : FVec F S1x256x128 .bf16 :=
  shapeCast S1x256x128 (truncf .bf16 (shapeCast S256x128 v shapeCasts_S1x256x128_S256x128) bitsLt_bf16_f32) shapeCasts_S256x128_S1x256x128

/-- A block of 1024 columns, rounded. -/
def sqr (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024

/-- The embedding projection's block, rounded. -/
def pro (v : Vec F S1x64x1024 .f32) : FVec F S1x64x1024 .bf16 :=
  shapeCast S1x64x1024 (truncf .bf16 (shapeCast S64x1024 v shapeCasts_S1x64x1024_S64x1024) bitsLt_bf16_f32) shapeCasts_S64x1024_S1x64x1024

/-- The pieces of the projection weight's block: its blocks of 128 columns in another order. -/
def colL (x0 : Vec F S1x256x3584 .f32) : List (View.Piece (Elt F) S1x256x3584 .bf16) :=
  [⟨Rect.unit (s := S1x256x3584) ![0, 0, 3456] S1x256x128.size inb_S1x256x3584_S1x256x128_0_0_3456, blk (View.ld x0 (Rect.unit (s := S1x256x3584) ![0, 0, 3456] S1x256x128.size inb_S1x256x3584_S1x256x128_0_0_3456))⟩,
   ⟨Rect.unit (s := S1x256x3584) ![0, 0, 3328] S1x256x128.size inb_S1x256x3584_S1x256x128_0_0_3328, blk (View.ld x0 (Rect.unit (s := S1x256x3584) ![0, 0, 2944] S1x256x128.size inb_S1x256x3584_S1x256x128_0_0_2944))⟩,
   ⟨Rect.unit (s := S1x256x3584) ![0, 0, 3200] S1x256x128.size inb_S1x256x3584_S1x256x128_0_0_3200, blk (View.ld x0 (Rect.unit (s := S1x256x3584) ![0, 0, 2432] S1x256x128.size inb_S1x256x3584_S1x256x128_0_0_2432))⟩,
   ⟨Rect.unit (s := S1x256x3584) ![0, 0, 3072] S1x256x128.size inb_S1x256x3584_S1x256x128_0_0_3072, blk (View.ld x0 (Rect.unit (s := S1x256x3584) ![0, 0, 1920] S1x256x128.size inb_S1x256x3584_S1x256x128_0_0_1920))⟩,
   ⟨Rect.unit (s := S1x256x3584) ![0, 0, 2944] S1x256x128.size inb_S1x256x3584_S1x256x128_0_0_2944, blk (View.ld x0 (Rect.unit (s := S1x256x3584) ![0, 0, 3328] S1x256x128.size inb_S1x256x3584_S1x256x128_0_0_3328))⟩,
   ⟨Rect.unit (s := S1x256x3584) ![0, 0, 2816] S1x256x128.size inb_S1x256x3584_S1x256x128_0_0_2816, blk (View.ld x0 (Rect.unit (s := S1x256x3584) ![0, 0, 2816] S1x256x128.size inb_S1x256x3584_S1x256x128_0_0_2816))⟩,
   ⟨Rect.unit (s := S1x256x3584) ![0, 0, 2688] S1x256x128.size inb_S1x256x3584_S1x256x128_0_0_2688, blk (View.ld x0 (Rect.unit (s := S1x256x3584) ![0, 0, 2304] S1x256x128.size inb_S1x256x3584_S1x256x128_0_0_2304))⟩,
   ⟨Rect.unit (s := S1x256x3584) ![0, 0, 2560] S1x256x128.size inb_S1x256x3584_S1x256x128_0_0_2560, blk (View.ld x0 (Rect.unit (s := S1x256x3584) ![0, 0, 1792] S1x256x128.size inb_S1x256x3584_S1x256x128_0_0_1792))⟩,
   ⟨Rect.unit (s := S1x256x3584) ![0, 0, 2432] S1x256x128.size inb_S1x256x3584_S1x256x128_0_0_2432, blk (View.ld x0 (Rect.unit (s := S1x256x3584) ![0, 0, 3200] S1x256x128.size inb_S1x256x3584_S1x256x128_0_0_3200))⟩,
   ⟨Rect.unit (s := S1x256x3584) ![0, 0, 2304] S1x256x128.size inb_S1x256x3584_S1x256x128_0_0_2304, blk (View.ld x0 (Rect.unit (s := S1x256x3584) ![0, 0, 2688] S1x256x128.size inb_S1x256x3584_S1x256x128_0_0_2688))⟩,
   ⟨Rect.unit (s := S1x256x3584) ![0, 0, 2176] S1x256x128.size inb_S1x256x3584_S1x256x128_0_0_2176, blk (View.ld x0 (Rect.unit (s := S1x256x3584) ![0, 0, 2176] S1x256x128.size inb_S1x256x3584_S1x256x128_0_0_2176))⟩,
   ⟨Rect.unit (s := S1x256x3584) ![0, 0, 2048] S1x256x128.size inb_S1x256x3584_S1x256x128_0_0_2048, blk (View.ld x0 (Rect.unit (s := S1x256x3584) ![0, 0, 1664] S1x256x128.size inb_S1x256x3584_S1x256x128_0_0_1664))⟩,
   ⟨Rect.unit (s := S1x256x3584) ![0, 0, 1920] S1x256x128.size inb_S1x256x3584_S1x256x128_0_0_1920, blk (View.ld x0 (Rect.unit (s := S1x256x3584) ![0, 0, 3072] S1x256x128.size inb_S1x256x3584_S1x256x128_0_0_3072))⟩,
   ⟨Rect.unit (s := S1x256x3584) ![0, 0, 1792] S1x256x128.size inb_S1x256x3584_S1x256x128_0_0_1792, blk (View.ld x0 (Rect.unit (s := S1x256x3584) ![0, 0, 2560] S1x256x128.size inb_S1x256x3584_S1x256x128_0_0_2560))⟩,
   ⟨Rect.unit (s := S1x256x3584) ![0, 0, 1664] S1x256x128.size inb_S1x256x3584_S1x256x128_0_0_1664, blk (View.ld x0 (Rect.unit (s := S1x256x3584) ![0, 0, 2048] S1x256x128.size inb_S1x256x3584_S1x256x128_0_0_2048))⟩,
   ⟨Rect.unit (s := S1x256x3584) ![0, 0, 1536] S1x256x128.size inb_S1x256x3584_S1x256x128_0_0_1536, blk (View.ld x0 (Rect.unit (s := S1x256x3584) ![0, 0, 1536] S1x256x128.size inb_S1x256x3584_S1x256x128_0_0_1536))⟩,
   ⟨Rect.unit (s := S1x256x3584) ![0, 0, 1408] S1x256x128.size inb_S1x256x3584_S1x256x128_0_0_1408, blk (View.ld x0 (Rect.unit (s := S1x256x3584) ![0, 0, 1408] S1x256x128.size inb_S1x256x3584_S1x256x128_0_0_1408))⟩,
   ⟨Rect.unit (s := S1x256x3584) ![0, 0, 1280] S1x256x128.size inb_S1x256x3584_S1x256x128_0_0_1280, blk (View.ld x0 (Rect.unit (s := S1x256x3584) ![0, 0, 384] S1x256x128.size inb_S1x256x3584_S1x256x128_0_0_384))⟩,
   ⟨Rect.unit (s := S1x256x3584) ![0, 0, 1152] S1x256x128.size inb_S1x256x3584_S1x256x128_0_0_1152, blk (View.ld x0 (Rect.unit (s := S1x256x3584) ![0, 0, 1280] S1x256x128.size inb_S1x256x3584_S1x256x128_0_0_1280))⟩,
   ⟨Rect.unit (s := S1x256x3584) ![0, 0, 1024] S1x256x128.size inb_S1x256x3584_S1x256x128_0_0_1024, blk (View.ld x0 (Rect.unit (s := S1x256x3584) ![0, 0, 256] S1x256x128.size inb_S1x256x3584_S1x256x128_0_0_256))⟩,
   ⟨Rect.unit (s := S1x256x3584) ![0, 0, 896] S1x256x128.size inb_S1x256x3584_S1x256x128_0_0_896, blk (View.ld x0 (Rect.unit (s := S1x256x3584) ![0, 0, 1152] S1x256x128.size inb_S1x256x3584_S1x256x128_0_0_1152))⟩,
   ⟨Rect.unit (s := S1x256x3584) ![0, 0, 768] S1x256x128.size inb_S1x256x3584_S1x256x128_0_0_768, blk (View.ld x0 (Rect.unit (s := S1x256x3584) ![0, 0, 128] S1x256x128.size inb_S1x256x3584_S1x256x128_0_0_128))⟩,
   ⟨Rect.unit (s := S1x256x3584) ![0, 0, 640] S1x256x128.size inb_S1x256x3584_S1x256x128_0_0_640, blk (View.ld x0 (Rect.unit (s := S1x256x3584) ![0, 0, 1024] S1x256x128.size inb_S1x256x3584_S1x256x128_0_0_1024))⟩,
   ⟨Rect.unit (s := S1x256x3584) ![0, 0, 512] S1x256x128.size inb_S1x256x3584_S1x256x128_0_0_512, blk (View.ld x0 (Rect.unit (s := S1x256x3584) ![0, 0, 0] S1x256x128.size inb_S1x256x3584_S1x256x128_0_0_0))⟩,
   ⟨Rect.unit (s := S1x256x3584) ![0, 0, 384] S1x256x128.size inb_S1x256x3584_S1x256x128_0_0_384, blk (View.ld x0 (Rect.unit (s := S1x256x3584) ![0, 0, 896] S1x256x128.size inb_S1x256x3584_S1x256x128_0_0_896))⟩,
   ⟨Rect.unit (s := S1x256x3584) ![0, 0, 256] S1x256x128.size inb_S1x256x3584_S1x256x128_0_0_256, blk (View.ld x0 (Rect.unit (s := S1x256x3584) ![0, 0, 768] S1x256x128.size inb_S1x256x3584_S1x256x128_0_0_768))⟩,
   ⟨Rect.unit (s := S1x256x3584) ![0, 0, 128] S1x256x128.size inb_S1x256x3584_S1x256x128_0_0_128, blk (View.ld x0 (Rect.unit (s := S1x256x3584) ![0, 0, 640] S1x256x128.size inb_S1x256x3584_S1x256x128_0_0_640))⟩,
   ⟨Rect.unit (s := S1x256x3584) ![0, 0, 0] S1x256x128.size inb_S1x256x3584_S1x256x128_0_0_0, blk (View.ld x0 (Rect.unit (s := S1x256x3584) ![0, 0, 512] S1x256x128.size inb_S1x256x3584_S1x256x128_0_0_512))⟩]

/-- The one piece of a square weight's block. -/
def sqrL (x : Vec F S1x256x1024 .f32) : List (View.Piece (Elt F) S1x256x1024 .bf16) :=
  [⟨Rect.unit (s := S1x256x1024) ![0, 0, 0] S1x256x1024.size inb_S1x256x1024_S1x256x1024_0_0_0, sqr (View.ld x (Rect.unit (s := S1x256x1024) ![0, 0, 0] S1x256x1024.size inb_S1x256x1024_S1x256x1024_0_0_0))⟩]

/-- The one piece of the embedding projection's block. -/
def proL (x : Vec F S1x64x1024 .f32) : List (View.Piece (Elt F) S1x64x1024 .bf16) :=
  [⟨Rect.unit (s := S1x64x1024) ![0, 0, 0] S1x64x1024.size inb_S1x64x1024_S1x64x1024_0_0_0, pro (View.ld x (Rect.unit (s := S1x64x1024) ![0, 0, 0] S1x64x1024.size inb_S1x64x1024_S1x64x1024_0_0_0))⟩]

variable (c : Dev nD) (i : grid0.Coords)
  (arg2 : Memref sig .tc .vmem S1x256x3584 .f32) (harg2 : arg2.IsWhole)
  (arg3 : Memref sig .tc .vmem S1x256x1024 .f32) (harg3 : arg3.IsWhole)
  (arg4 : Memref sig .tc .vmem S1x256x1024 .f32) (harg4 : arg4.IsWhole)
  (arg5 : Memref sig .tc .vmem S1x64x1024 .f32) (harg5 : arg5.IsWhole)
  (arg6 : Memref sig .tc .vmem S1x256x3584 .bf16) (harg6 : arg6.IsWhole)
  (arg7 : Memref sig .tc .vmem S1x256x1024 .bf16) (harg7 : arg7.IsWhole)
  (arg8 : Memref sig .tc .vmem S1x256x1024 .bf16) (harg8 : arg8.IsWhole)
  (arg9 : Memref sig .tc .vmem S1x64x1024 .bf16) (harg9 : arg9.IsWhole)
  (x0 : Vec F S1x256x3584 .f32) (x1 : Vec F S1x256x1024 .f32) (x2 : Vec F S1x256x1024 .f32) (x3 : Vec F S1x64x1024 .f32)

set_option maxHeartbeats 4000000 in
/-- What the body stores for the projection weight. -/
theorem run_4 : (run c i arg2 harg2 arg3 harg3 arg4 harg4 arg5 harg5 arg6 harg6 arg7 harg7 arg8 harg8 arg9 harg9 x0 x1 x2 x3).1 = colL x0 := by
  unfold run
  dsimp only
  simp only [run.sl.r, run.sl.r_1, run.sl.r_2, run.sl.r_3, run.sl.r_4, View.readAt_eq_ld, Memref.IsWhole.read_unread]
  rfl

set_option maxHeartbeats 4000000 in
/-- What the body stores for the output weight. -/
theorem run_5 : (run c i arg2 harg2 arg3 harg3 arg4 harg4 arg5 harg5 arg6 harg6 arg7 harg7 arg8 harg8 arg9 harg9 x0 x1 x2 x3).2.1 = sqrL x1 := by
  unfold run
  dsimp only
  simp only [run.sl.r, run.sl.r_1, run.sl.r_2, run.sl.r_3, run.sl.r_4, View.readAt_eq_ld, Memref.IsWhole.read_unread]
  rfl

set_option maxHeartbeats 4000000 in
/-- What the body stores for the gate weight. -/
theorem run_6 : (run c i arg2 harg2 arg3 harg3 arg4 harg4 arg5 harg5 arg6 harg6 arg7 harg7 arg8 harg8 arg9 harg9 x0 x1 x2 x3).2.2.1 = sqrL x2 := by
  unfold run
  dsimp only
  simp only [run.sl.r, run.sl.r_1, run.sl.r_2, run.sl.r_3, run.sl.r_4, View.readAt_eq_ld, Memref.IsWhole.read_unread]
  rfl

set_option maxHeartbeats 4000000 in
/-- What the body stores for the embedding projection. -/
theorem run_7 : (run c i arg2 harg2 arg3 harg3 arg4 harg4 arg5 harg5 arg6 harg6 arg7 harg7 arg8 harg8 arg9 harg9 x0 x1 x2 x3).2.2.2.1 = proL x3 := by
  unfold run
  dsimp only
  simp only [run.sl.r, run.sl.r_1, run.sl.r_2, run.sl.r_3, run.sl.r_4, View.readAt_eq_ld, Memref.IsWhole.read_unread]
  rfl

end Cert.KernelIdeal.L0
-- ==== Proof.Reg0.lean ====
module

public import proofs.«01_k».proof.Proof.Blk0
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit.Basic

/-! # The weight preparation's region -/

@[expose] public section

set_option maxRecDepth 65536

noncomputable section

namespace Cert.KernelIdeal.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-- Window `w`'s block at point `t`, read off the array the region finds. -/
def iblk (w : Fin cfg0.W) (t : Fin cfg0.N) : ((cfg0.win w).xblock (cfg0.grid.coords t)).Idx → Elt F (cfg0.win w).elt :=
  ((cfg0.win w).blk t).view.read (Elt F) (V (Pipeline.arrRef spec0 w))

/-- Input window 0's block at a point, at its literal shape. -/
def in0 (t : Fin cfg0.N) : Vec F S1x256x3584 .f32 := iblk c V 0 t

/-- Input window 1's block at a point, at its literal shape. -/
def in1 (t : Fin cfg0.N) : Vec F S1x256x1024 .f32 := iblk c V 1 t

/-- Input window 2's block at a point, at its literal shape. -/
def in2 (t : Fin cfg0.N) : Vec F S1x256x1024 .f32 := iblk c V 2 t

/-- Input window 3's block at a point, at its literal shape. -/
def in3 (t : Fin cfg0.N) : Vec F S1x64x1024 .f32 := iblk c V 3 t

/-- What the body leaves in the block of output 4 at point `t`. -/
def out4 (t : Fin cfg0.N) : Vec F S1x256x3584 .bf16 := View.canon (colL (in0 c V t))

/-- What the body leaves in the block of output 5 at point `t`. -/
def out5 (t : Fin cfg0.N) : Vec F S1x256x1024 .bf16 := View.canon (sqrL (in1 c V t))

/-- What the body leaves in the block of output 6 at point `t`. -/
def out6 (t : Fin cfg0.N) : Vec F S1x256x1024 .bf16 := View.canon (sqrL (in2 c V t))

/-- What the body leaves in the block of output 7 at point `t`. -/
def out7 (t : Fin cfg0.N) : Vec F S1x64x1024 .bf16 := View.canon (proL (in3 c V t))

/-- The region's data: the arrays as the region finds them; after the body each input's block in place and each output's block at what the body stores. -/
def dat : Dat τ (Elt F) Unit ℕ (UR sig nD τ) ℕ cfg0 c where
  A w := V (Pipeline.arrRef spec0 w)
  after w t := match w with
    | ⟨0, _⟩ => iblk c V 0 t
    | ⟨1, _⟩ => iblk c V 1 t
    | ⟨2, _⟩ => iblk c V 2 t
    | ⟨3, _⟩ => iblk c V 3 t
    | ⟨4, _⟩ => out4 c V t
    | ⟨5, _⟩ => out5 c V t
    | ⟨6, _⟩ => out6 c V t
    | ⟨7, _⟩ => out7 c V t
  Φ _ := Pipeline.scopedRest (Ix := Unit) (Name := ℕ) (U := UR sig nD τ) (Lvl := ℕ) (Val := Elt F) spec0 c
  q _ := fullShare
  owed _ := 0

/-- The data's arrays are the contents the region finds. -/
theorem A_eq (w : Fin cfg0.W) : (dat c V).A w = V (Pipeline.arrRef spec0 w) := by dsimp only [dat]

/-- What the body leaves in window 0's buffer: its block. -/
theorem after_0 (t : Fin cfg0.N) : (dat c V).after 0 t = iblk c V 0 t := by dsimp only [dat]

/-- What the body leaves in window 1's buffer: its block. -/
theorem after_1 (t : Fin cfg0.N) : (dat c V).after 1 t = iblk c V 1 t := by dsimp only [dat]

/-- What the body leaves in window 2's buffer: its block. -/
theorem after_2 (t : Fin cfg0.N) : (dat c V).after 2 t = iblk c V 2 t := by dsimp only [dat]

/-- What the body leaves in window 3's buffer: its block. -/
theorem after_3 (t : Fin cfg0.N) : (dat c V).after 3 t = iblk c V 3 t := by dsimp only [dat]

/-- What the body leaves in window 4's buffer. -/
theorem after_4 (t : Fin cfg0.N) : (dat c V).after 4 t = out4 c V t := by dsimp only [dat]

/-- What the body leaves in window 5's buffer. -/
theorem after_5 (t : Fin cfg0.N) : (dat c V).after 5 t = out5 c V t := by dsimp only [dat]

/-- What the body leaves in window 6's buffer. -/
theorem after_6 (t : Fin cfg0.N) : (dat c V).after 6 t = out6 c V t := by dsimp only [dat]

/-- What the body leaves in window 7's buffer. -/
theorem after_7 (t : Fin cfg0.N) : (dat c V).after 7 t = out7 c V t := by dsimp only [dat]

/-- Input window 0's buffer holds its block at every point, fetched there or not. -/
theorem before_0 (t : Fin cfg0.N) (d) : (dat c V).before 0 t d = in0 c V t :=
  ((dat c V).before_in_eq_fetched 0 rfl (fun _ => rfl) (fun _ _ _ => rfl) (fun t => by rw [after_0]; unfold Dat.blockOf iblk; rw [A_eq]; try rfl) t d).trans
    (by unfold in0 Dat.fetched Dat.blockOf iblk; rw [A_eq]; try rfl)

/-- Input window 1's buffer holds its block at every point, fetched there or not. -/
theorem before_1 (t : Fin cfg0.N) (d) : (dat c V).before 1 t d = in1 c V t :=
  ((dat c V).before_in_eq_fetched 1 rfl (fun _ => rfl) (fun _ _ _ => rfl) (fun t => by rw [after_1]; unfold Dat.blockOf iblk; rw [A_eq]; try rfl) t d).trans
    (by unfold in1 Dat.fetched Dat.blockOf iblk; rw [A_eq]; try rfl)

/-- Input window 2's buffer holds its block at every point, fetched there or not. -/
theorem before_2 (t : Fin cfg0.N) (d) : (dat c V).before 2 t d = in2 c V t :=
  ((dat c V).before_in_eq_fetched 2 rfl (fun _ => rfl) (fun _ _ _ => rfl) (fun t => by rw [after_2]; unfold Dat.blockOf iblk; rw [A_eq]; try rfl) t d).trans
    (by unfold in2 Dat.fetched Dat.blockOf iblk; rw [A_eq]; try rfl)

/-- Input window 3's buffer holds its block at every point, fetched there or not. -/
theorem before_3 (t : Fin cfg0.N) (d) : (dat c V).before 3 t d = in3 c V t :=
  ((dat c V).before_in_eq_fetched 3 rfl (fun _ => rfl) (fun _ _ _ => rfl) (fun t => by rw [after_3]; unfold Dat.blockOf iblk; rw [A_eq]; try rfl) t d).trans
    (by unfold in3 Dat.fetched Dat.blockOf iblk; rw [A_eq]; try rfl)

/-- The stored pieces cover the block, so it reads as they say. -/
theorem read_col (v : View sig .tc .vmem S1x256x3584 .bf16) (f) (L : List (View.Piece (Elt F) S1x256x3584 .bf16)) (x : Vec F S1x256x3584 .f32)
    (h : L = colL x) : v.read (Elt F) (v.writes (Elt F) f L) = View.canon (colL x) := by
  subst h
  exact View.read_writes_eq_canon _ _ _ (View.cover_of_tiledL (colL x) S1x256x128.size (by sl_kernel_rfl))

/-- The stored pieces cover the block, so it reads as they say. -/
theorem read_sqr (v : View sig .tc .vmem S1x256x1024 .bf16) (f) (L : List (View.Piece (Elt F) S1x256x1024 .bf16)) (x : Vec F S1x256x1024 .f32)
    (h : L = sqrL x) : v.read (Elt F) (v.writes (Elt F) f L) = View.canon (sqrL x) := by
  subst h
  exact View.read_writes_eq_canon _ _ _ (View.cover_of_tiledL (sqrL x) S1x256x1024.size (by sl_kernel_rfl))

/-- The stored pieces cover the block, so it reads as they say. -/
theorem read_pro (v : View sig .tc .vmem S1x64x1024 .bf16) (f) (L : List (View.Piece (Elt F) S1x64x1024 .bf16)) (x : Vec F S1x64x1024 .f32)
    (h : L = proL x) : v.read (Elt F) (v.writes (Elt F) f L) = View.canon (proL x) := by
  subst h
  exact View.read_writes_eq_canon _ _ _ (View.cover_of_tiledL (proL x) S1x64x1024.size (by sl_kernel_rfl))

/-- What the body is called with at point `t`. -/
def bodyPre (t : Fin cfg0.N) : sProp 𝕄 :=
  iprop((dat c V).Φ t.castSucc ∗ (dat c V).owesAt () t.castSucc
    ∗ (∃ d, owns (c : Thread nD τ) (st0_0 t) fullShare ((dat c V).before 0 t d))
    ∗ (∃ d, owns (c : Thread nD τ) (st0_1 t) fullShare ((dat c V).before 1 t d))
    ∗ (∃ d, owns (c : Thread nD τ) (st0_2 t) fullShare ((dat c V).before 2 t d))
    ∗ (∃ d, owns (c : Thread nD τ) (st0_3 t) fullShare ((dat c V).before 3 t d))
    ∗ (∃ d, owns (c : Thread nD τ) (st0_4 t) fullShare ((dat c V).before 4 t d))
    ∗ (∃ d, owns (c : Thread nD τ) (st0_5 t) fullShare ((dat c V).before 5 t d))
    ∗ (∃ d, owns (c : Thread nD τ) (st0_6 t) fullShare ((dat c V).before 6 t d))
    ∗ (∃ d, owns (c : Thread nD τ) (st0_7 t) fullShare ((dat c V).before 7 t d)))

/-- What the body returns at point `t`. -/
def bodyPost (t : Fin cfg0.N) : sProp 𝕄 :=
  iprop((dat c V).Φ t.succ ∗ (dat c V).owesAt () t.succ
    ∗ owns (c : Thread nD τ) (st0_0 t) fullShare ((dat c V).after 0 t)
    ∗ owns (c : Thread nD τ) (st0_1 t) fullShare ((dat c V).after 1 t)
    ∗ owns (c : Thread nD τ) (st0_2 t) fullShare ((dat c V).after 2 t)
    ∗ owns (c : Thread nD τ) (st0_3 t) fullShare ((dat c V).after 3 t)
    ∗ owns (c : Thread nD τ) (st0_4 t) fullShare ((dat c V).after 4 t)
    ∗ owns (c : Thread nD τ) (st0_5 t) fullShare ((dat c V).after 5 t)
    ∗ owns (c : Thread nD τ) (st0_6 t) fullShare ((dat c V).after 6 t)
    ∗ owns (c : Thread nD τ) (st0_7 t) fullShare ((dat c V).after 7 t))

set_option maxHeartbeats 12800000 in
/-- The body at any point: from the inputs' blocks it leaves the outputs' blocks as stated. -/
theorem sound_body (t : Fin cfg0.N) :
    bodyPre c V t ⊢ wp frame (wpE (defs₀ (F := F)) Variants.none c none) Set.univ (bodyAt0 t) (fun _ => bodyPost c V t) := by
  unfold bodyPre bodyPost bodyAt0
  simp only [before_0, before_1, before_2, before_3]
  rw [show (dat c V).owesAt () t.succ = (dat c V).owesAt () t.castSucc from rfl,
    after_0, after_1, after_2, after_3, after_4, after_5, after_6, after_7]
  rw [show (dat c V).Φ t.succ = (dat c V).Φ t.castSucc from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run c (grid0.coords t) _ _ _ _ _ _ _ _ _ _ _ _ _ _ _ _ (in0 c V t) (in1 c V t) (in2 c V t) (in3 c V t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HP]; · iexact HP
  isplitl [Ho]; · iexact Ho
  isplitl [H0]; · iexact H0
  isplitl [H1]; · iexact H1
  isplitl [H2]; · iexact H2
  isplitl [H3]; · iexact H3
  isplitl [H4]
  · unfold out4 owns; iexists _; isplitr
    swap; · iexact H4
    ipureintro; exact read_col _ _ _ _ (run_4 c _ _ _ _ _ _ _ _ _ _ _ _ _ _ _ _ _ (in0 c V t) (in1 c V t) (in2 c V t) (in3 c V t))
  isplitl [H5]
  · unfold out5 owns; iexists _; isplitr
    swap; · iexact H5
    ipureintro; exact read_sqr _ _ _ _ (run_5 c _ _ _ _ _ _ _ _ _ _ _ _ _ _ _ _ _ (in0 c V t) (in1 c V t) (in2 c V t) (in3 c V t))
  isplitl [H6]
  · unfold out6 owns; iexists _; isplitr
    swap; · iexact H6
    ipureintro; exact read_sqr _ _ _ _ (run_6 c _ _ _ _ _ _ _ _ _ _ _ _ _ _ _ _ _ (in0 c V t) (in1 c V t) (in2 c V t) (in3 c V t))
  unfold out7 owns; iexists _; isplitr
  swap; · iexact H7
  ipureintro; exact read_pro _ _ _ _ (run_7 c _ _ _ _ _ _ _ _ _ _ _ _ _ _ _ _ _ (in0 c V t) (in1 c V t) (in2 c V t) (in3 c V t))

/-- The body the table names at point `t`'s buffers. -/
theorem defs_row (t : Fin cfg0.N) : defs₀ (F := F) .tc cfg0.body (cfg0.bodyArgs t (cfg0.slots t)) = bodyAt0 t := by
  unfold defs₀; rw [Defs.onTc_tc]

/-- The body's triple at every point, as the region asks for it. -/
theorem body_obligation : BodyObligation (dat c V) (defs₀ (F := F)) Variants.none () Set.univ := fun t => by
  rw [bigSep_W0, bigSep_W0, defs_row]
  exact triple_restated (sound_body c V t) rfl .rfl fun _ => .rfl

end Cert.KernelIdeal.L0
-- ==== Proof.Run1.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

set_option maxRecDepth 16384

noncomputable section

namespace Cert.KernelIdeal.L1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition at grid point `i`: the sequence-tile coordinate is the first. -/
abbrev first (i : grid1.Coords) : Prop := (Scalar.cmpi .ne (Scalar.extui (Scalar.cmpi .eq (BitVec.ofNat 32 (i 1).val) 0#32)) 0#32) = 1#1

variable (c : Dev nD) (i : grid1.Coords)
  (arg2 : Memref sig .tc .vmem S1x1024x1024 .f32) (harg2 : arg2.IsWhole)
  (arg3 : Memref sig .tc .vmem S1x1x1024x256 .f32) (harg3 : arg3.IsWhole)
  (arg4 : Memref sig .tc .vmem S2x1024 .f32) (harg4 : arg4.IsWhole)
  (arg5 : Memref sig .tc .vmem S1x1024x3584 .bf16) (harg5 : arg5.IsWhole)
  (arg6 : Memref sig .tc .vmem S2x512 .f32) (harg6 : arg6.IsWhole)
  (arg7 : Memref sig .tc .vmem S2x512 .f32) (harg7 : arg7.IsWhole)
  (arg8 : Memref sig .tc .vmem S1x4x128x128 .f32) (harg8 : arg8.IsWhole)
  (arg9 : Memref sig .tc .vmem S1x128x512 .f32) (harg9 : arg9.IsWhole)
  (arg10 : Memref sig .tc .vmem S1x3x512 .f32) (harg10 : arg10.IsWhole)
  (arg11 : Memref sig .tc .vmem S1x1024x1024 .bf16) (harg11 : arg11.IsWhole)
  (arg12 : Memref sig .tc .vmem S2x1024 .f32) (harg12 : arg12.IsWhole)
  (arg13 : Memref sig .tc .vmem S1x1024x1024 .bf16) (harg13 : arg13.IsWhole)
  (arg14 : Memref sig .tc .vmem S1x256x1024 .bf16) (harg14 : arg14.IsWhole)
  (arg15 : Memref sig .tc .vmem S1x1024 .f32) (harg15 : arg15.IsWhole)
  (arg16 : Memref sig .tc .vmem S1x1024x1024 .f32) (harg16 : arg16.IsWhole)
  (arg17 : Memref sig .tc .vmem S8x512 .f32) (harg17 : arg17.IsWhole)
  (x0 : Vec F S1x1024x1024 .f32) (x1 : Vec F S1x1x1024x256 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32)

set_option maxHeartbeats 4000000 in
/-- The body run at a point that is the first of its sequence: the pieces stored into the output block and into the carried scratch,
    with the proof that the body, from the inputs at `x·`, reaches any continuation holding the inputs as they were and
    those pieces written. -/
def runA (hc : first i) :
    Σ' (L : List (View.Piece (Elt F) S1x1024x1024 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L) ∗ (∃ f, arg17.view.loc (c : Thread nD τ) ↦[arg17.view.set]{fullShare} arg17.view.writes (Elt F) f LS)) -∗ K ⟨⟩))
          ⊢ wp frame (wpE (defs₀ (F := F)) Variants.none c none) E (cc1_trunk_layer0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1_trunk_layer0_eq_skeleton]; unfold cc1_trunk_layer0_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds, %fs, -, HS⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; iexact HS

set_option maxHeartbeats 4000000 in
/-- The body run at a point that is not the first of its sequence: the pieces stored into the output block and into the carried scratch,
    with the proof that the body, from the inputs at `x·` and the scratch at `z`, reaches any continuation holding the inputs as they were and
    those pieces written. -/
def runB (hc : ¬ first i) (z : Vec F S8x512 .f32) :
    Σ' (L : List (View.Piece (Elt F) S1x1024x1024 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L) ∗ (∃ f, arg17.view.loc (c : Thread nD τ) ↦[arg17.view.set]{fullShare} arg17.view.writes (Elt F) f LS)) -∗ K ⟨⟩))
          ⊢ wp frame (wpE (defs₀ (F := F)) Variants.none c none) E (cc1_trunk_layer0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1_trunk_layer0_eq_skeleton]; unfold cc1_trunk_layer0_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs, %hfs, HS⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg17.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; iexact HS

end Cert.KernelIdeal.L1
-- ==== Proof.Tile.lean ====
module

public import proofs.«01_k».proof.Proof.Gen.KernelIdeal.Skeleton
public import Idealize.ShloMosaic.Lib.Pipeline.FrameBody

/-! # One sub-tile of a layer, as vector functions

A layer call treats a block of 1024 rows as four sub-tiles of 256 rows. Here is what one sub-tile computes, over any float values:
normalisation, projection, the two mixing branches, the output projection and the gated per-layer embedding. -/

@[expose] public section

set_option maxRecDepth 16384

noncomputable section

namespace Cert.KernelIdeal.Tile

open Cert.KernelIdeal Cert.KernelIdeal.Gen
open Idealize.ShloMosaic Idealize.ShloMosaic.TcCoe

variable {F : FTy → Type} [FloatOps F]

/-- Each row divided by its root mean square and scaled by `g`. -/
def rms (x : FVec F S256x1024 .f32) (g : Vec F S1x1024 .f32) : FVec F S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024))
    (broadcastTo S256x1024 g broadcasts_S1x1024_S256x1024)

/-- `rms` rounded to bf16. -/
def rmsb (x : FVec F S256x1024 .f32) (g : Vec F S1x1024 .f32) : FVec F S256x1024 .bf16 := truncf .bf16 (rms x g) bitsLt_bf16_f32

/-- Rows times 512 columns of the projection weight. -/
def proj (h : FVec F S256x1024 .bf16) (w : Vec F S1x1024x512 .bf16) : FVec F S256x512 .f32 :=
  matmul dot_S256x1024_S1024x512_S256x512_1_0_0_1_n_n none h (shapeCast S1024x512 w shapeCasts_S1x1024x512_S1024x512) (constant S256x512 .f32 0x00000000#32)

/-- A row's mean, as a column. -/
def mean (v : FVec F S256x512 .f32) : FVec F S256x1 .f32 :=
  divf (shapeCast S256x1 (multiReduction .add [1] S256 v 0x00000000#32 reduces_S256x512_S256 (.inl rfl) rfl) shapeCasts_S256_S256x1) (broadcast S256x1 (Scalar.ofBits .f32 0x44000000#32))

/-- Rows minus their means. -/
def centre (v : FVec F S256x512 .f32) : FVec F S256x512 .f32 := subf v (broadcastTo S256x512 (mean v) broadcasts_S256x1_S256x512)

/-- The layer normalisation of the gated branch's values, rounded to bf16. -/
def lnorm (v : FVec F S256x512 .f32) (g b : Vec F S1x512 .f32) : FVec F S256x512 .bf16 :=
  truncf .bf16 (addf (mulf (mulf (centre v) (broadcastTo S256x512 (rsqrt (addf (mean (mulf (centre v) (centre v))) (broadcast S256x1 (Scalar.ofBits .f32 0x358637BD#32)))) broadcasts_S256x1_S256x512))
    (broadcastTo S256x512 g broadcasts_S1x512_S256x512)) (broadcastTo S256x512 b broadcasts_S1x512_S256x512)) bitsLt_bf16_f32

/-- `z · σ(z)`. -/
def silu (z : FVec F S256x128 .f32) : FVec F S256x128 .f32 := mulf z (logistic z)

/-- The convolution's input: two column blocks of the projection, multiplied. -/
def xc (r : FVec F S256x512 .f32) : FVec F S256x128 .f32 :=
  mulf (extractStridedSlice S256x128 ![0, 256] r slices_S256x512_o0_256_S256x128) (extractStridedSlice S256x128 ![0, 0] r slices_S256x512_o0_0_S256x128)

/-- Rows moved down by `k`, the first ones filled from the last rows of the tail `t`. -/
def shift (k : BitVec 32) (x : FVec F S256x128 .f32) (t : FVec F S8x128 .f32) : FVec F S256x128 .f32 :=
  concatenate S256x128 0 [⟨S8x128, select (cmpi .slt (iota .tc S8x128 32 [0] iota_S8x128_d0_w32) (broadcast S8x128 k)) (dynamicRotate 0 k none t rotates_S8x128_d0)
      (extractStridedSlice S8x128 ![0, 0] (dynamicRotate 0 k none x rotates_S256x128_d0) slices_S256x128_o0_0_S8x128)⟩,
    ⟨S248x128, extractStridedSlice S248x128 ![8, 0] (dynamicRotate 0 k none x rotates_S256x128_d0) slices_S256x128_o8_0_S248x128⟩] concatenates_S8x128_S248x128_S256x128_d0

/-- A row of 128 convolution taps, on every row. -/
def tap (c : Vec F S1x1x128 .f32) : FVec F S256x128 .f32 := broadcastTo S256x128 (shapeCast S1x128 c shapeCasts_S1x1x128_S1x128) broadcasts_S1x128_S256x128

/-- The gated short convolution of one block of 128 channels. -/
def conv (r : FVec F S256x512 .f32) (t : FVec F S8x128 .f32) (c0 c1 c2 : Vec F S1x1x128 .f32) : FVec F S256x128 .bf16 :=
  truncf .bf16 (mulf (mulf (extractStridedSlice S256x128 ![0, 128] r slices_S256x512_o0_128_S256x128)
      (addf (addf (mulf (shift 2#32 (xc r) t) (tap c0)) (mulf (shift 1#32 (xc r) t) (tap c1))) (mulf (xc r) (tap c2))))
    (silu (extractStridedSlice S256x128 ![0, 384] r slices_S256x512_o0_384_S256x128))) bitsLt_bf16_f32

/-- The last 8 rows of a block's convolution input. -/
def last8 (r : FVec F S256x512 .f32) : FVec F S8x128 .f32 := extractStridedSlice S8x128 ![248, 0] (xc r) slices_S256x128_o248_0_S8x128

/-- Two heads' multiplicative gates `u · silu(z)`, the first of them. -/
def gateL (r : FVec F S256x512 .f32) : FVec F S256x128 .f32 :=
  mulf (extractStridedSlice S256x128 ![0, 0] r slices_S256x512_o0_0_S256x128) (silu (extractStridedSlice S256x128 ![0, 128] r slices_S256x512_o0_128_S256x128))

/-- The second of them. -/
def gateR (r : FVec F S256x512 .f32) : FVec F S256x128 .f32 :=
  mulf (extractStridedSlice S256x128 ![0, 256] r slices_S256x512_o0_256_S256x128) (silu (extractStridedSlice S256x128 ![0, 384] r slices_S256x512_o0_384_S256x128))

/-- Four blocks of 128 columns side by side. -/
def cat4 {e : FTy} (x y z w : FVec F S256x128 e) : FVec F S256x512 e :=
  concatenate S256x512 1 [⟨S256x128, x⟩, ⟨S256x128, y⟩, ⟨S256x128, z⟩, ⟨S256x128, w⟩] concatenates_S256x128_S256x128_S256x128_S256x128_S256x512_d1

/-- The four heads' gates. -/
def gate (h : FVec F S256x1024 .bf16) (wa wb : Vec F S1x1024x512 .bf16) : FVec F S256x512 .f32 :=
  cat4 (gateL (proj h wa)) (gateR (proj h wa)) (gateL (proj h wb)) (gateR (proj h wb))

/-- The lower triangle's mask. -/
def low : IVec S128x128 1 := cmpi .sge (iota .tc S128x128 32 [0] iota_S128x128_d0_w32) (iota .tc S128x128 32 [1] iota_S128x128_d1_w32)

/-- One head's spatial mixing: in each of the two chunks of 128 rows, the lower triangle of `w` times the chunk (`a`, `b`), plus the bias, times the gate. -/
def mix (a b : FVec F S128x128 .bf16) (w : Vec F S1x1x128x128 .f32) (c : Vec F S1x128x128 .f32) (g : FVec F S256x128 .f32) : FVec F S256x128 .bf16 :=
  let m : FVec F S128x256 .f32 := matmul dot_S128x128_S128x256_S128x256_1_0_0_1_n_n none
    (truncf .bf16 (select low (shapeCast S128x128 w shapeCasts_S1x1x128x128_S128x128) (broadcast S128x128 (Scalar.ofBits .f32 0x00000000#32))) bitsLt_bf16_f32)
    (concatenate S128x256 1 [⟨S128x128, a⟩, ⟨S128x128, b⟩] concatenates_S128x128_S128x128_S128x256_d1) (constant S128x256 .f32 0x00000000#32)
  truncf .bf16 (mulf g (addf
    (concatenate S256x128 0 [⟨S128x128, extractStridedSlice S128x128 ![0, 0] m slices_S128x256_o0_0_S128x128⟩, ⟨S128x128, extractStridedSlice S128x128 ![0, 128] m slices_S128x256_o0_128_S128x128⟩] concatenates_S128x128_S128x128_S256x128_d0)
    (concatenate S256x128 0 [⟨S128x128, shapeCast S128x128 c shapeCasts_S1x128x128_S128x128⟩, ⟨S128x128, shapeCast S128x128 c shapeCasts_S1x128x128_S128x128⟩] concatenates_S128x128_S128x128_S256x128_d0))) bitsLt_bf16_f32

/-- Head 0 of the spatial mixing, from the blocks. -/
def head0 (v : FVec F S256x512 .bf16) (g : FVec F S256x512 .f32) (ws : Vec F S1x4x128x128 .f32) (bs : Vec F S1x128x512 .f32) : FVec F S256x128 .bf16 :=
  mix (extractStridedSlice S128x128 ![0, 0] v slices_S256x512_o0_0_S128x128) (extractStridedSlice S128x128 ![128, 0] v slices_S256x512_o128_0_S128x128)
    (View.ld ws (Rect.unit (s := S1x4x128x128) ![0, 0, 0, 0] S1x1x128x128.size inb_S1x4x128x128_S1x1x128x128_0_0_0_0))
    (View.ld bs (Rect.unit (s := S1x128x512) ![0, 0, 0] S1x128x128.size inb_S1x128x512_S1x128x128_0_0_0))
    (extractStridedSlice S256x128 ![0, 0] g slices_S256x512_o0_0_S256x128)

/-- Head 1 of the spatial mixing, from the blocks. -/
def head1 (v : FVec F S256x512 .bf16) (g : FVec F S256x512 .f32) (ws : Vec F S1x4x128x128 .f32) (bs : Vec F S1x128x512 .f32) : FVec F S256x128 .bf16 :=
  mix (extractStridedSlice S128x128 ![0, 128] v slices_S256x512_o0_128_S128x128) (extractStridedSlice S128x128 ![128, 128] v slices_S256x512_o128_128_S128x128)
    (View.ld ws (Rect.unit (s := S1x4x128x128) ![0, 1, 0, 0] S1x1x128x128.size inb_S1x4x128x128_S1x1x128x128_0_1_0_0))
    (View.ld bs (Rect.unit (s := S1x128x512) ![0, 0, 128] S1x128x128.size inb_S1x128x512_S1x128x128_0_0_128))
    (extractStridedSlice S256x128 ![0, 128] g slices_S256x512_o0_128_S256x128)

/-- Head 2 of the spatial mixing, from the blocks. -/
def head2 (v : FVec F S256x512 .bf16) (g : FVec F S256x512 .f32) (ws : Vec F S1x4x128x128 .f32) (bs : Vec F S1x128x512 .f32) : FVec F S256x128 .bf16 :=
  mix (extractStridedSlice S128x128 ![0, 256] v slices_S256x512_o0_256_S128x128) (extractStridedSlice S128x128 ![128, 256] v slices_S256x512_o128_256_S128x128)
    (View.ld ws (Rect.unit (s := S1x4x128x128) ![0, 2, 0, 0] S1x1x128x128.size inb_S1x4x128x128_S1x1x128x128_0_2_0_0))
    (View.ld bs (Rect.unit (s := S1x128x512) ![0, 0, 256] S1x128x128.size inb_S1x128x512_S1x128x128_0_0_256))
    (extractStridedSlice S256x128 ![0, 256] g slices_S256x512_o0_256_S256x128)

/-- Head 3 of the spatial mixing, from the blocks. -/
def head3 (v : FVec F S256x512 .bf16) (g : FVec F S256x512 .f32) (ws : Vec F S1x4x128x128 .f32) (bs : Vec F S1x128x512 .f32) : FVec F S256x128 .bf16 :=
  mix (extractStridedSlice S128x128 ![0, 384] v slices_S256x512_o0_384_S128x128) (extractStridedSlice S128x128 ![128, 384] v slices_S256x512_o128_384_S128x128)
    (View.ld ws (Rect.unit (s := S1x4x128x128) ![0, 3, 0, 0] S1x1x128x128.size inb_S1x4x128x128_S1x1x128x128_0_3_0_0))
    (View.ld bs (Rect.unit (s := S1x128x512) ![0, 0, 384] S1x128x128.size inb_S1x128x512_S1x128x128_0_0_384))
    (extractStridedSlice S256x128 ![0, 384] g slices_S256x512_o0_384_S256x128)

/-- The spatial branch's output. -/
def spatial (v : FVec F S256x512 .bf16) (g : FVec F S256x512 .f32) (ws : Vec F S1x4x128x128 .f32) (bs : Vec F S1x128x512 .f32) : FVec F S256x512 .bf16 :=
  cat4 (head0 v g ws bs) (head1 v g ws bs) (head2 v g ws bs) (head3 v g ws bs)

/-- The weight's columns 0 to 511. -/
def cols0 (w : Vec F S1x1024x3584 .bf16) : Vec F S1x1024x512 .bf16 := View.ld w (Rect.unit (s := S1x1024x3584) ![0, 0, 0] S1x1024x512.size inb_S1x1024x3584_S1x1024x512_0_0_0)

/-- The weight's columns 512 to 1023. -/
def cols512 (w : Vec F S1x1024x3584 .bf16) : Vec F S1x1024x512 .bf16 := View.ld w (Rect.unit (s := S1x1024x3584) ![0, 0, 512] S1x1024x512.size inb_S1x1024x3584_S1x1024x512_0_0_512)

/-- The weight's columns 1024 to 1535. -/
def cols1024 (w : Vec F S1x1024x3584 .bf16) : Vec F S1x1024x512 .bf16 := View.ld w (Rect.unit (s := S1x1024x3584) ![0, 0, 1024] S1x1024x512.size inb_S1x1024x3584_S1x1024x512_0_0_1024)

/-- The weight's columns 1536 to 2047. -/
def cols1536 (w : Vec F S1x1024x3584 .bf16) : Vec F S1x1024x512 .bf16 := View.ld w (Rect.unit (s := S1x1024x3584) ![0, 0, 1536] S1x1024x512.size inb_S1x1024x3584_S1x1024x512_0_0_1536)

/-- The weight's columns 2048 to 2559. -/
def cols2048 (w : Vec F S1x1024x3584 .bf16) : Vec F S1x1024x512 .bf16 := View.ld w (Rect.unit (s := S1x1024x3584) ![0, 0, 2048] S1x1024x512.size inb_S1x1024x3584_S1x1024x512_0_0_2048)

/-- The weight's columns 2560 to 3071. -/
def cols2560 (w : Vec F S1x1024x3584 .bf16) : Vec F S1x1024x512 .bf16 := View.ld w (Rect.unit (s := S1x1024x3584) ![0, 0, 2560] S1x1024x512.size inb_S1x1024x3584_S1x1024x512_0_0_2560)

/-- The weight's columns 3072 to 3583. -/
def cols3072 (w : Vec F S1x1024x3584 .bf16) : Vec F S1x1024x512 .bf16 := View.ld w (Rect.unit (s := S1x1024x3584) ![0, 0, 3072] S1x1024x512.size inb_S1x1024x3584_S1x1024x512_0_0_3072)

/-- Convolution channels 0 to 127. -/
def conv0 (h : FVec F S256x1024 .bf16) (w : Vec F S1x1024x3584 .bf16) (t : FVec F S8x512 .f32) (cw : Vec F S1x3x512 .f32) : FVec F S256x128 .bf16 :=
  conv (proj h (cols1536 w)) (extractStridedSlice S8x128 ![0, 0] t slices_S8x512_o0_0_S8x128)
    (View.ld cw (Rect.unit (s := S1x3x512) ![0, 0, 0] S1x1x128.size inb_S1x3x512_S1x1x128_0_0_0))
    (View.ld cw (Rect.unit (s := S1x3x512) ![0, 1, 0] S1x1x128.size inb_S1x3x512_S1x1x128_0_1_0))
    (View.ld cw (Rect.unit (s := S1x3x512) ![0, 2, 0] S1x1x128.size inb_S1x3x512_S1x1x128_0_2_0))

/-- Convolution channels 128 to 255. -/
def conv1 (h : FVec F S256x1024 .bf16) (w : Vec F S1x1024x3584 .bf16) (t : FVec F S8x512 .f32) (cw : Vec F S1x3x512 .f32) : FVec F S256x128 .bf16 :=
  conv (proj h (cols2048 w)) (extractStridedSlice S8x128 ![0, 128] t slices_S8x512_o0_128_S8x128)
    (View.ld cw (Rect.unit (s := S1x3x512) ![0, 0, 128] S1x1x128.size inb_S1x3x512_S1x1x128_0_0_128))
    (View.ld cw (Rect.unit (s := S1x3x512) ![0, 1, 128] S1x1x128.size inb_S1x3x512_S1x1x128_0_1_128))
    (View.ld cw (Rect.unit (s := S1x3x512) ![0, 2, 128] S1x1x128.size inb_S1x3x512_S1x1x128_0_2_128))

/-- Convolution channels 256 to 383. -/
def conv2 (h : FVec F S256x1024 .bf16) (w : Vec F S1x1024x3584 .bf16) (t : FVec F S8x512 .f32) (cw : Vec F S1x3x512 .f32) : FVec F S256x128 .bf16 :=
  conv (proj h (cols2560 w)) (extractStridedSlice S8x128 ![0, 256] t slices_S8x512_o0_256_S8x128)
    (View.ld cw (Rect.unit (s := S1x3x512) ![0, 0, 256] S1x1x128.size inb_S1x3x512_S1x1x128_0_0_256))
    (View.ld cw (Rect.unit (s := S1x3x512) ![0, 1, 256] S1x1x128.size inb_S1x3x512_S1x1x128_0_1_256))
    (View.ld cw (Rect.unit (s := S1x3x512) ![0, 2, 256] S1x1x128.size inb_S1x3x512_S1x1x128_0_2_256))

/-- Convolution channels 384 to 511. -/
def conv3 (h : FVec F S256x1024 .bf16) (w : Vec F S1x1024x3584 .bf16) (t : FVec F S8x512 .f32) (cw : Vec F S1x3x512 .f32) : FVec F S256x128 .bf16 :=
  conv (proj h (cols3072 w)) (extractStridedSlice S8x128 ![0, 384] t slices_S8x512_o0_384_S8x128)
    (View.ld cw (Rect.unit (s := S1x3x512) ![0, 0, 384] S1x1x128.size inb_S1x3x512_S1x1x128_0_0_384))
    (View.ld cw (Rect.unit (s := S1x3x512) ![0, 1, 384] S1x1x128.size inb_S1x3x512_S1x1x128_0_1_384))
    (View.ld cw (Rect.unit (s := S1x3x512) ![0, 2, 384] S1x1x128.size inb_S1x3x512_S1x1x128_0_2_384))

/-- The convolution branch's output. -/
def convs (h : FVec F S256x1024 .bf16) (w : Vec F S1x1024x3584 .bf16) (t : FVec F S8x512 .f32) (cw : Vec F S1x3x512 .f32) : FVec F S256x512 .bf16 :=
  cat4 (conv0 h w t cw) (conv1 h w t cw) (conv2 h w t cw) (conv3 h w t cw)

/-- The last 8 rows of the convolution's input, carried to the next sub-tile. -/
def tail (h : FVec F S256x1024 .bf16) (w : Vec F S1x1024x3584 .bf16) : FVec F S8x512 .f32 :=
  concatenate S8x512 1 [⟨S8x128, last8 (proj h (cols1536 w))⟩, ⟨S8x128, last8 (proj h (cols2048 w))⟩, ⟨S8x128, last8 (proj h (cols2560 w))⟩, ⟨S8x128, last8 (proj h (cols3072 w))⟩] concatenates_S8x128_S8x128_S8x128_S8x128_S8x512_d1

/-- The residual plus the two branches' outputs through the output weight. -/
def outp (x : FVec F S256x1024 .f32) (a b : FVec F S256x512 .bf16) (w : Vec F S1x1024x1024 .bf16) : FVec F S256x1024 .f32 :=
  addf x (matmul dot_S256x1024_S1024x1024_S256x1024_1_0_0_1_n_n none (concatenate S256x1024 1 [⟨S256x512, a⟩, ⟨S256x512, b⟩] concatenates_S256x512_S256x512_S256x1024_d1)
    (shapeCast S1024x1024 w shapeCasts_S1x1024x1024_S1024x1024) (constant S256x1024 .f32 0x00000000#32))

/-- The per-layer embedding through its projection. -/
def emb (p : Vec F S1x1x256x256 .f32) (w : Vec F S1x256x1024 .bf16) : FVec F S256x1024 .f32 :=
  matmul dot_S256x256_S256x1024_S256x1024_1_0_0_1_n_n none (truncf .bf16 (shapeCast S256x256 p shapeCasts_S1x1x256x256_S256x256) bitsLt_bf16_f32)
    (shapeCast S256x1024 w shapeCasts_S1x256x1024_S256x1024) (constant S256x1024 .f32 0x00000000#32)

/-- The rows plus the gated embedding. -/
def gated (x1 : FVec F S256x1024 .f32) (pg : Vec F S1x1024 .f32) (wg : Vec F S1x1024x1024 .bf16) (pe : FVec F S256x1024 .f32) : FVec F S256x1024 .f32 :=
  addf x1 (mulf (logistic (matmul dot_S256x1024_S1024x1024_S256x1024_1_0_0_1_n_n none (rmsb x1 pg) (shapeCast S1024x1024 wg shapeCasts_S1x1024x1024_S1024x1024) (constant S256x1024 .f32 0x00000000#32))) pe)

/-- The sub-tile's normalised rows, rounded. -/
def hn (x : Vec F S1x256x1024 .f32) (ng : Vec F S1x1024 .f32) : FVec F S256x1024 .bf16 := rmsb (shapeCast S256x1024 x shapeCasts_S1x256x1024_S256x1024) ng

/-- The sub-tile's rows after the mixing. -/
def mid (x : Vec F S1x256x1024 .f32) (ng : Vec F S1x1024 .f32) (w : Vec F S1x1024x3584 .bf16) (lg lb : Vec F S1x512 .f32) (ws : Vec F S1x4x128x128 .f32) (bs : Vec F S1x128x512 .f32)
    (cw : Vec F S1x3x512 .f32) (wo : Vec F S1x1024x1024 .bf16) (t : FVec F S8x512 .f32) : FVec F S256x1024 .f32 :=
  outp (shapeCast S256x1024 x shapeCasts_S1x256x1024_S256x1024)
    (spatial (lnorm (proj (hn x ng) (cols0 w)) lg lb) (gate (hn x ng) (cols512 w) (cols1024 w)) ws bs) (convs (hn x ng) w t cw) wo

/-- The sub-tile's rows after the layer. -/
def rows (x : Vec F S1x256x1024 .f32) (p : Vec F S1x1x256x256 .f32) (ng : Vec F S1x1024 .f32) (w : Vec F S1x1024x3584 .bf16) (lg lb : Vec F S1x512 .f32) (ws : Vec F S1x4x128x128 .f32) (bs : Vec F S1x128x512 .f32)
    (cw : Vec F S1x3x512 .f32) (wo : Vec F S1x1024x1024 .bf16) (pg : Vec F S1x1024 .f32) (wg : Vec F S1x1024x1024 .bf16) (wp : Vec F S1x256x1024 .bf16) (t : FVec F S8x512 .f32) : FVec F S256x1024 .f32 :=
  gated (mid x ng w lg lb ws bs cw wo t) pg wg (emb p wp)

/-! ## The block: four sub-tiles -/

/-- The rows 0 to 255 of a block. -/
def xrow0 (x : Vec F S1x1024x1024 .f32) : Vec F S1x256x1024 .f32 := View.ld x (Rect.unit (s := S1x1024x1024) ![0, 0, 0] S1x256x1024.size inb_S1x1024x1024_S1x256x1024_0_0_0)

/-- The same rows of the embedding block. -/
def prow0 (p : Vec F S1x1x1024x256 .f32) : Vec F S1x1x256x256 .f32 := View.ld p (Rect.unit (s := S1x1x1024x256) ![0, 0, 0, 0] S1x1x256x256.size inb_S1x1x1024x256_S1x1x256x256_0_0_0_0)

/-- The rows 256 to 511 of a block. -/
def xrow1 (x : Vec F S1x1024x1024 .f32) : Vec F S1x256x1024 .f32 := View.ld x (Rect.unit (s := S1x1024x1024) ![0, 256, 0] S1x256x1024.size inb_S1x1024x1024_S1x256x1024_0_256_0)

/-- The same rows of the embedding block. -/
def prow1 (p : Vec F S1x1x1024x256 .f32) : Vec F S1x1x256x256 .f32 := View.ld p (Rect.unit (s := S1x1x1024x256) ![0, 0, 256, 0] S1x1x256x256.size inb_S1x1x1024x256_S1x1x256x256_0_0_256_0)

/-- The rows 512 to 767 of a block. -/
def xrow2 (x : Vec F S1x1024x1024 .f32) : Vec F S1x256x1024 .f32 := View.ld x (Rect.unit (s := S1x1024x1024) ![0, 512, 0] S1x256x1024.size inb_S1x1024x1024_S1x256x1024_0_512_0)

/-- The same rows of the embedding block. -/
def prow2 (p : Vec F S1x1x1024x256 .f32) : Vec F S1x1x256x256 .f32 := View.ld p (Rect.unit (s := S1x1x1024x256) ![0, 0, 512, 0] S1x1x256x256.size inb_S1x1x1024x256_S1x1x256x256_0_0_512_0)

/-- The rows 768 to 1023 of a block. -/
def xrow3 (x : Vec F S1x1024x1024 .f32) : Vec F S1x256x1024 .f32 := View.ld x (Rect.unit (s := S1x1024x1024) ![0, 768, 0] S1x256x1024.size inb_S1x1024x1024_S1x256x1024_0_768_0)

/-- The same rows of the embedding block. -/
def prow3 (p : Vec F S1x1x1024x256 .f32) : Vec F S1x1x256x256 .f32 := View.ld p (Rect.unit (s := S1x1x1024x256) ![0, 0, 768, 0] S1x1x256x256.size inb_S1x1x1024x256_S1x1x256x256_0_0_768_0)

/-- Layer 0's row of a norm's scale. -/
def grow0 (g : Vec F S2x1024 .f32) : Vec F S1x1024 .f32 := View.ld g (Rect.unit (s := S2x1024) ![0, 0] S1x1024.size inb_S2x1024_S1x1024_0_0)

/-- Layer 0's row of the layer norm's scale or shift. -/
def lrow0 (g : Vec F S2x512 .f32) : Vec F S1x512 .f32 := View.ld g (Rect.unit (s := S2x512) ![0, 0] S1x512.size inb_S2x512_S1x512_0_0)

/-- Layer 1's row of a norm's scale. -/
def grow1 (g : Vec F S2x1024 .f32) : Vec F S1x1024 .f32 := View.ld g (Rect.unit (s := S2x1024) ![1, 0] S1x1024.size inb_S2x1024_S1x1024_1_0)

/-- Layer 1's row of the layer norm's scale or shift. -/
def lrow1 (g : Vec F S2x512 .f32) : Vec F S1x512 .f32 := View.ld g (Rect.unit (s := S2x512) ![1, 0] S1x512.size inb_S2x512_S1x512_1_0)

/-- A square weight, loaded whole. -/
def sq (w : Vec F S1x1024x1024 .bf16) : Vec F S1x1024x1024 .bf16 := View.ld w (Rect.unit (s := S1x1024x1024) ![0, 0, 0] S1x1024x1024.size inb_S1x1024x1024_S1x1024x1024_0_0_0)

/-- The embedding's projection, loaded whole. -/
def wide (w : Vec F S1x256x1024 .bf16) : Vec F S1x256x1024 .bf16 := View.ld w (Rect.unit (s := S1x256x1024) ![0, 0, 0] S1x256x1024.size inb_S1x256x1024_S1x256x1024_0_0_0)

/-- The carried scratch, loaded whole. -/
def scr (t : Vec F S8x512 .f32) : Vec F S8x512 .f32 := View.ld t (Rect.unit (s := S8x512) ![0, 0] S8x512.size inb_S8x512_S8x512_0_0)

/-- The last scale's row. -/
def frow (g : Vec F S1x1024 .f32) : Vec F S1x1024 .f32 := View.ld g (Rect.unit (s := S1x1024) ![0, 0] S1x1024.size inb_S1x1024_S1x1024_0_0)

/-- The last layer's closing normalisation. -/
def close (x : FVec F S256x1024 .f32) (g : Vec F S1x1024 .f32) : FVec F S256x1024 .f32 := rms x (shapeCast S1x1024 g shapeCasts_S1x1024_S1x1024)

/-- The tail as stored in the scratch: a shape cast onto its own shape. -/
def keep (t : FVec F S8x512 .f32) : FVec F S8x512 .f32 := shapeCast S8x512 t shapeCasts_S8x512_S8x512

/-- The tail before a sequence: zeros. -/
def zeros : FVec F S8x512 .f32 := broadcast S8x512 (Scalar.ofBits .f32 0x00000000#32)

/-- Rows as stored. -/
def put (x : FVec F S256x1024 .f32) : FVec F S1x256x1024 .f32 := shapeCast S1x256x1024 x shapeCasts_S256x1024_S1x256x1024

end Cert.KernelIdeal.Tile
-- ==== Proof.Blk1.lean ====
module

public import proofs.«01_k».proof.Proof.Run1
public import proofs.«01_k».proof.Proof.Tile

/-! # Layer 0's body: what its stores hold

The pieces the body's run stores, as the sub-tile's vector functions. -/

@[expose] public section

set_option maxRecDepth 65536

noncomputable section

namespace Cert.KernelIdeal.L1

open Cert.KernelIdeal Cert.KernelIdeal.Gen Cert.KernelIdeal.Tile
open Idealize.ShloMosaic Idealize.ShloMosaic.TcCoe

variable {F : FTy → Type} [FloatOps F]

/-- The tail that a sub-tile of rows `x` leaves. -/
def tl (x : Vec F S1x256x1024 .f32) (x2 : Vec F S2x1024 .f32) (x3 : Vec F S1x1024x3584 .bf16) : FVec F S8x512 .f32 := tail (hn x (grow0 x2)) x3

/-- A sub-tile's result from the rows `x`, the embedding's rows `p`, the tail `t` and the weight blocks. -/
def sub (x : Vec F S1x256x1024 .f32) (p : Vec F S1x1x256x256 .f32) (t : FVec F S8x512 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32) : FVec F S256x1024 .f32 :=
  rows x p (grow0 x2) x3 (lrow0 x4) (lrow0 x5) x6 x7 x8 (sq x9) (grow0 x10) (sq x11) (wide x12) t

/-- The pieces of the output block, when the block starts from the tail `t`. -/
def outL (t : FVec F S8x512 .f32) (x0 : Vec F S1x1024x1024 .f32) (x1 : Vec F S1x1x1024x256 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32) : List (View.Piece (Elt F) S1x1024x1024 .f32) :=
  [⟨Rect.unit (s := S1x1024x1024) ![0, 768, 0] S1x256x1024.size inb_S1x1024x1024_S1x256x1024_0_768_0, put (sub (xrow3 x0) (prow3 x1) (tl (xrow2 x0) x2 x3) x2 x3 x4 x5 x6 x7 x8 x9 x10 x11 x12 x13)⟩,
   ⟨Rect.unit (s := S1x1024x1024) ![0, 512, 0] S1x256x1024.size inb_S1x1024x1024_S1x256x1024_0_512_0, put (sub (xrow2 x0) (prow2 x1) (tl (xrow1 x0) x2 x3) x2 x3 x4 x5 x6 x7 x8 x9 x10 x11 x12 x13)⟩,
   ⟨Rect.unit (s := S1x1024x1024) ![0, 256, 0] S1x256x1024.size inb_S1x1024x1024_S1x256x1024_0_256_0, put (sub (xrow1 x0) (prow1 x1) (tl (xrow0 x0) x2 x3) x2 x3 x4 x5 x6 x7 x8 x9 x10 x11 x12 x13)⟩,
   ⟨Rect.unit (s := S1x1024x1024) ![0, 0, 0] S1x256x1024.size inb_S1x1024x1024_S1x256x1024_0_0_0, put (sub (xrow0 x0) (prow0 x1) t x2 x3 x4 x5 x6 x7 x8 x9 x10 x11 x12 x13)⟩]

section
variable (c : Dev nD) (i : grid1.Coords)
  (arg2 : Memref sig .tc .vmem S1x1024x1024 .f32) (harg2 : arg2.IsWhole)
  (arg3 : Memref sig .tc .vmem S1x1x1024x256 .f32) (harg3 : arg3.IsWhole)
  (arg4 : Memref sig .tc .vmem S2x1024 .f32) (harg4 : arg4.IsWhole)
  (arg5 : Memref sig .tc .vmem S1x1024x3584 .bf16) (harg5 : arg5.IsWhole)
  (arg6 : Memref sig .tc .vmem S2x512 .f32) (harg6 : arg6.IsWhole)
  (arg7 : Memref sig .tc .vmem S2x512 .f32) (harg7 : arg7.IsWhole)
  (arg8 : Memref sig .tc .vmem S1x4x128x128 .f32) (harg8 : arg8.IsWhole)
  (arg9 : Memref sig .tc .vmem S1x128x512 .f32) (harg9 : arg9.IsWhole)
  (arg10 : Memref sig .tc .vmem S1x3x512 .f32) (harg10 : arg10.IsWhole)
  (arg11 : Memref sig .tc .vmem S1x1024x1024 .bf16) (harg11 : arg11.IsWhole)
  (arg12 : Memref sig .tc .vmem S2x1024 .f32) (harg12 : arg12.IsWhole)
  (arg13 : Memref sig .tc .vmem S1x1024x1024 .bf16) (harg13 : arg13.IsWhole)
  (arg14 : Memref sig .tc .vmem S1x256x1024 .bf16) (harg14 : arg14.IsWhole)
  (arg15 : Memref sig .tc .vmem S1x1024 .f32) (harg15 : arg15.IsWhole)
  (arg16 : Memref sig .tc .vmem S1x1024x1024 .f32) (harg16 : arg16.IsWhole)
  (arg17 : Memref sig .tc .vmem S8x512 .f32) (harg17 : arg17.IsWhole)
  (x0 : Vec F S1x1024x1024 .f32) (x1 : Vec F S1x1x1024x256 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32)

set_option maxHeartbeats 4000000 in
/-- What the body leaves in the carried scratch at a later point of its sequence: the block's last tail. -/
theorem runB_scr (hc : ¬ first i) (z : Vec F S8x512 .f32) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 hc z).2.1 = [⟨Rect.unit (s := S8x512) ![0, 0] S8x512.size inb_S8x512_S8x512_0_0, keep (tl (xrow3 x0) x2 x3)⟩] := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, runB.sl.r_75, runB.sl.r_76, runB.sl.r_77, runB.sl.r_78, runB.sl.r_79, runB.sl.r_80, runB.sl.r_81, runB.sl.r_82, runB.sl.r_83, runB.sl.r_84, runB.sl.r_85, runB.sl.r_86, runB.sl.r_87, runB.sl.r_88, runB.sl.r_89, runB.sl.r_90, runB.sl.r_91, runB.sl.r_92, runB.sl.r_93, runB.sl.r_94, runB.sl.r_95, runB.sl.r_96, runB.sl.r_97, runB.sl.r_98, runB.sl.r_99, runB.sl.r_100, runB.sl.r_101, runB.sl.r_102, runB.sl.r_103, runB.sl.r_104, runB.sl.r_105, runB.sl.r_106, runB.sl.r_107, runB.sl.r_108, runB.sl.r_109, runB.sl.r_110, runB.sl.r_111, runB.sl.r_112, runB.sl.r_113, runB.sl.r_114, runB.sl.r_115, runB.sl.r_116, runB.sl.r_117, runB.sl.r_118, runB.sl.r_119, runB.sl.r_120, runB.sl.r_121, runB.sl.r_122, runB.sl.r_123, runB.sl.r_124, runB.sl.r_125, runB.sl.r_126, runB.sl.r_127, runB.sl.r_128, runB.sl.r_129, runB.sl.r_130, runB.sl.r_131, runB.sl.r_132, runB.sl.r_133, runB.sl.r_134, runB.sl.r_135, runB.sl.r_136, runB.sl.r_137, runB.sl.r_138, runB.sl.r_139, runB.sl.r_140, runB.sl.r_141, runB.sl.r_142, runB.sl.r_143, runB.sl.r_144, runB.sl.r_145, runB.sl.r_146, runB.sl.r_147, runB.sl.r_148, runB.sl.r_149, runB.sl.r_150, runB.sl.r_151, runB.sl.r_152, runB.sl.r_153, runB.sl.r_154, runB.sl.r_155, runB.sl.r_156, runB.sl.v407, runB.sl.cst_206, runB.sl.cst_256, View.readAt_eq_ld, Memref.IsWhole.read_unread]
  rfl

set_option maxHeartbeats 4000000 in
/-- What the body stores in the output block at a later point of its sequence. -/
theorem runB_out (hc : ¬ first i) (z : Vec F S8x512 .f32) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 hc z).1 = outL (scr z) x0 x1 x2 x3 x4 x5 x6 x7 x8 x9 x10 x11 x12 x13 := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, runB.sl.r_75, runB.sl.r_76, runB.sl.r_77, runB.sl.r_78, runB.sl.r_79, runB.sl.r_80, runB.sl.r_81, runB.sl.r_82, runB.sl.r_83, runB.sl.r_84, runB.sl.r_85, runB.sl.r_86, runB.sl.r_87, runB.sl.r_88, runB.sl.r_89, runB.sl.r_90, runB.sl.r_91, runB.sl.r_92, runB.sl.r_93, runB.sl.r_94, runB.sl.r_95, runB.sl.r_96, runB.sl.r_97, runB.sl.r_98, runB.sl.r_99, runB.sl.r_100, runB.sl.r_101, runB.sl.r_102, runB.sl.r_103, runB.sl.r_104, runB.sl.r_105, runB.sl.r_106, runB.sl.r_107, runB.sl.r_108, runB.sl.r_109, runB.sl.r_110, runB.sl.r_111, runB.sl.r_112, runB.sl.r_113, runB.sl.r_114, runB.sl.r_115, runB.sl.r_116, runB.sl.r_117, runB.sl.r_118, runB.sl.r_119, runB.sl.r_120, runB.sl.r_121, runB.sl.r_122, runB.sl.r_123, runB.sl.r_124, runB.sl.r_125, runB.sl.r_126, runB.sl.r_127, runB.sl.r_128, runB.sl.r_129, runB.sl.r_130, runB.sl.r_131, runB.sl.r_132, runB.sl.r_133, runB.sl.r_134, runB.sl.r_135, runB.sl.r_136, runB.sl.r_137, runB.sl.r_138, runB.sl.r_139, runB.sl.r_140, runB.sl.r_141, runB.sl.r_142, runB.sl.r_143, runB.sl.r_144, runB.sl.r_145, runB.sl.r_146, runB.sl.r_147, runB.sl.r_148, runB.sl.r_149, runB.sl.r_150, runB.sl.r_151, runB.sl.r_152, runB.sl.r_153, runB.sl.r_154, runB.sl.r_155, runB.sl.r_156, runB.sl.v407, runB.sl.cst_206, runB.sl.cst_256, View.readAt_eq_ld, Memref.IsWhole.read_unread]
  rfl

set_option maxHeartbeats 4000000 in
/-- What the body leaves in the carried scratch at the first point of its sequence: the block's last tail. -/
theorem runA_scr (hc : first i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 hc).2.1 = [⟨Rect.unit (s := S8x512) ![0, 0] S8x512.size inb_S8x512_S8x512_0_0, keep (tl (xrow3 x0) x2 x3)⟩, ⟨Rect.unit (s := S8x512) ![0, 0] S8x512.size inb_S8x512_S8x512_0_0, keep zeros⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, runA.sl.r_75, runA.sl.r_76, runA.sl.r_77, runA.sl.r_78, runA.sl.r_79, runA.sl.r_80, runA.sl.r_81, runA.sl.r_82, runA.sl.r_83, runA.sl.r_84, runA.sl.r_85, runA.sl.r_86, runA.sl.r_87, runA.sl.r_88, runA.sl.r_89, runA.sl.r_90, runA.sl.r_91, runA.sl.r_92, runA.sl.r_93, runA.sl.r_94, runA.sl.r_95, runA.sl.r_96, runA.sl.r_97, runA.sl.r_98, runA.sl.r_99, runA.sl.r_100, runA.sl.r_101, runA.sl.r_102, runA.sl.r_103, runA.sl.r_104, runA.sl.r_105, runA.sl.r_106, runA.sl.r_107, runA.sl.r_108, runA.sl.r_109, runA.sl.r_110, runA.sl.r_111, runA.sl.r_112, runA.sl.r_113, runA.sl.r_114, runA.sl.r_115, runA.sl.r_116, runA.sl.r_117, runA.sl.r_118, runA.sl.r_119, runA.sl.r_120, runA.sl.r_121, runA.sl.r_122, runA.sl.r_123, runA.sl.r_124, runA.sl.r_125, runA.sl.r_126, runA.sl.r_127, runA.sl.r_128, runA.sl.r_129, runA.sl.r_130, runA.sl.r_131, runA.sl.r_132, runA.sl.r_133, runA.sl.r_134, runA.sl.r_135, runA.sl.r_136, runA.sl.r_137, runA.sl.r_138, runA.sl.r_139, runA.sl.r_140, runA.sl.r_141, runA.sl.r_142, runA.sl.r_143, runA.sl.r_144, runA.sl.r_145, runA.sl.r_146, runA.sl.r_147, runA.sl.r_148, runA.sl.r_149, runA.sl.r_150, runA.sl.r_151, runA.sl.r_152, runA.sl.r_153, runA.sl.r_154, runA.sl.r_155, runA.sl.v407, runA.sl.cst_206, runA.sl.cst_256, runA.sl.v60, runA.sl.HS_1, View.readAt_eq_ld, Memref.IsWhole.read_unread, View.readCov_cons_toLoadRect]
  rfl

set_option maxHeartbeats 4000000 in
/-- What the body stores in the output block at the first point of its sequence. -/
theorem runA_out (hc : first i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 hc).1 = outL (keep zeros) x0 x1 x2 x3 x4 x5 x6 x7 x8 x9 x10 x11 x12 x13 := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, runA.sl.r_75, runA.sl.r_76, runA.sl.r_77, runA.sl.r_78, runA.sl.r_79, runA.sl.r_80, runA.sl.r_81, runA.sl.r_82, runA.sl.r_83, runA.sl.r_84, runA.sl.r_85, runA.sl.r_86, runA.sl.r_87, runA.sl.r_88, runA.sl.r_89, runA.sl.r_90, runA.sl.r_91, runA.sl.r_92, runA.sl.r_93, runA.sl.r_94, runA.sl.r_95, runA.sl.r_96, runA.sl.r_97, runA.sl.r_98, runA.sl.r_99, runA.sl.r_100, runA.sl.r_101, runA.sl.r_102, runA.sl.r_103, runA.sl.r_104, runA.sl.r_105, runA.sl.r_106, runA.sl.r_107, runA.sl.r_108, runA.sl.r_109, runA.sl.r_110, runA.sl.r_111, runA.sl.r_112, runA.sl.r_113, runA.sl.r_114, runA.sl.r_115, runA.sl.r_116, runA.sl.r_117, runA.sl.r_118, runA.sl.r_119, runA.sl.r_120, runA.sl.r_121, runA.sl.r_122, runA.sl.r_123, runA.sl.r_124, runA.sl.r_125, runA.sl.r_126, runA.sl.r_127, runA.sl.r_128, runA.sl.r_129, runA.sl.r_130, runA.sl.r_131, runA.sl.r_132, runA.sl.r_133, runA.sl.r_134, runA.sl.r_135, runA.sl.r_136, runA.sl.r_137, runA.sl.r_138, runA.sl.r_139, runA.sl.r_140, runA.sl.r_141, runA.sl.r_142, runA.sl.r_143, runA.sl.r_144, runA.sl.r_145, runA.sl.r_146, runA.sl.r_147, runA.sl.r_148, runA.sl.r_149, runA.sl.r_150, runA.sl.r_151, runA.sl.r_152, runA.sl.r_153, runA.sl.r_154, runA.sl.r_155, runA.sl.v407, runA.sl.cst_206, runA.sl.cst_256, runA.sl.v60, runA.sl.HS_1, View.readAt_eq_ld, Memref.IsWhole.read_unread, View.readCov_cons_toLoadRect]
  rfl

end
end Cert.KernelIdeal.L1
-- ==== Proof.Reg1.lean ====
module

public import proofs.«01_k».proof.Proof.Blk1
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit.Basic

/-! # Layer 0's region -/

@[expose] public section

set_option maxRecDepth 65536

noncomputable section

namespace Cert.KernelIdeal.L1

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-- Window `w`'s block at point `t`, read off the array the region finds. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- Input window 0's block at a point, at its literal shape. -/
def in0 (t : Fin cfg1.N) : Vec F S1x1024x1024 .f32 := iblk c V 0 t

/-- Input window 1's block at a point, at its literal shape. -/
def in1 (t : Fin cfg1.N) : Vec F S1x1x1024x256 .f32 := iblk c V 1 t

/-- Input window 2's block at a point, at its literal shape. -/
def in2 (t : Fin cfg1.N) : Vec F S2x1024 .f32 := iblk c V 2 t

/-- Input window 3's block at a point, at its literal shape. -/
def in3 (t : Fin cfg1.N) : Vec F S1x1024x3584 .bf16 := iblk c V 3 t

/-- Input window 4's block at a point, at its literal shape. -/
def in4 (t : Fin cfg1.N) : Vec F S2x512 .f32 := iblk c V 4 t

/-- Input window 5's block at a point, at its literal shape. -/
def in5 (t : Fin cfg1.N) : Vec F S2x512 .f32 := iblk c V 5 t

/-- Input window 6's block at a point, at its literal shape. -/
def in6 (t : Fin cfg1.N) : Vec F S1x4x128x128 .f32 := iblk c V 6 t

/-- Input window 7's block at a point, at its literal shape. -/
def in7 (t : Fin cfg1.N) : Vec F S1x128x512 .f32 := iblk c V 7 t

/-- Input window 8's block at a point, at its literal shape. -/
def in8 (t : Fin cfg1.N) : Vec F S1x3x512 .f32 := iblk c V 8 t

/-- Input window 9's block at a point, at its literal shape. -/
def in9 (t : Fin cfg1.N) : Vec F S1x1024x1024 .bf16 := iblk c V 9 t

/-- Input window 10's block at a point, at its literal shape. -/
def in10 (t : Fin cfg1.N) : Vec F S2x1024 .f32 := iblk c V 10 t

/-- Input window 11's block at a point, at its literal shape. -/
def in11 (t : Fin cfg1.N) : Vec F S1x1024x1024 .bf16 := iblk c V 11 t

/-- Input window 12's block at a point, at its literal shape. -/
def in12 (t : Fin cfg1.N) : Vec F S1x256x1024 .bf16 := iblk c V 12 t

/-- Input window 13's block at a point, at its literal shape. -/
def in13 (t : Fin cfg1.N) : Vec F S1x1024 .f32 := iblk c V 13 t

/-- The tail the point `t` leaves in the carried scratch. -/
def carry (t : Fin cfg1.N) : Vec F S8x512 .f32 := keep (tl (xrow3 (in0 c V t)) (in2 c V t) (in3 c V t))

/-- The tail the body starts from at point `t`: zero at the first point of a sequence, else what the point before left. -/
def start (t : Fin cfg1.N) : FVec F S8x512 .f32 :=
  if t.val % 8 = 0 then keep zeros else scr (carry c V ⟨t.val - 1, lt_of_le_of_lt (Nat.sub_le _ _) t.isLt⟩)

/-- What the body leaves in the output's block at point `t`. -/
def out (t : Fin cfg1.N) : Vec F S1x1024x1024 .f32 := View.canon (outL (start c V t) (in0 c V t) (in1 c V t) (in2 c V t) (in3 c V t) (in4 c V t) (in5 c V t) (in6 c V t) (in7 c V t) (in8 c V t) (in9 c V t) (in10 c V t) (in11 c V t) (in12 c V t) (in13 c V t))

/-- The carried scratch. -/
abbrev scM : Memref sig .tc .vmem S8x512 .f32 := Memref.whole cc1_scratch0

/-- The body's condition holds at the first point of each sequence. -/
theorem first_iff (t : Fin cfg1.N) : first (grid1.coords t) ↔ t.val % 8 = 0 := by
  have ht : t.val < 64 := Nat.lt_of_lt_of_eq t.isLt N_1
  have e0 : (grid1.coords t 0).val = t.val / 8 % 8 := Pipeline.Grid.coords_val t 0 (by decide) rfl
  have e1 : (grid1.coords t 1).val = t.val / 1 % 8 := Pipeline.Grid.coords_val t 1 (by decide) rfl
  simp only [first, e0, e1]
  word_cmp

/-- The invariant before point `n`: the carried scratch at the tail the point before left (at anything before the first), beside the buffers the call does not touch. -/
def PhiS : (n : ℕ) → n ≤ cfg1.N → sProp 𝕄
  | 0, _ => iprop((∃ d, owns (c : Thread nD τ) scM fullShare d) ∗ Pipeline.scopedRestBut (Ix := Unit) (Name := ℕ) (U := UR sig nD τ) (Lvl := ℕ) (Val := Elt F) spec1 c [cc1_scratch0])
  | n + 1, hn => iprop(owns (c : Thread nD τ) scM fullShare (carry c V ⟨n, hn⟩) ∗ Pipeline.scopedRestBut (Ix := Unit) (Name := ℕ) (U := UR sig nD τ) (Lvl := ℕ) (Val := Elt F) spec1 c [cc1_scratch0])

/-- After point `n`, the scratch holds what it left. -/
theorem PhiS_succ (n : ℕ) (hn : n < cfg1.N) :
    PhiS c V (n + 1) hn = iprop(owns (c : Thread nD τ) scM fullShare (carry c V ⟨n, hn⟩) ∗ Pipeline.scopedRestBut (Ix := Unit) (Name := ℕ) (U := UR sig nD τ) (Lvl := ℕ) (Val := Elt F) spec1 c [cc1_scratch0]) := rfl

/-- Before a later point, the scratch holds what the point before left. -/
theorem PhiS_pos (n : ℕ) (h : n ≤ cfg1.N) (hz : n ≠ 0) :
    PhiS c V n h = iprop(owns (c : Thread nD τ) scM fullShare (carry c V ⟨n - 1, by omega⟩) ∗ Pipeline.scopedRestBut (Ix := Unit) (Name := ℕ) (U := UR sig nD τ) (Lvl := ℕ) (Val := Elt F) spec1 c [cc1_scratch0]) := by
  cases n with
  | zero => exact absurd rfl hz
  | succ n => rfl

/-- Before any point, the scratch holds something. -/
theorem PhiS_any (n : ℕ) (h : n ≤ cfg1.N) :
    PhiS c V n h ⊢ iprop((∃ d, owns (c : Thread nD τ) scM fullShare d) ∗ Pipeline.scopedRestBut (Ix := Unit) (Name := ℕ) (U := UR sig nD τ) (Lvl := ℕ) (Val := Elt F) spec1 c [cc1_scratch0]) := by
  cases n with
  | zero => exact Idealize.SL.BI.Entails.refl _
  | succ n =>
    unfold PhiS
    iintro ⟨H, Hr⟩
    isplitl [H]
    · iexists _; iexact H
    iexact Hr

/-- The region's data: the arrays as the region finds them; after the body each input's block in place and each output's block at what the body stores. -/
def dat : Dat τ (Elt F) Unit ℕ (UR sig nD τ) ℕ cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => iblk c V 9 t
    | ⟨10, _⟩ => iblk c V 10 t
    | ⟨11, _⟩ => iblk c V 11 t
    | ⟨12, _⟩ => iblk c V 12 t
    | ⟨13, _⟩ => iblk c V 13 t
    | ⟨14, _⟩ => out c V t
  Φ t := PhiS c V t.val (Nat.le_of_lt_succ t.isLt)
  q _ := fullShare
  owed _ := 0

/-- The data's arrays are the contents the region finds. -/
theorem A_eq (w : Fin cfg1.W) : (dat c V).A w = V (Pipeline.arrRef spec1 w) := by dsimp only [dat]

/-- The invariant at a point's start. -/
theorem Phi_castSucc (t : Fin cfg1.N) : (dat c V).Φ t.castSucc = PhiS c V t.val (Nat.le_of_lt t.isLt) := by
  dsimp only [dat]; exact Pipeline.Dat.Φ_castSucc (PhiS c V) t

/-- What the body leaves in window 0's buffer: its block. -/
theorem after_0 (t : Fin cfg1.N) : (dat c V).after 0 t = iblk c V 0 t := by dsimp only [dat]

/-- What the body leaves in window 1's buffer: its block. -/
theorem after_1 (t : Fin cfg1.N) : (dat c V).after 1 t = iblk c V 1 t := by dsimp only [dat]

/-- What the body leaves in window 2's buffer: its block. -/
theorem after_2 (t : Fin cfg1.N) : (dat c V).after 2 t = iblk c V 2 t := by dsimp only [dat]

/-- What the body leaves in window 3's buffer: its block. -/
theorem after_3 (t : Fin cfg1.N) : (dat c V).after 3 t = iblk c V 3 t := by dsimp only [dat]

/-- What the body leaves in window 4's buffer: its block. -/
theorem after_4 (t : Fin cfg1.N) : (dat c V).after 4 t = iblk c V 4 t := by dsimp only [dat]

/-- What the body leaves in window 5's buffer: its block. -/
theorem after_5 (t : Fin cfg1.N) : (dat c V).after 5 t = iblk c V 5 t := by dsimp only [dat]

/-- What the body leaves in window 6's buffer: its block. -/
theorem after_6 (t : Fin cfg1.N) : (dat c V).after 6 t = iblk c V 6 t := by dsimp only [dat]

/-- What the body leaves in window 7's buffer: its block. -/
theorem after_7 (t : Fin cfg1.N) : (dat c V).after 7 t = iblk c V 7 t := by dsimp only [dat]

/-- What the body leaves in window 8's buffer: its block. -/
theorem after_8 (t : Fin cfg1.N) : (dat c V).after 8 t = iblk c V 8 t := by dsimp only [dat]

/-- What the body leaves in window 9's buffer: its block. -/
theorem after_9 (t : Fin cfg1.N) : (dat c V).after 9 t = iblk c V 9 t := by dsimp only [dat]

/-- What the body leaves in window 10's buffer: its block. -/
theorem after_10 (t : Fin cfg1.N) : (dat c V).after 10 t = iblk c V 10 t := by dsimp only [dat]

/-- What the body leaves in window 11's buffer: its block. -/
theorem after_11 (t : Fin cfg1.N) : (dat c V).after 11 t = iblk c V 11 t := by dsimp only [dat]

/-- What the body leaves in window 12's buffer: its block. -/
theorem after_12 (t : Fin cfg1.N) : (dat c V).after 12 t = iblk c V 12 t := by dsimp only [dat]

/-- What the body leaves in window 13's buffer: its block. -/
theorem after_13 (t : Fin cfg1.N) : (dat c V).after 13 t = iblk c V 13 t := by dsimp only [dat]

/-- What the body leaves in window 14's buffer. -/
theorem after_14 (t : Fin cfg1.N) : (dat c V).after 14 t = out c V t := by dsimp only [dat]

/-- Input window 0's buffer holds its block at every point, fetched there or not. -/
theorem before_0 (t : Fin cfg1.N) (d) : (dat c V).before 0 t d = in0 c V t :=
  ((dat c V).before_in_eq_fetched 0 rfl (fun _ => rfl) (fun _ _ _ => rfl) (fun t => by rw [after_0]; unfold Dat.blockOf iblk; rw [A_eq]; try rfl) t d).trans
    (by unfold in0 Dat.fetched Dat.blockOf iblk; rw [A_eq]; try rfl)

/-- Input window 1's buffer holds its block at every point, fetched there or not. -/
theorem before_1 (t : Fin cfg1.N) (d) : (dat c V).before 1 t d = in1 c V t :=
  ((dat c V).before_in_eq_fetched 1 rfl (fun _ => rfl) (fun _ _ _ => rfl) (fun t => by rw [after_1]; unfold Dat.blockOf iblk; rw [A_eq]; try rfl) t d).trans
    (by unfold in1 Dat.fetched Dat.blockOf iblk; rw [A_eq]; try rfl)

/-- Input window 2's buffer holds its block at every point, fetched there or not. -/
theorem before_2 (t : Fin cfg1.N) (d) : (dat c V).before 2 t d = in2 c V t :=
  ((dat c V).before_in_eq_fetched 2 rfl (fun _ => rfl) (fun _ _ _ => rfl) (fun t => by rw [after_2]; unfold Dat.blockOf iblk; rw [A_eq]; try rfl) t d).trans
    (by unfold in2 Dat.fetched Dat.blockOf iblk; rw [A_eq]; try rfl)

/-- Input window 3's buffer holds its block at every point, fetched there or not. -/
theorem before_3 (t : Fin cfg1.N) (d) : (dat c V).before 3 t d = in3 c V t :=
  ((dat c V).before_in_eq_fetched 3 rfl (fun _ => rfl) (fun _ _ _ => rfl) (fun t => by rw [after_3]; unfold Dat.blockOf iblk; rw [A_eq]; try rfl) t d).trans
    (by unfold in3 Dat.fetched Dat.blockOf iblk; rw [A_eq]; try rfl)

/-- Input window 4's buffer holds its block at every point, fetched there or not. -/
theorem before_4 (t : Fin cfg1.N) (d) : (dat c V).before 4 t d = in4 c V t :=
  ((dat c V).before_in_eq_fetched 4 rfl (fun _ => rfl) (fun _ _ _ => rfl) (fun t => by rw [after_4]; unfold Dat.blockOf iblk; rw [A_eq]; try rfl) t d).trans
    (by unfold in4 Dat.fetched Dat.blockOf iblk; rw [A_eq]; try rfl)

/-- Input window 5's buffer holds its block at every point, fetched there or not. -/
theorem before_5 (t : Fin cfg1.N) (d) : (dat c V).before 5 t d = in5 c V t :=
  ((dat c V).before_in_eq_fetched 5 rfl (fun _ => rfl) (fun _ _ _ => rfl) (fun t => by rw [after_5]; unfold Dat.blockOf iblk; rw [A_eq]; try rfl) t d).trans
    (by unfold in5 Dat.fetched Dat.blockOf iblk; rw [A_eq]; try rfl)

/-- Input window 6's buffer holds its block at every point, fetched there or not. -/
theorem before_6 (t : Fin cfg1.N) (d) : (dat c V).before 6 t d = in6 c V t :=
  ((dat c V).before_in_eq_fetched 6 rfl (fun _ => rfl) (fun _ _ _ => rfl) (fun t => by rw [after_6]; unfold Dat.blockOf iblk; rw [A_eq]; try rfl) t d).trans
    (by unfold in6 Dat.fetched Dat.blockOf iblk; rw [A_eq]; try rfl)

/-- Input window 7's buffer holds its block at every point, fetched there or not. -/
theorem before_7 (t : Fin cfg1.N) (d) : (dat c V).before 7 t d = in7 c V t :=
  ((dat c V).before_in_eq_fetched 7 rfl (fun _ => rfl) (fun _ _ _ => rfl) (fun t => by rw [after_7]; unfold Dat.blockOf iblk; rw [A_eq]; try rfl) t d).trans
    (by unfold in7 Dat.fetched Dat.blockOf iblk; rw [A_eq]; try rfl)

/-- Input window 8's buffer holds its block at every point, fetched there or not. -/
theorem before_8 (t : Fin cfg1.N) (d) : (dat c V).before 8 t d = in8 c V t :=
  ((dat c V).before_in_eq_fetched 8 rfl (fun _ => rfl) (fun _ _ _ => rfl) (fun t => by rw [after_8]; unfold Dat.blockOf iblk; rw [A_eq]; try rfl) t d).trans
    (by unfold in8 Dat.fetched Dat.blockOf iblk; rw [A_eq]; try rfl)

/-- Input window 9's buffer holds its block at every point, fetched there or not. -/
theorem before_9 (t : Fin cfg1.N) (d) : (dat c V).before 9 t d = in9 c V t :=
  ((dat c V).before_in_eq_fetched 9 rfl (fun _ => rfl) (fun _ _ _ => rfl) (fun t => by rw [after_9]; unfold Dat.blockOf iblk; rw [A_eq]; try rfl) t d).trans
    (by unfold in9 Dat.fetched Dat.blockOf iblk; rw [A_eq]; try rfl)

/-- Input window 10's buffer holds its block at every point, fetched there or not. -/
theorem before_10 (t : Fin cfg1.N) (d) : (dat c V).before 10 t d = in10 c V t :=
  ((dat c V).before_in_eq_fetched 10 rfl (fun _ => rfl) (fun _ _ _ => rfl) (fun t => by rw [after_10]; unfold Dat.blockOf iblk; rw [A_eq]; try rfl) t d).trans
    (by unfold in10 Dat.fetched Dat.blockOf iblk; rw [A_eq]; try rfl)

/-- Input window 11's buffer holds its block at every point, fetched there or not. -/
theorem before_11 (t : Fin cfg1.N) (d) : (dat c V).before 11 t d = in11 c V t :=
  ((dat c V).before_in_eq_fetched 11 rfl (fun _ => rfl) (fun _ _ _ => rfl) (fun t => by rw [after_11]; unfold Dat.blockOf iblk; rw [A_eq]; try rfl) t d).trans
    (by unfold in11 Dat.fetched Dat.blockOf iblk; rw [A_eq]; try rfl)

/-- Input window 12's buffer holds its block at every point, fetched there or not. -/
theorem before_12 (t : Fin cfg1.N) (d) : (dat c V).before 12 t d = in12 c V t :=
  ((dat c V).before_in_eq_fetched 12 rfl (fun _ => rfl) (fun _ _ _ => rfl) (fun t => by rw [after_12]; unfold Dat.blockOf iblk; rw [A_eq]; try rfl) t d).trans
    (by unfold in12 Dat.fetched Dat.blockOf iblk; rw [A_eq]; try rfl)

/-- Input window 13's buffer holds its block at every point, fetched there or not. -/
theorem before_13 (t : Fin cfg1.N) (d) : (dat c V).before 13 t d = in13 c V t :=
  ((dat c V).before_in_eq_fetched 13 rfl (fun _ => rfl) (fun _ _ _ => rfl) (fun t => by rw [after_13]; unfold Dat.blockOf iblk; rw [A_eq]; try rfl) t d).trans
    (by unfold in13 Dat.fetched Dat.blockOf iblk; rw [A_eq]; try rfl)

/-- The stored pieces cover the output's block, so it reads as they say. -/
theorem read_out (v : View sig .tc .vmem S1x1024x1024 .f32) (f) (L : List (View.Piece (Elt F) S1x1024x1024 .f32)) (s : FVec F S8x512 .f32) (x0 : Vec F S1x1024x1024 .f32) (x1 : Vec F S1x1x1024x256 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32)
    (h : L = outL s x0 x1 x2 x3 x4 x5 x6 x7 x8 x9 x10 x11 x12 x13) : v.read (Elt F) (v.writes (Elt F) f L) = View.canon (outL s x0 x1 x2 x3 x4 x5 x6 x7 x8 x9 x10 x11 x12 x13) := by
  subst h
  exact View.read_writes_eq_canon _ _ _ (View.cover_of_tiledL (outL s x0 x1 x2 x3 x4 x5 x6 x7 x8 x9 x10 x11 x12 x13) S1x256x1024.size (by sl_kernel_rfl))

/-- The carried scratch reads as what was stored last. -/
theorem read_scr (v : View sig .tc .vmem S8x512 .f32) (f) (L M : List (View.Piece (Elt F) S8x512 .f32)) (w : Vec F S8x512 .f32)
    (h : L = ⟨Rect.unit (s := S8x512) ![0, 0] S8x512.size inb_S8x512_S8x512_0_0, w⟩ :: M) : v.read (Elt F) (v.writes (Elt F) f L) = w := by
  subst h
  refine (View.read_writes_eq_canon _ _ _ fun y => ⟨_, List.mem_cons_self, ?_⟩).trans (View.canon_cons_unit_lit _ _ _ (by decide))
  obtain ⟨p, hp, hy⟩ := View.cover_of_tiledL [(⟨Rect.unit (s := S8x512) ![0, 0] S8x512.size inb_S8x512_S8x512_0_0, w⟩ : View.Piece (Elt F) S8x512 .f32)] S8x512.size (by sl_kernel_rfl) y
  rw [List.mem_singleton] at hp
  subst hp
  exact hy

/-- What the body is called with at point `t`. -/
def bodyPre (t : Fin cfg1.N) : sProp 𝕄 :=
  iprop((dat c V).Φ t.castSucc ∗ (dat c V).owesAt () t.castSucc
    ∗ (∃ d, owns (c : Thread nD τ) (st1_0 t) fullShare ((dat c V).before 0 t d))
    ∗ (∃ d, owns (c : Thread nD τ) (st1_1 t) fullShare ((dat c V).before 1 t d))
    ∗ (∃ d, owns (c : Thread nD τ) (st1_2 t) fullShare ((dat c V).before 2 t d))
    ∗ (∃ d, owns (c : Thread nD τ) (st1_3 t) fullShare ((dat c V).before 3 t d))
    ∗ (∃ d, owns (c : Thread nD τ) (st1_4 t) fullShare ((dat c V).before 4 t d))
    ∗ (∃ d, owns (c : Thread nD τ) (st1_5 t) fullShare ((dat c V).before 5 t d))
    ∗ (∃ d, owns (c : Thread nD τ) (st1_6 t) fullShare ((dat c V).before 6 t d))
    ∗ (∃ d, owns (c : Thread nD τ) (st1_7 t) fullShare ((dat c V).before 7 t d))
    ∗ (∃ d, owns (c : Thread nD τ) (st1_8 t) fullShare ((dat c V).before 8 t d))
    ∗ (∃ d, owns (c : Thread nD τ) (st1_9 t) fullShare ((dat c V).before 9 t d))
    ∗ (∃ d, owns (c : Thread nD τ) (st1_10 t) fullShare ((dat c V).before 10 t d))
    ∗ (∃ d, owns (c : Thread nD τ) (st1_11 t) fullShare ((dat c V).before 11 t d))
    ∗ (∃ d, owns (c : Thread nD τ) (st1_12 t) fullShare ((dat c V).before 12 t d))
    ∗ (∃ d, owns (c : Thread nD τ) (st1_13 t) fullShare ((dat c V).before 13 t d))
    ∗ (∃ d, owns (c : Thread nD τ) (st1_14 t) fullShare ((dat c V).before 14 t d)))

/-- What the body returns at point `t`. -/
def bodyPost (t : Fin cfg1.N) : sProp 𝕄 :=
  iprop((dat c V).Φ t.succ ∗ (dat c V).owesAt () t.succ
    ∗ owns (c : Thread nD τ) (st1_0 t) fullShare ((dat c V).after 0 t)
    ∗ owns (c : Thread nD τ) (st1_1 t) fullShare ((dat c V).after 1 t)
    ∗ owns (c : Thread nD τ) (st1_2 t) fullShare ((dat c V).after 2 t)
    ∗ owns (c : Thread nD τ) (st1_3 t) fullShare ((dat c V).after 3 t)
    ∗ owns (c : Thread nD τ) (st1_4 t) fullShare ((dat c V).after 4 t)
    ∗ owns (c : Thread nD τ) (st1_5 t) fullShare ((dat c V).after 5 t)
    ∗ owns (c : Thread nD τ) (st1_6 t) fullShare ((dat c V).after 6 t)
    ∗ owns (c : Thread nD τ) (st1_7 t) fullShare ((dat c V).after 7 t)
    ∗ owns (c : Thread nD τ) (st1_8 t) fullShare ((dat c V).after 8 t)
    ∗ owns (c : Thread nD τ) (st1_9 t) fullShare ((dat c V).after 9 t)
    ∗ owns (c : Thread nD τ) (st1_10 t) fullShare ((dat c V).after 10 t)
    ∗ owns (c : Thread nD τ) (st1_11 t) fullShare ((dat c V).after 11 t)
    ∗ owns (c : Thread nD τ) (st1_12 t) fullShare ((dat c V).after 12 t)
    ∗ owns (c : Thread nD τ) (st1_13 t) fullShare ((dat c V).after 13 t)
    ∗ owns (c : Thread nD τ) (st1_14 t) fullShare ((dat c V).after 14 t))

set_option maxHeartbeats 12800000 in
/-- The body at any point: from the inputs' blocks it leaves the outputs' blocks as stated. -/
theorem sound_body (t : Fin cfg1.N) :
    bodyPre c V t ⊢ wp frame (wpE (defs₀ (F := F)) Variants.none c none) Set.univ (bodyAt1 t) (fun _ => bodyPost c V t) := by
  unfold bodyPre bodyPost bodyAt1
  simp only [before_0, before_1, before_2, before_3, before_4, before_5, before_6, before_7, before_8, before_9, before_10, before_11, before_12, before_13]
  rw [show (dat c V).owesAt () t.succ = (dat c V).owesAt () t.castSucc from rfl,
    after_0, after_1, after_2, after_3, after_4, after_5, after_6, after_7, after_8, after_9, after_10, after_11, after_12, after_13, after_14]
  rw [show (dat c V).Φ t.succ = PhiS c V (t.val + 1) t.isLt from rfl, Phi_castSucc c V t]
  by_cases h0 : t.val % 8 = 0
  · have hs : start c V t = keep zeros := if_pos h0
    unfold out
    rw [hs]
    rw [PhiS_succ]
    refine (sep_mono_l (PhiS_any c V _ _)).trans ?_
    show iprop(iprop((∃ d, owns (c : Thread nD τ) scM fullShare d) ∗ _) ∗ _) ⊢ _
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA c (grid1.coords t) _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) ((first_iff t).mpr h0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS]; · iexact HS
    iintro ⟨H0, H1, H2, H3, H4, H5, H6, H7, H8, H9, H10, H11, H12, H13, ⟨%e14, H14⟩, ⟨%es, HS⟩⟩
    isplitl [HS Hr]
    · isplitl [HS]
      · unfold owns; iexists _; isplitr
        swap; · iexact HS
        ipureintro; exact read_scr _ _ _ _ _ (runA_scr c _ _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) ((first_iff t).mpr h0))
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact read_out _ _ _ _ _ _ _ _ _ _ _ _ _ _ _ _ _ _ (runA_out c _ _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) ((first_iff t).mpr h0))
  · have hz : t.val ≠ 0 := fun h => h0 (by rw [h])
    have hs : start c V t = scr (carry c V ⟨t.val - 1, lt_of_le_of_lt (Nat.sub_le _ _) t.isLt⟩) := if_neg h0
    unfold out
    rw [hs, PhiS_succ, PhiS_pos c V t.val _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runB c (grid1.coords t) _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) (fun h => h0 ((first_iff t).mp h)) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS]; · iexact HS
    iintro ⟨H0, H1, H2, H3, H4, H5, H6, H7, H8, H9, H10, H11, H12, H13, ⟨%e14, H14⟩, ⟨%es, HS⟩⟩
    isplitl [HS Hr]
    · isplitl [HS]
      · unfold owns; iexists _; isplitr
        swap; · iexact HS
        ipureintro; exact read_scr _ _ _ _ _ (runB_scr c _ _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) (fun h => h0 ((first_iff t).mp h)) _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact read_out _ _ _ _ _ _ _ _ _ _ _ _ _ _ _ _ _ _ (runB_out c _ _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) (fun h => h0 ((first_iff t).mp h)) _)

/-- The body the table names at point `t`'s buffers. -/
theorem defs_row (t : Fin cfg1.N) : defs₀ (F := F) .tc cfg1.body (cfg1.bodyArgs t (cfg1.slots t)) = bodyAt1 t := by
  unfold defs₀; rw [Defs.onTc_tc]

/-- The body's triple at every point, as the region asks for it. -/
theorem body_obligation : BodyObligation (dat c V) (defs₀ (F := F)) Variants.none () Set.univ := fun t => by
  rw [bigSep_W1, bigSep_W1, defs_row]
  exact triple_restated (sound_body c V t) rfl .rfl fun _ => .rfl

/-- The buffers the call does not stage are the invariant before the first point. -/
theorem hin : Pipeline.scopedRest (Ix := Unit) (Name := ℕ) (U := UR sig nD τ) (Lvl := ℕ) (Val := Elt F) spec1 c ⊢ (dat c V).Φ 0 := by
  rw [show (dat c V).Φ 0 = PhiS c V 0 (Nat.zero_le _) from rfl, scopedRest1_split]
  unfold PhiS
  simp only [scM, owns_whole]
  exact Idealize.SL.BI.Entails.refl _

/-- After the last point the invariant gives them back. -/
theorem hout : (dat c V).Φ (Fin.last cfg1.N) ⊢ Pipeline.scopedRest (Ix := Unit) (Name := ℕ) (U := UR sig nD τ) (Lvl := ℕ) (Val := Elt F) spec1 c := by
  rw [show (dat c V).Φ (Fin.last cfg1.N) = PhiS c V (Fin.last cfg1.N).val (Nat.le_of_lt_succ (Fin.last cfg1.N).isLt) from rfl, scopedRest1_split]
  refine (PhiS_any c V _ _).trans ?_
  simp only [scM, owns_whole]
  exact Idealize.SL.BI.Entails.refl _

end Cert.KernelIdeal.L1
-- ==== Proof.Run2.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

set_option maxRecDepth 16384

noncomputable section

namespace Cert.KernelIdeal.L2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition at grid point `i`: the sequence-tile coordinate is the first. -/
abbrev first (i : grid2.Coords) : Prop := (Scalar.cmpi .ne (Scalar.extui (Scalar.cmpi .eq (BitVec.ofNat 32 (i 1).val) 0#32)) 0#32) = 1#1

variable (c : Dev nD) (i : grid2.Coords)
  (arg2 : Memref sig .tc .vmem S1x1024x1024 .f32) (harg2 : arg2.IsWhole)
  (arg3 : Memref sig .tc .vmem S1x1x1024x256 .f32) (harg3 : arg3.IsWhole)
  (arg4 : Memref sig .tc .vmem S2x1024 .f32) (harg4 : arg4.IsWhole)
  (arg5 : Memref sig .tc .vmem S1x1024x3584 .bf16) (harg5 : arg5.IsWhole)
  (arg6 : Memref sig .tc .vmem S2x512 .f32) (harg6 : arg6.IsWhole)
  (arg7 : Memref sig .tc .vmem S2x512 .f32) (harg7 : arg7.IsWhole)
  (arg8 : Memref sig .tc .vmem S1x4x128x128 .f32) (harg8 : arg8.IsWhole)
  (arg9 : Memref sig .tc .vmem S1x128x512 .f32) (harg9 : arg9.IsWhole)
  (arg10 : Memref sig .tc .vmem S1x3x512 .f32) (harg10 : arg10.IsWhole)
  (arg11 : Memref sig .tc .vmem S1x1024x1024 .bf16) (harg11 : arg11.IsWhole)
  (arg12 : Memref sig .tc .vmem S2x1024 .f32) (harg12 : arg12.IsWhole)
  (arg13 : Memref sig .tc .vmem S1x1024x1024 .bf16) (harg13 : arg13.IsWhole)
  (arg14 : Memref sig .tc .vmem S1x256x1024 .bf16) (harg14 : arg14.IsWhole)
  (arg15 : Memref sig .tc .vmem S1x1024 .f32) (harg15 : arg15.IsWhole)
  (arg16 : Memref sig .tc .vmem S1x1024x1024 .f32) (harg16 : arg16.IsWhole)
  (arg17 : Memref sig .tc .vmem S8x512 .f32) (harg17 : arg17.IsWhole)
  (x0 : Vec F S1x1024x1024 .f32) (x1 : Vec F S1x1x1024x256 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32)

set_option maxHeartbeats 4000000 in
/-- The body run at a point that is the first of its sequence: the pieces stored into the output block and into the carried scratch,
    with the proof that the body, from the inputs at `x·`, reaches any continuation holding the inputs as they were and
    those pieces written. -/
def runA (hc : first i) :
    Σ' (L : List (View.Piece (Elt F) S1x1024x1024 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L) ∗ (∃ f, arg17.view.loc (c : Thread nD τ) ↦[arg17.view.set]{fullShare} arg17.view.writes (Elt F) f LS)) -∗ K ⟨⟩))
          ⊢ wp frame (wpE (defs₀ (F := F)) Variants.none c none) E (cc2_trunk_layer1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc2_trunk_layer1_eq_skeleton]; unfold cc2_trunk_layer1_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds, %fs, -, HS⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; iexact HS

set_option maxHeartbeats 4000000 in
/-- The body run at a point that is not the first of its sequence: the pieces stored into the output block and into the carried scratch,
    with the proof that the body, from the inputs at `x·` and the scratch at `z`, reaches any continuation holding the inputs as they were and
    those pieces written. -/
def runB (hc : ¬ first i) (z : Vec F S8x512 .f32) :
    Σ' (L : List (View.Piece (Elt F) S1x1024x1024 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L) ∗ (∃ f, arg17.view.loc (c : Thread nD τ) ↦[arg17.view.set]{fullShare} arg17.view.writes (Elt F) f LS)) -∗ K ⟨⟩))
          ⊢ wp frame (wpE (defs₀ (F := F)) Variants.none c none) E (cc2_trunk_layer1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc2_trunk_layer1_eq_skeleton]; unfold cc2_trunk_layer1_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs, %hfs, HS⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg17.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; iexact HS

end Cert.KernelIdeal.L2
-- ==== Proof.Blk2.lean ====
module

public import proofs.«01_k».proof.Proof.Run2
public import proofs.«01_k».proof.Proof.Tile

/-! # Layer 1's body: what its stores hold

The pieces the body's run stores, as the sub-tile's vector functions. -/

@[expose] public section

set_option maxRecDepth 65536

noncomputable section

namespace Cert.KernelIdeal.L2

open Cert.KernelIdeal Cert.KernelIdeal.Gen Cert.KernelIdeal.Tile
open Idealize.ShloMosaic Idealize.ShloMosaic.TcCoe

variable {F : FTy → Type} [FloatOps F]

/-- The tail that a sub-tile of rows `x` leaves. -/
def tl (x : Vec F S1x256x1024 .f32) (x2 : Vec F S2x1024 .f32) (x3 : Vec F S1x1024x3584 .bf16) : FVec F S8x512 .f32 := tail (hn x (grow1 x2)) x3

/-- A sub-tile's result from the rows `x`, the embedding's rows `p`, the tail `t` and the weight blocks. -/
def sub (x : Vec F S1x256x1024 .f32) (p : Vec F S1x1x256x256 .f32) (t : FVec F S8x512 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32) : FVec F S256x1024 .f32 :=
  close (rows x p (grow1 x2) x3 (lrow1 x4) (lrow1 x5) x6 x7 x8 (sq x9) (grow1 x10) (sq x11) (wide x12) t) (frow x13)

/-- The pieces of the output block, when the block starts from the tail `t`. -/
def outL (t : FVec F S8x512 .f32) (x0 : Vec F S1x1024x1024 .f32) (x1 : Vec F S1x1x1024x256 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32) : List (View.Piece (Elt F) S1x1024x1024 .f32) :=
  [⟨Rect.unit (s := S1x1024x1024) ![0, 768, 0] S1x256x1024.size inb_S1x1024x1024_S1x256x1024_0_768_0, put (sub (xrow3 x0) (prow3 x1) (tl (xrow2 x0) x2 x3) x2 x3 x4 x5 x6 x7 x8 x9 x10 x11 x12 x13)⟩,
   ⟨Rect.unit (s := S1x1024x1024) ![0, 512, 0] S1x256x1024.size inb_S1x1024x1024_S1x256x1024_0_512_0, put (sub (xrow2 x0) (prow2 x1) (tl (xrow1 x0) x2 x3) x2 x3 x4 x5 x6 x7 x8 x9 x10 x11 x12 x13)⟩,
   ⟨Rect.unit (s := S1x1024x1024) ![0, 256, 0] S1x256x1024.size inb_S1x1024x1024_S1x256x1024_0_256_0, put (sub (xrow1 x0) (prow1 x1) (tl (xrow0 x0) x2 x3) x2 x3 x4 x5 x6 x7 x8 x9 x10 x11 x12 x13)⟩,
   ⟨Rect.unit (s := S1x1024x1024) ![0, 0, 0] S1x256x1024.size inb_S1x1024x1024_S1x256x1024_0_0_0, put (sub (xrow0 x0) (prow0 x1) t x2 x3 x4 x5 x6 x7 x8 x9 x10 x11 x12 x13)⟩]

section
variable (c : Dev nD) (i : grid2.Coords)
  (arg2 : Memref sig .tc .vmem S1x1024x1024 .f32) (harg2 : arg2.IsWhole)
  (arg3 : Memref sig .tc .vmem S1x1x1024x256 .f32) (harg3 : arg3.IsWhole)
  (arg4 : Memref sig .tc .vmem S2x1024 .f32) (harg4 : arg4.IsWhole)
  (arg5 : Memref sig .tc .vmem S1x1024x3584 .bf16) (harg5 : arg5.IsWhole)
  (arg6 : Memref sig .tc .vmem S2x512 .f32) (harg6 : arg6.IsWhole)
  (arg7 : Memref sig .tc .vmem S2x512 .f32) (harg7 : arg7.IsWhole)
  (arg8 : Memref sig .tc .vmem S1x4x128x128 .f32) (harg8 : arg8.IsWhole)
  (arg9 : Memref sig .tc .vmem S1x128x512 .f32) (harg9 : arg9.IsWhole)
  (arg10 : Memref sig .tc .vmem S1x3x512 .f32) (harg10 : arg10.IsWhole)
  (arg11 : Memref sig .tc .vmem S1x1024x1024 .bf16) (harg11 : arg11.IsWhole)
  (arg12 : Memref sig .tc .vmem S2x1024 .f32) (harg12 : arg12.IsWhole)
  (arg13 : Memref sig .tc .vmem S1x1024x1024 .bf16) (harg13 : arg13.IsWhole)
  (arg14 : Memref sig .tc .vmem S1x256x1024 .bf16) (harg14 : arg14.IsWhole)
  (arg15 : Memref sig .tc .vmem S1x1024 .f32) (harg15 : arg15.IsWhole)
  (arg16 : Memref sig .tc .vmem S1x1024x1024 .f32) (harg16 : arg16.IsWhole)
  (arg17 : Memref sig .tc .vmem S8x512 .f32) (harg17 : arg17.IsWhole)
  (x0 : Vec F S1x1024x1024 .f32) (x1 : Vec F S1x1x1024x256 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32)

set_option maxHeartbeats 4000000 in
/-- What the body leaves in the carried scratch at a later point of its sequence: the block's last tail. -/
theorem runB_scr (hc : ¬ first i) (z : Vec F S8x512 .f32) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 hc z).2.1 = [⟨Rect.unit (s := S8x512) ![0, 0] S8x512.size inb_S8x512_S8x512_0_0, keep (tl (xrow3 x0) x2 x3)⟩] := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, runB.sl.r_75, runB.sl.r_76, runB.sl.r_77, runB.sl.r_78, runB.sl.r_79, runB.sl.r_80, runB.sl.r_81, runB.sl.r_82, runB.sl.r_83, runB.sl.r_84, runB.sl.r_85, runB.sl.r_86, runB.sl.r_87, runB.sl.r_88, runB.sl.r_89, runB.sl.r_90, runB.sl.r_91, runB.sl.r_92, runB.sl.r_93, runB.sl.r_94, runB.sl.r_95, runB.sl.r_96, runB.sl.r_97, runB.sl.r_98, runB.sl.r_99, runB.sl.r_100, runB.sl.r_101, runB.sl.r_102, runB.sl.r_103, runB.sl.r_104, runB.sl.r_105, runB.sl.r_106, runB.sl.r_107, runB.sl.r_108, runB.sl.r_109, runB.sl.r_110, runB.sl.r_111, runB.sl.r_112, runB.sl.r_113, runB.sl.r_114, runB.sl.r_115, runB.sl.r_116, runB.sl.r_117, runB.sl.r_118, runB.sl.r_119, runB.sl.r_120, runB.sl.r_121, runB.sl.r_122, runB.sl.r_123, runB.sl.r_124, runB.sl.r_125, runB.sl.r_126, runB.sl.r_127, runB.sl.r_128, runB.sl.r_129, runB.sl.r_130, runB.sl.r_131, runB.sl.r_132, runB.sl.r_133, runB.sl.r_134, runB.sl.r_135, runB.sl.r_136, runB.sl.r_137, runB.sl.r_138, runB.sl.r_139, runB.sl.r_140, runB.sl.r_141, runB.sl.r_142, runB.sl.r_143, runB.sl.r_144, runB.sl.r_145, runB.sl.r_146, runB.sl.r_147, runB.sl.r_148, runB.sl.r_149, runB.sl.r_150, runB.sl.r_151, runB.sl.r_152, runB.sl.r_153, runB.sl.r_154, runB.sl.r_155, runB.sl.r_156, runB.sl.r_157, runB.sl.r_158, runB.sl.r_159, runB.sl.r_160, runB.sl.r_161, runB.sl.r_162, runB.sl.r_163, runB.sl.r_164, runB.sl.r_165, runB.sl.r_166, runB.sl.r_167, runB.sl.r_168, runB.sl.r_169, runB.sl.r_170, runB.sl.r_171, runB.sl.r_172, runB.sl.r_173, runB.sl.r_174, runB.sl.r_175, runB.sl.r_176, runB.sl.r_177, runB.sl.v407, runB.sl.cst_206, runB.sl.cst_256, runB.sl.cst_662, View.readAt_eq_ld, Memref.IsWhole.read_unread]
  rfl

set_option maxHeartbeats 4000000 in
/-- What the body stores in the output block at a later point of its sequence. -/
theorem runB_out (hc : ¬ first i) (z : Vec F S8x512 .f32) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 hc z).1 = outL (scr z) x0 x1 x2 x3 x4 x5 x6 x7 x8 x9 x10 x11 x12 x13 := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, runB.sl.r_75, runB.sl.r_76, runB.sl.r_77, runB.sl.r_78, runB.sl.r_79, runB.sl.r_80, runB.sl.r_81, runB.sl.r_82, runB.sl.r_83, runB.sl.r_84, runB.sl.r_85, runB.sl.r_86, runB.sl.r_87, runB.sl.r_88, runB.sl.r_89, runB.sl.r_90, runB.sl.r_91, runB.sl.r_92, runB.sl.r_93, runB.sl.r_94, runB.sl.r_95, runB.sl.r_96, runB.sl.r_97, runB.sl.r_98, runB.sl.r_99, runB.sl.r_100, runB.sl.r_101, runB.sl.r_102, runB.sl.r_103, runB.sl.r_104, runB.sl.r_105, runB.sl.r_106, runB.sl.r_107, runB.sl.r_108, runB.sl.r_109, runB.sl.r_110, runB.sl.r_111, runB.sl.r_112, runB.sl.r_113, runB.sl.r_114, runB.sl.r_115, runB.sl.r_116, runB.sl.r_117, runB.sl.r_118, runB.sl.r_119, runB.sl.r_120, runB.sl.r_121, runB.sl.r_122, runB.sl.r_123, runB.sl.r_124, runB.sl.r_125, runB.sl.r_126, runB.sl.r_127, runB.sl.r_128, runB.sl.r_129, runB.sl.r_130, runB.sl.r_131, runB.sl.r_132, runB.sl.r_133, runB.sl.r_134, runB.sl.r_135, runB.sl.r_136, runB.sl.r_137, runB.sl.r_138, runB.sl.r_139, runB.sl.r_140, runB.sl.r_141, runB.sl.r_142, runB.sl.r_143, runB.sl.r_144, runB.sl.r_145, runB.sl.r_146, runB.sl.r_147, runB.sl.r_148, runB.sl.r_149, runB.sl.r_150, runB.sl.r_151, runB.sl.r_152, runB.sl.r_153, runB.sl.r_154, runB.sl.r_155, runB.sl.r_156, runB.sl.r_157, runB.sl.r_158, runB.sl.r_159, runB.sl.r_160, runB.sl.r_161, runB.sl.r_162, runB.sl.r_163, runB.sl.r_164, runB.sl.r_165, runB.sl.r_166, runB.sl.r_167, runB.sl.r_168, runB.sl.r_169, runB.sl.r_170, runB.sl.r_171, runB.sl.r_172, runB.sl.r_173, runB.sl.r_174, runB.sl.r_175, runB.sl.r_176, runB.sl.r_177, runB.sl.v407, runB.sl.cst_206, runB.sl.cst_256, runB.sl.cst_662, View.readAt_eq_ld, Memref.IsWhole.read_unread]
  rfl

set_option maxHeartbeats 4000000 in
/-- What the body leaves in the carried scratch at the first point of its sequence: the block's last tail. -/
theorem runA_scr (hc : first i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 hc).2.1 = [⟨Rect.unit (s := S8x512) ![0, 0] S8x512.size inb_S8x512_S8x512_0_0, keep (tl (xrow3 x0) x2 x3)⟩, ⟨Rect.unit (s := S8x512) ![0, 0] S8x512.size inb_S8x512_S8x512_0_0, keep zeros⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, runA.sl.r_75, runA.sl.r_76, runA.sl.r_77, runA.sl.r_78, runA.sl.r_79, runA.sl.r_80, runA.sl.r_81, runA.sl.r_82, runA.sl.r_83, runA.sl.r_84, runA.sl.r_85, runA.sl.r_86, runA.sl.r_87, runA.sl.r_88, runA.sl.r_89, runA.sl.r_90, runA.sl.r_91, runA.sl.r_92, runA.sl.r_93, runA.sl.r_94, runA.sl.r_95, runA.sl.r_96, runA.sl.r_97, runA.sl.r_98, runA.sl.r_99, runA.sl.r_100, runA.sl.r_101, runA.sl.r_102, runA.sl.r_103, runA.sl.r_104, runA.sl.r_105, runA.sl.r_106, runA.sl.r_107, runA.sl.r_108, runA.sl.r_109, runA.sl.r_110, runA.sl.r_111, runA.sl.r_112, runA.sl.r_113, runA.sl.r_114, runA.sl.r_115, runA.sl.r_116, runA.sl.r_117, runA.sl.r_118, runA.sl.r_119, runA.sl.r_120, runA.sl.r_121, runA.sl.r_122, runA.sl.r_123, runA.sl.r_124, runA.sl.r_125, runA.sl.r_126, runA.sl.r_127, runA.sl.r_128, runA.sl.r_129, runA.sl.r_130, runA.sl.r_131, runA.sl.r_132, runA.sl.r_133, runA.sl.r_134, runA.sl.r_135, runA.sl.r_136, runA.sl.r_137, runA.sl.r_138, runA.sl.r_139, runA.sl.r_140, runA.sl.r_141, runA.sl.r_142, runA.sl.r_143, runA.sl.r_144, runA.sl.r_145, runA.sl.r_146, runA.sl.r_147, runA.sl.r_148, runA.sl.r_149, runA.sl.r_150, runA.sl.r_151, runA.sl.r_152, runA.sl.r_153, runA.sl.r_154, runA.sl.r_155, runA.sl.r_156, runA.sl.r_157, runA.sl.r_158, runA.sl.r_159, runA.sl.r_160, runA.sl.r_161, runA.sl.r_162, runA.sl.r_163, runA.sl.r_164, runA.sl.r_165, runA.sl.r_166, runA.sl.r_167, runA.sl.r_168, runA.sl.r_169, runA.sl.r_170, runA.sl.r_171, runA.sl.r_172, runA.sl.r_173, runA.sl.r_174, runA.sl.r_175, runA.sl.r_176, runA.sl.v407, runA.sl.cst_206, runA.sl.cst_256, runA.sl.cst_662, runA.sl.v60, runA.sl.HS_1, View.readAt_eq_ld, Memref.IsWhole.read_unread, View.readCov_cons_toLoadRect]
  rfl

set_option maxHeartbeats 4000000 in
/-- What the body stores in the output block at the first point of its sequence. -/
theorem runA_out (hc : first i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 hc).1 = outL (keep zeros) x0 x1 x2 x3 x4 x5 x6 x7 x8 x9 x10 x11 x12 x13 := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, runA.sl.r_75, runA.sl.r_76, runA.sl.r_77, runA.sl.r_78, runA.sl.r_79, runA.sl.r_80, runA.sl.r_81, runA.sl.r_82, runA.sl.r_83, runA.sl.r_84, runA.sl.r_85, runA.sl.r_86, runA.sl.r_87, runA.sl.r_88, runA.sl.r_89, runA.sl.r_90, runA.sl.r_91, runA.sl.r_92, runA.sl.r_93, runA.sl.r_94, runA.sl.r_95, runA.sl.r_96, runA.sl.r_97, runA.sl.r_98, runA.sl.r_99, runA.sl.r_100, runA.sl.r_101, runA.sl.r_102, runA.sl.r_103, runA.sl.r_104, runA.sl.r_105, runA.sl.r_106, runA.sl.r_107, runA.sl.r_108, runA.sl.r_109, runA.sl.r_110, runA.sl.r_111, runA.sl.r_112, runA.sl.r_113, runA.sl.r_114, runA.sl.r_115, runA.sl.r_116, runA.sl.r_117, runA.sl.r_118, runA.sl.r_119, runA.sl.r_120, runA.sl.r_121, runA.sl.r_122, runA.sl.r_123, runA.sl.r_124, runA.sl.r_125, runA.sl.r_126, runA.sl.r_127, runA.sl.r_128, runA.sl.r_129, runA.sl.r_130, runA.sl.r_131, runA.sl.r_132, runA.sl.r_133, runA.sl.r_134, runA.sl.r_135, runA.sl.r_136, runA.sl.r_137, runA.sl.r_138, runA.sl.r_139, runA.sl.r_140, runA.sl.r_141, runA.sl.r_142, runA.sl.r_143, runA.sl.r_144, runA.sl.r_145, runA.sl.r_146, runA.sl.r_147, runA.sl.r_148, runA.sl.r_149, runA.sl.r_150, runA.sl.r_151, runA.sl.r_152, runA.sl.r_153, runA.sl.r_154, runA.sl.r_155, runA.sl.r_156, runA.sl.r_157, runA.sl.r_158, runA.sl.r_159, runA.sl.r_160, runA.sl.r_161, runA.sl.r_162, runA.sl.r_163, runA.sl.r_164, runA.sl.r_165, runA.sl.r_166, runA.sl.r_167, runA.sl.r_168, runA.sl.r_169, runA.sl.r_170, runA.sl.r_171, runA.sl.r_172, runA.sl.r_173, runA.sl.r_174, runA.sl.r_175, runA.sl.r_176, runA.sl.v407, runA.sl.cst_206, runA.sl.cst_256, runA.sl.cst_662, runA.sl.v60, runA.sl.HS_1, View.readAt_eq_ld, Memref.IsWhole.read_unread, View.readCov_cons_toLoadRect]
  rfl

end
end Cert.KernelIdeal.L2
-- ==== Proof.Reg2.lean ====
module

public import proofs.«01_k».proof.Proof.Blk2
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit.Basic

/-! # Layer 1's region -/

@[expose] public section

set_option maxRecDepth 65536

noncomputable section

namespace Cert.KernelIdeal.L2

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (V : (b : Ref sig .tc) → Buf (Elt F) ((c : Thread nD τ).loc b))

/-- Window `w`'s block at point `t`, read off the array the region finds. -/
def iblk (w : Fin cfg2.W) (t : Fin cfg2.N) : ((cfg2.win w).xblock (cfg2.grid.coords t)).Idx → Elt F (cfg2.win w).elt :=
  ((cfg2.win w).blk t).view.read (Elt F) (V (Pipeline.arrRef spec2 w))

/-- Input window 0's block at a point, at its literal shape. -/
def in0 (t : Fin cfg2.N) : Vec F S1x1024x1024 .f32 := iblk c V 0 t

/-- Input window 1's block at a point, at its literal shape. -/
def in1 (t : Fin cfg2.N) : Vec F S1x1x1024x256 .f32 := iblk c V 1 t

/-- Input window 2's block at a point, at its literal shape. -/
def in2 (t : Fin cfg2.N) : Vec F S2x1024 .f32 := iblk c V 2 t

/-- Input window 3's block at a point, at its literal shape. -/
def in3 (t : Fin cfg2.N) : Vec F S1x1024x3584 .bf16 := iblk c V 3 t

/-- Input window 4's block at a point, at its literal shape. -/
def in4 (t : Fin cfg2.N) : Vec F S2x512 .f32 := iblk c V 4 t

/-- Input window 5's block at a point, at its literal shape. -/
def in5 (t : Fin cfg2.N) : Vec F S2x512 .f32 := iblk c V 5 t

/-- Input window 6's block at a point, at its literal shape. -/
def in6 (t : Fin cfg2.N) : Vec F S1x4x128x128 .f32 := iblk c V 6 t

/-- Input window 7's block at a point, at its literal shape. -/
def in7 (t : Fin cfg2.N) : Vec F S1x128x512 .f32 := iblk c V 7 t

/-- Input window 8's block at a point, at its literal shape. -/
def in8 (t : Fin cfg2.N) : Vec F S1x3x512 .f32 := iblk c V 8 t

/-- Input window 9's block at a point, at its literal shape. -/
def in9 (t : Fin cfg2.N) : Vec F S1x1024x1024 .bf16 := iblk c V 9 t

/-- Input window 10's block at a point, at its literal shape. -/
def in10 (t : Fin cfg2.N) : Vec F S2x1024 .f32 := iblk c V 10 t

/-- Input window 11's block at a point, at its literal shape. -/
def in11 (t : Fin cfg2.N) : Vec F S1x1024x1024 .bf16 := iblk c V 11 t

/-- Input window 12's block at a point, at its literal shape. -/
def in12 (t : Fin cfg2.N) : Vec F S1x256x1024 .bf16 := iblk c V 12 t

/-- Input window 13's block at a point, at its literal shape. -/
def in13 (t : Fin cfg2.N) : Vec F S1x1024 .f32 := iblk c V 13 t

/-- The tail the point `t` leaves in the carried scratch. -/
def carry (t : Fin cfg2.N) : Vec F S8x512 .f32 := keep (tl (xrow3 (in0 c V t)) (in2 c V t) (in3 c V t))

/-- The tail the body starts from at point `t`: zero at the first point of a sequence, else what the point before left. -/
def start (t : Fin cfg2.N) : FVec F S8x512 .f32 :=
  if t.val % 8 = 0 then keep zeros else scr (carry c V ⟨t.val - 1, lt_of_le_of_lt (Nat.sub_le _ _) t.isLt⟩)

/-- What the body leaves in the output's block at point `t`. -/
def out (t : Fin cfg2.N) : Vec F S1x1024x1024 .f32 := View.canon (outL (start c V t) (in0 c V t) (in1 c V t) (in2 c V t) (in3 c V t) (in4 c V t) (in5 c V t) (in6 c V t) (in7 c V t) (in8 c V t) (in9 c V t) (in10 c V t) (in11 c V t) (in12 c V t) (in13 c V t))

/-- The carried scratch. -/
abbrev scM : Memref sig .tc .vmem S8x512 .f32 := Memref.whole cc2_scratch0

/-- The body's condition holds at the first point of each sequence. -/
theorem first_iff (t : Fin cfg2.N) : first (grid2.coords t) ↔ t.val % 8 = 0 := by
  have ht : t.val < 64 := Nat.lt_of_lt_of_eq t.isLt N_2
  have e0 : (grid2.coords t 0).val = t.val / 8 % 8 := Pipeline.Grid.coords_val t 0 (by decide) rfl
  have e1 : (grid2.coords t 1).val = t.val / 1 % 8 := Pipeline.Grid.coords_val t 1 (by decide) rfl
  simp only [first, e0, e1]
  word_cmp

/-- The invariant before point `n`: the carried scratch at the tail the point before left (at anything before the first), beside the buffers the call does not touch. -/
def PhiS : (n : ℕ) → n ≤ cfg2.N → sProp 𝕄
  | 0, _ => iprop((∃ d, owns (c : Thread nD τ) scM fullShare d) ∗ Pipeline.scopedRestBut (Ix := Unit) (Name := ℕ) (U := UR sig nD τ) (Lvl := ℕ) (Val := Elt F) spec2 c [cc2_scratch0])
  | n + 1, hn => iprop(owns (c : Thread nD τ) scM fullShare (carry c V ⟨n, hn⟩) ∗ Pipeline.scopedRestBut (Ix := Unit) (Name := ℕ) (U := UR sig nD τ) (Lvl := ℕ) (Val := Elt F) spec2 c [cc2_scratch0])

/-- After point `n`, the scratch holds what it left. -/
theorem PhiS_succ (n : ℕ) (hn : n < cfg2.N) :
    PhiS c V (n + 1) hn = iprop(owns (c : Thread nD τ) scM fullShare (carry c V ⟨n, hn⟩) ∗ Pipeline.scopedRestBut (Ix := Unit) (Name := ℕ) (U := UR sig nD τ) (Lvl := ℕ) (Val := Elt F) spec2 c [cc2_scratch0]) := rfl

/-- Before a later point, the scratch holds what the point before left. -/
theorem PhiS_pos (n : ℕ) (h : n ≤ cfg2.N) (hz : n ≠ 0) :
    PhiS c V n h = iprop(owns (c : Thread nD τ) scM fullShare (carry c V ⟨n - 1, by omega⟩) ∗ Pipeline.scopedRestBut (Ix := Unit) (Name := ℕ) (U := UR sig nD τ) (Lvl := ℕ) (Val := Elt F) spec2 c [cc2_scratch0]) := by
  cases n with
  | zero => exact absurd rfl hz
  | succ n => rfl

/-- Before any point, the scratch holds something. -/
theorem PhiS_any (n : ℕ) (h : n ≤ cfg2.N) :
    PhiS c V n h ⊢ iprop((∃ d, owns (c : Thread nD τ) scM fullShare d) ∗ Pipeline.scopedRestBut (Ix := Unit) (Name := ℕ) (U := UR sig nD τ) (Lvl := ℕ) (Val := Elt F) spec2 c [cc2_scratch0]) := by
  cases n with
  | zero => exact Idealize.SL.BI.Entails.refl _
  | succ n =>
    unfold PhiS
    iintro ⟨H, Hr⟩
    isplitl [H]
    · iexists _; iexact H
    iexact Hr

/-- The region's data: the arrays as the region finds them; after the body each input's block in place and each output's block at what the body stores. -/
def dat : Dat τ (Elt F) Unit ℕ (UR sig nD τ) ℕ cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => iblk c V 9 t
    | ⟨10, _⟩ => iblk c V 10 t
    | ⟨11, _⟩ => iblk c V 11 t
    | ⟨12, _⟩ => iblk c V 12 t
    | ⟨13, _⟩ => iblk c V 13 t
    | ⟨14, _⟩ => out c V t
  Φ t := PhiS c V t.val (Nat.le_of_lt_succ t.isLt)
  q _ := fullShare
  owed _ := 0

/-- The data's arrays are the contents the region finds. -/
theorem A_eq (w : Fin cfg2.W) : (dat c V).A w = V (Pipeline.arrRef spec2 w) := by dsimp only [dat]

/-- The invariant at a point's start. -/
theorem Phi_castSucc (t : Fin cfg2.N) : (dat c V).Φ t.castSucc = PhiS c V t.val (Nat.le_of_lt t.isLt) := by
  dsimp only [dat]; exact Pipeline.Dat.Φ_castSucc (PhiS c V) t

/-- What the body leaves in window 0's buffer: its block. -/
theorem after_0 (t : Fin cfg2.N) : (dat c V).after 0 t = iblk c V 0 t := by dsimp only [dat]

/-- What the body leaves in window 1's buffer: its block. -/
theorem after_1 (t : Fin cfg2.N) : (dat c V).after 1 t = iblk c V 1 t := by dsimp only [dat]

/-- What the body leaves in window 2's buffer: its block. -/
theorem after_2 (t : Fin cfg2.N) : (dat c V).after 2 t = iblk c V 2 t := by dsimp only [dat]

/-- What the body leaves in window 3's buffer: its block. -/
theorem after_3 (t : Fin cfg2.N) : (dat c V).after 3 t = iblk c V 3 t := by dsimp only [dat]

/-- What the body leaves in window 4's buffer: its block. -/
theorem after_4 (t : Fin cfg2.N) : (dat c V).after 4 t = iblk c V 4 t := by dsimp only [dat]

/-- What the body leaves in window 5's buffer: its block. -/
theorem after_5 (t : Fin cfg2.N) : (dat c V).after 5 t = iblk c V 5 t := by dsimp only [dat]

/-- What the body leaves in window 6's buffer: its block. -/
theorem after_6 (t : Fin cfg2.N) : (dat c V).after 6 t = iblk c V 6 t := by dsimp only [dat]

/-- What the body leaves in window 7's buffer: its block. -/
theorem after_7 (t : Fin cfg2.N) : (dat c V).after 7 t = iblk c V 7 t := by dsimp only [dat]

/-- What the body leaves in window 8's buffer: its block. -/
theorem after_8 (t : Fin cfg2.N) : (dat c V).after 8 t = iblk c V 8 t := by dsimp only [dat]

/-- What the body leaves in window 9's buffer: its block. -/
theorem after_9 (t : Fin cfg2.N) : (dat c V).after 9 t = iblk c V 9 t := by dsimp only [dat]

/-- What the body leaves in window 10's buffer: its block. -/
theorem after_10 (t : Fin cfg2.N) : (dat c V).after 10 t = iblk c V 10 t := by dsimp only [dat]

/-- What the body leaves in window 11's buffer: its block. -/
theorem after_11 (t : Fin cfg2.N) : (dat c V).after 11 t = iblk c V 11 t := by dsimp only [dat]

/-- What the body leaves in window 12's buffer: its block. -/
theorem after_12 (t : Fin cfg2.N) : (dat c V).after 12 t = iblk c V 12 t := by dsimp only [dat]

/-- What the body leaves in window 13's buffer: its block. -/
theorem after_13 (t : Fin cfg2.N) : (dat c V).after 13 t = iblk c V 13 t := by dsimp only [dat]

/-- What the body leaves in window 14's buffer. -/
theorem after_14 (t : Fin cfg2.N) : (dat c V).after 14 t = out c V t := by dsimp only [dat]

/-- Input window 0's buffer holds its block at every point, fetched there or not. -/
theorem before_0 (t : Fin cfg2.N) (d) : (dat c V).before 0 t d = in0 c V t :=
  ((dat c V).before_in_eq_fetched 0 rfl (fun _ => rfl) (fun _ _ _ => rfl) (fun t => by rw [after_0]; unfold Dat.blockOf iblk; rw [A_eq]; try rfl) t d).trans
    (by unfold in0 Dat.fetched Dat.blockOf iblk; rw [A_eq]; try rfl)

/-- Input window 1's buffer holds its block at every point, fetched there or not. -/
theorem before_1 (t : Fin cfg2.N) (d) : (dat c V).before 1 t d = in1 c V t :=
  ((dat c V).before_in_eq_fetched 1 rfl (fun _ => rfl) (fun _ _ _ => rfl) (fun t => by rw [after_1]; unfold Dat.blockOf iblk; rw [A_eq]; try rfl) t d).trans
    (by unfold in1 Dat.fetched Dat.blockOf iblk; rw [A_eq]; try rfl)

/-- Input window 2's buffer holds its block at every point, fetched there or not. -/
theorem before_2 (t : Fin cfg2.N) (d) : (dat c V).before 2 t d = in2 c V t :=
  ((dat c V).before_in_eq_fetched 2 rfl (fun _ => rfl) (fun _ _ _ => rfl) (fun t => by rw [after_2]; unfold Dat.blockOf iblk; rw [A_eq]; try rfl) t d).trans
    (by unfold in2 Dat.fetched Dat.blockOf iblk; rw [A_eq]; try rfl)

/-- Input window 3's buffer holds its block at every point, fetched there or not. -/
theorem before_3 (t : Fin cfg2.N) (d) : (dat c V).before 3 t d = in3 c V t :=
  ((dat c V).before_in_eq_fetched 3 rfl (fun _ => rfl) (fun _ _ _ => rfl) (fun t => by rw [after_3]; unfold Dat.blockOf iblk; rw [A_eq]; try rfl) t d).trans
    (by unfold in3 Dat.fetched Dat.blockOf iblk; rw [A_eq]; try rfl)

/-- Input window 4's buffer holds its block at every point, fetched there or not. -/
theorem before_4 (t : Fin cfg2.N) (d) : (dat c V).before 4 t d = in4 c V t :=
  ((dat c V).before_in_eq_fetched 4 rfl (fun _ => rfl) (fun _ _ _ => rfl) (fun t => by rw [after_4]; unfold Dat.blockOf iblk; rw [A_eq]; try rfl) t d).trans
    (by unfold in4 Dat.fetched Dat.blockOf iblk; rw [A_eq]; try rfl)

/-- Input window 5's buffer holds its block at every point, fetched there or not. -/
theorem before_5 (t : Fin cfg2.N) (d) : (dat c V).before 5 t d = in5 c V t :=
  ((dat c V).before_in_eq_fetched 5 rfl (fun _ => rfl) (fun _ _ _ => rfl) (fun t => by rw [after_5]; unfold Dat.blockOf iblk; rw [A_eq]; try rfl) t d).trans
    (by unfold in5 Dat.fetched Dat.blockOf iblk; rw [A_eq]; try rfl)

/-- Input window 6's buffer holds its block at every point, fetched there or not. -/
theorem before_6 (t : Fin cfg2.N) (d) : (dat c V).before 6 t d = in6 c V t :=
  ((dat c V).before_in_eq_fetched 6 rfl (fun _ => rfl) (fun _ _ _ => rfl) (fun t => by rw [after_6]; unfold Dat.blockOf iblk; rw [A_eq]; try rfl) t d).trans
    (by unfold in6 Dat.fetched Dat.blockOf iblk; rw [A_eq]; try rfl)

/-- Input window 7's buffer holds its block at every point, fetched there or not. -/
theorem before_7 (t : Fin cfg2.N) (d) : (dat c V).before 7 t d = in7 c V t :=
  ((dat c V).before_in_eq_fetched 7 rfl (fun _ => rfl) (fun _ _ _ => rfl) (fun t => by rw [after_7]; unfold Dat.blockOf iblk; rw [A_eq]; try rfl) t d).trans
    (by unfold in7 Dat.fetched Dat.blockOf iblk; rw [A_eq]; try rfl)

/-- Input window 8's buffer holds its block at every point, fetched there or not. -/
theorem before_8 (t : Fin cfg2.N) (d) : (dat c V).before 8 t d = in8 c V t :=
  ((dat c V).before_in_eq_fetched 8 rfl (fun _ => rfl) (fun _ _ _ => rfl) (fun t => by rw [after_8]; unfold Dat.blockOf iblk; rw [A_eq]; try rfl) t d).trans
    (by unfold in8 Dat.fetched Dat.blockOf iblk; rw [A_eq]; try rfl)

/-- Input window 9's buffer holds its block at every point, fetched there or not. -/
theorem before_9 (t : Fin cfg2.N) (d) : (dat c V).before 9 t d = in9 c V t :=
  ((dat c V).before_in_eq_fetched 9 rfl (fun _ => rfl) (fun _ _ _ => rfl) (fun t => by rw [after_9]; unfold Dat.blockOf iblk; rw [A_eq]; try rfl) t d).trans
    (by unfold in9 Dat.fetched Dat.blockOf iblk; rw [A_eq]; try rfl)

/-- Input window 10's buffer holds its block at every point, fetched there or not. -/
theorem before_10 (t : Fin cfg2.N) (d) : (dat c V).before 10 t d = in10 c V t :=
  ((dat c V).before_in_eq_fetched 10 rfl (fun _ => rfl) (fun _ _ _ => rfl) (fun t => by rw [after_10]; unfold Dat.blockOf iblk; rw [A_eq]; try rfl) t d).trans
    (by unfold in10 Dat.fetched Dat.blockOf iblk; rw [A_eq]; try rfl)

/-- Input window 11's buffer holds its block at every point, fetched there or not. -/
theorem before_11 (t : Fin cfg2.N) (d) : (dat c V).before 11 t d = in11 c V t :=
  ((dat c V).before_in_eq_fetched 11 rfl (fun _ => rfl) (fun _ _ _ => rfl) (fun t => by rw [after_11]; unfold Dat.blockOf iblk; rw [A_eq]; try rfl) t d).trans
    (by unfold in11 Dat.fetched Dat.blockOf iblk; rw [A_eq]; try rfl)

/-- Input window 12's buffer holds its block at every point, fetched there or not. -/
theorem before_12 (t : Fin cfg2.N) (d) : (dat c V).before 12 t d = in12 c V t :=
  ((dat c V).before_in_eq_fetched 12 rfl (fun _ => rfl) (fun _ _ _ => rfl) (fun t => by rw [after_12]; unfold Dat.blockOf iblk; rw [A_eq]; try rfl) t d).trans
    (by unfold in12 Dat.fetched Dat.blockOf iblk; rw [A_eq]; try rfl)

/-- Input window 13's buffer holds its block at every point, fetched there or not. -/
theorem before_13 (t : Fin cfg2.N) (d) : (dat c V).before 13 t d = in13 c V t :=
  ((dat c V).before_in_eq_fetched 13 rfl (fun _ => rfl) (fun _ _ _ => rfl) (fun t => by rw [after_13]; unfold Dat.blockOf iblk; rw [A_eq]; try rfl) t d).trans
    (by unfold in13 Dat.fetched Dat.blockOf iblk; rw [A_eq]; try rfl)

/-- The stored pieces cover the output's block, so it reads as they say. -/
theorem read_out (v : View sig .tc .vmem S1x1024x1024 .f32) (f) (L : List (View.Piece (Elt F) S1x1024x1024 .f32)) (s : FVec F S8x512 .f32) (x0 : Vec F S1x1024x1024 .f32) (x1 : Vec F S1x1x1024x256 .f32) (x2 : Vec F S2x1024 .f32) (x3 : Vec F S1x1024x3584 .bf16) (x4 : Vec F S2x512 .f32) (x5 : Vec F S2x512 .f32) (x6 : Vec F S1x4x128x128 .f32) (x7 : Vec F S1x128x512 .f32) (x8 : Vec F S1x3x512 .f32) (x9 : Vec F S1x1024x1024 .bf16) (x10 : Vec F S2x1024 .f32) (x11 : Vec F S1x1024x1024 .bf16) (x12 : Vec F S1x256x1024 .bf16) (x13 : Vec F S1x1024 .f32)
    (h : L = outL s x0 x1 x2 x3 x4 x5 x6 x7 x8 x9 x10 x11 x12 x13) : v.read (Elt F) (v.writes (Elt F) f L) = View.canon (outL s x0 x1 x2 x3 x4 x5 x6 x7 x8 x9 x10 x11 x12 x13) := by
  subst h
  exact View.read_writes_eq_canon _ _ _ (View.cover_of_tiledL (outL s x0 x1 x2 x3 x4 x5 x6 x7 x8 x9 x10 x11 x12 x13) S1x256x1024.size (by sl_kernel_rfl))

/-- The carried scratch reads as what was stored last. -/
theorem read_scr (v : View sig .tc .vmem S8x512 .f32) (f) (L M : List (View.Piece (Elt F) S8x512 .f32)) (w : Vec F S8x512 .f32)
    (h : L = ⟨Rect.unit (s := S8x512) ![0, 0] S8x512.size inb_S8x512_S8x512_0_0, w⟩ :: M) : v.read (Elt F) (v.writes (Elt F) f L) = w := by
  subst h
  refine (View.read_writes_eq_canon _ _ _ fun y => ⟨_, List.mem_cons_self, ?_⟩).trans (View.canon_cons_unit_lit _ _ _ (by decide))
  obtain ⟨p, hp, hy⟩ := View.cover_of_tiledL [(⟨Rect.unit (s := S8x512) ![0, 0] S8x512.size inb_S8x512_S8x512_0_0, w⟩ : View.Piece (Elt F) S8x512 .f32)] S8x512.size (by sl_kernel_rfl) y
  rw [List.mem_singleton] at hp
  subst hp
  exact hy

/-- What the body is called with at point `t`. -/
def bodyPre (t : Fin cfg2.N) : sProp 𝕄 :=
  iprop((dat c V).Φ t.castSucc ∗ (dat c V).owesAt () t.castSucc
    ∗ (∃ d, owns (c : Thread nD τ) (st2_0 t) fullShare ((dat c V).before 0 t d))
    ∗ (∃ d, owns (c : Thread nD τ) (st2_1 t) fullShare ((dat c V).before 1 t d))
    ∗ (∃ d, owns (c : Thread nD τ) (st2_2 t) fullShare ((dat c V).before 2 t d))
    ∗ (∃ d, owns (c : Thread nD τ) (st2_3 t) fullShare ((dat c V).before 3 t d))
    ∗ (∃ d, owns (c : Thread nD τ) (st2_4 t) fullShare ((dat c V).before 4 t d))
    ∗ (∃ d, owns (c : Thread nD τ) (st2_5 t) fullShare ((dat c V).before 5 t d))
    ∗ (∃ d, owns (c : Thread nD τ) (st2_6 t) fullShare ((dat c V).before 6 t d))
    ∗ (∃ d, owns (c : Thread nD τ) (st2_7 t) fullShare ((dat c V).before 7 t d))
    ∗ (∃ d, owns (c : Thread nD τ) (st2_8 t) fullShare ((dat c V).before 8 t d))
    ∗ (∃ d, owns (c : Thread nD τ) (st2_9 t) fullShare ((dat c V).before 9 t d))
    ∗ (∃ d, owns (c : Thread nD τ) (st2_10 t) fullShare ((dat c V).before 10 t d))
    ∗ (∃ d, owns (c : Thread nD τ) (st2_11 t) fullShare ((dat c V).before 11 t d))
    ∗ (∃ d, owns (c : Thread nD τ) (st2_12 t) fullShare ((dat c V).before 12 t d))
    ∗ (∃ d, owns (c : Thread nD τ) (st2_13 t) fullShare ((dat c V).before 13 t d))
    ∗ (∃ d, owns (c : Thread nD τ) (st2_14 t) fullShare ((dat c V).before 14 t d)))

/-- What the body returns at point `t`. -/
def bodyPost (t : Fin cfg2.N) : sProp 𝕄 :=
  iprop((dat c V).Φ t.succ ∗ (dat c V).owesAt () t.succ
    ∗ owns (c : Thread nD τ) (st2_0 t) fullShare ((dat c V).after 0 t)
    ∗ owns (c : Thread nD τ) (st2_1 t) fullShare ((dat c V).after 1 t)
    ∗ owns (c : Thread nD τ) (st2_2 t) fullShare ((dat c V).after 2 t)
    ∗ owns (c : Thread nD τ) (st2_3 t) fullShare ((dat c V).after 3 t)
    ∗ owns (c : Thread nD τ) (st2_4 t) fullShare ((dat c V).after 4 t)
    ∗ owns (c : Thread nD τ) (st2_5 t) fullShare ((dat c V).after 5 t)
    ∗ owns (c : Thread nD τ) (st2_6 t) fullShare ((dat c V).after 6 t)
    ∗ owns (c : Thread nD τ) (st2_7 t) fullShare ((dat c V).after 7 t)
    ∗ owns (c : Thread nD τ) (st2_8 t) fullShare ((dat c V).after 8 t)
    ∗ owns (c : Thread nD τ) (st2_9 t) fullShare ((dat c V).after 9 t)
    ∗ owns (c : Thread nD τ) (st2_10 t) fullShare ((dat c V).after 10 t)
    ∗ owns (c : Thread nD τ) (st2_11 t) fullShare ((dat c V).after 11 t)
    ∗ owns (c : Thread nD τ) (st2_12 t) fullShare ((dat c V).after 12 t)
    ∗ owns (c : Thread nD τ) (st2_13 t) fullShare ((dat c V).after 13 t)
    ∗ owns (c : Thread nD τ) (st2_14 t) fullShare ((dat c V).after 14 t))

set_option maxHeartbeats 12800000 in
/-- The body at any point: from the inputs' blocks it leaves the outputs' blocks as stated. -/
theorem sound_body (t : Fin cfg2.N) :
    bodyPre c V t ⊢ wp frame (wpE (defs₀ (F := F)) Variants.none c none) Set.univ (bodyAt2 t) (fun _ => bodyPost c V t) := by
  unfold bodyPre bodyPost bodyAt2
  simp only [before_0, before_1, before_2, before_3, before_4, before_5, before_6, before_7, before_8, before_9, before_10, before_11, before_12, before_13]
  rw [show (dat c V).owesAt () t.succ = (dat c V).owesAt () t.castSucc from rfl,
    after_0, after_1, after_2, after_3, after_4, after_5, after_6, after_7, after_8, after_9, after_10, after_11, after_12, after_13, after_14]
  rw [show (dat c V).Φ t.succ = PhiS c V (t.val + 1) t.isLt from rfl, Phi_castSucc c V t]
  by_cases h0 : t.val % 8 = 0
  · have hs : start c V t = keep zeros := if_pos h0
    unfold out
    rw [hs]
    rw [PhiS_succ]
    refine (sep_mono_l (PhiS_any c V _ _)).trans ?_
    show iprop(iprop((∃ d, owns (c : Thread nD τ) scM fullShare d) ∗ _) ∗ _) ⊢ _
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA c (grid2.coords t) _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) ((first_iff t).mpr h0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS]; · iexact HS
    iintro ⟨H0, H1, H2, H3, H4, H5, H6, H7, H8, H9, H10, H11, H12, H13, ⟨%e14, H14⟩, ⟨%es, HS⟩⟩
    isplitl [HS Hr]
    · isplitl [HS]
      · unfold owns; iexists _; isplitr
        swap; · iexact HS
        ipureintro; exact read_scr _ _ _ _ _ (runA_scr c _ _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) ((first_iff t).mpr h0))
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact read_out _ _ _ _ _ _ _ _ _ _ _ _ _ _ _ _ _ _ (runA_out c _ _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) ((first_iff t).mpr h0))
  · have hz : t.val ≠ 0 := fun h => h0 (by rw [h])
    have hs : start c V t = scr (carry c V ⟨t.val - 1, lt_of_le_of_lt (Nat.sub_le _ _) t.isLt⟩) := if_neg h0
    unfold out
    rw [hs, PhiS_succ, PhiS_pos c V t.val _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runB c (grid2.coords t) _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) (fun h => h0 ((first_iff t).mp h)) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS]; · iexact HS
    iintro ⟨H0, H1, H2, H3, H4, H5, H6, H7, H8, H9, H10, H11, H12, H13, ⟨%e14, H14⟩, ⟨%es, HS⟩⟩
    isplitl [HS Hr]
    · isplitl [HS]
      · unfold owns; iexists _; isplitr
        swap; · iexact HS
        ipureintro; exact read_scr _ _ _ _ _ (runB_scr c _ _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) (fun h => h0 ((first_iff t).mp h)) _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact read_out _ _ _ _ _ _ _ _ _ _ _ _ _ _ _ _ _ _ (runB_out c _ _ _ _ _ _ _ _ _ _ _ _ _ _ _ _ _ _ _ _ _ _ _ _ _ _ _ _ _ _ _ _ _ (in0 c V t) (in1 c V t) (in2 c V t) (in3 c V t) (in4 c V t) (in5 c V t) (in6 c V t) (in7 c V t) (in8 c V t) (in9 c V t) (in10 c V t) (in11 c V t) (in12 c V t) (in13 c V t) (fun h => h0 ((first_iff t).mp h)) _)

/-- The body the table names at point `t`'s buffers. -/
theorem defs_row (t : Fin cfg2.N) : defs₀ (F := F) .tc cfg2.body (cfg2.bodyArgs t (cfg2.slots t)) = bodyAt2 t := by
  unfold defs₀; rw [Defs.onTc_tc]

/-- The body's triple at every point, as the region asks for it. -/
theorem body_obligation : BodyObligation (dat c V) (defs₀ (F := F)) Variants.none () Set.univ := fun t => by
  rw [bigSep_W2, bigSep_W2, defs_row]
  exact triple_restated (sound_body c V t) rfl .rfl fun _ => .rfl

/-- The buffers the call does not stage are the invariant before the first point. -/
theorem hin : Pipeline.scopedRest (Ix := Unit) (Name := ℕ) (U := UR sig nD τ) (Lvl := ℕ) (Val := Elt F) spec2 c ⊢ (dat c V).Φ 0 := by
  rw [show (dat c V).Φ 0 = PhiS c V 0 (Nat.zero_le _) from rfl, scopedRest2_split]
  unfold PhiS
  simp only [scM, owns_whole]
  exact Idealize.SL.BI.Entails.refl _

/-- After the last point the invariant gives them back. -/
theorem hout : (dat c V).Φ (Fin.last cfg2.N) ⊢ Pipeline.scopedRest (Ix := Unit) (Name := ℕ) (U := UR sig nD τ) (Lvl := ℕ) (Val := Elt F) spec2 c := by
  rw [show (dat c V).Φ (Fin.last cfg2.N) = PhiS c V (Fin.last cfg2.N).val (Nat.le_of_lt_succ (Fin.last cfg2.N).isLt) from rfl, scopedRest2_split]
  refine (PhiS_any c V _ _).trans ?_
  simp only [scM, owns_whole]
  exact Idealize.SL.BI.Entails.refl _

end Cert.KernelIdeal.L2
-- ==== Proof.Main.lean ====
module

public import proofs.«01_k».proof.Proof.Reg0
public import proofs.«01_k».proof.Proof.Reg1
public import proofs.«01_k».proof.Proof.Reg2
public import proofs.«01_k».proof.Proof.Gen.KernelIdeal.Regions
public import Idealize.ShloMosaic.Lib.Pipeline.RegionArrays
public import Idealize.ShloMosaic.Lib.Pipeline.FrameSuffix

/-! # The program's run

The three regions and the host stretches between them, chained: every unscoped buffer is held at one valuation per item. -/

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers at launch. -/
def W0 (c : Dev nD) : Valuation τ sig (Elt F) := fun b => m (c, b)

/-- The buffers after the first host stretch. -/
def W1 (c : Dev nD) : Valuation τ sig (Elt F) := StableHlo.after hostOps0 (W0 m c)

/-- Region 0's data, entered from those buffers. -/
def dat0 (c : Dev nD) : Dat τ (Elt F) Unit ℕ (UR sig nD τ) ℕ cfg0 c := L0.dat c (fun b => W1 m c (Proc.devRef .tc b))

/-- The buffers after the weight preparation: its arrays as it leaves them, the rest as it found it. -/
def W2 (c : Dev nD) : Valuation τ sig (Elt F) := Pipeline.withArrays spec0 c (W1 m c) (fun w => (dat0 m c).arrAt w cfg0.N)

/-- The buffers after the second host stretch. -/
def W3 (c : Dev nD) : Valuation τ sig (Elt F) := StableHlo.after hostOps1 (W2 m c)

/-- Region 1's data, entered from those buffers. -/
def dat1 (c : Dev nD) : Dat τ (Elt F) Unit ℕ (UR sig nD τ) ℕ cfg1 c := L1.dat c (fun b => W3 m c (Proc.devRef .tc b))

/-- The buffers after the first layer: its arrays as it leaves them, the rest as it found it. -/
def W4 (c : Dev nD) : Valuation τ sig (Elt F) := Pipeline.withArrays spec1 c (W3 m c) (fun w => (dat1 m c).arrAt w cfg1.N)

/-- The buffers after the third host stretch. -/
def W5 (c : Dev nD) : Valuation τ sig (Elt F) := StableHlo.after hostOps2 (W4 m c)

/-- Region 2's data, entered from those buffers. -/
def dat2 (c : Dev nD) : Dat τ (Elt F) Unit ℕ (UR sig nD τ) ℕ cfg2 c := L2.dat c (fun b => W5 m c (Proc.devRef .tc b))

/-- The buffers after the second layer: its arrays as it leaves them, the rest as it found it. -/
def W6 (c : Dev nD) : Valuation τ sig (Elt F) := Pipeline.withArrays spec2 c (W5 m c) (fun w => (dat2 m c).arrAt w cfg2.N)

/-- The regions' data. -/
def pdats : (p : Fin 3) → (c : Dev nD) → Dat τ (Elt F) Unit ℕ (UR sig nD τ) ℕ (cfgs p) c
  | ⟨0, _⟩, c => dat0 m c
  | ⟨1, _⟩, c => dat1 m c
  | ⟨2, _⟩, c => dat2 m c

/-- The levels: the one index at a core's own cells. -/
def Lv (g : GSem nD τ sig) : Finset Unit := if g.1.2 = .tc then {()} else ∅

/-- What rides between two items beside the buffers: nothing owed. -/
def E (c : Dev nD) : sProp 𝕄 := iprop(∃ W, owes (c : Thread nD τ) (0 : CellTallies nD τ sig Unit) W)

/-- The buffers the call does not stage are region 0's invariant. -/
theorem open0 (c : Dev nD) : iprop(Pipeline.scopedRest (Ix := Unit) (Name := ℕ) (U := UR sig nD τ) (Lvl := ℕ) (Val := Elt F) spec0 c ∗ emp) ⊢ (dat0 m c).Φ 0 := by
  show _ ⊢ Pipeline.scopedRest (Ix := Unit) (Name := ℕ) (U := UR sig nD τ) (Lvl := ℕ) (Val := Elt F) spec0 c
  iintro ⟨H, -⟩
  iexact H

/-- Region 0's invariant gives them back. -/
theorem shut0 (c : Dev nD) : (dat0 m c).Φ (Fin.last cfg0.N) ⊢ iprop(Pipeline.scopedRest (Ix := Unit) (Name := ℕ) (U := UR sig nD τ) (Lvl := ℕ) (Val := Elt F) spec0 c ∗ emp) := by
  show Pipeline.scopedRest (Ix := Unit) (Name := ℕ) (U := UR sig nD τ) (Lvl := ℕ) (Val := Elt F) spec0 c ⊢ _
  iintro H
  isplitl [H]; · iexact H
  iempintro

/-- Region 0 takes its arrays whole. -/
theorem share0 (c : Dev nD) (w : Fin cfg0.W) : (dat0 m c).share w = fullShare := by
  unfold Dat.share
  split <;> rfl

/-- Region 0 leaves every buffer that is not one of its arrays as it found it. -/
theorem rest0 (c : Dev nD) (b : DevRef τ sig) (hb : b ∈ Pipeline.ucRefs τ sig \ Pipeline.arrRefs spec0) : W1 m c b = W2 m c b := by
  obtain ⟨h1, h2⟩ := Finset.mem_sdiff.mp hb
  unfold W2 Pipeline.withArrays
  rw [dif_neg]
  rintro ⟨w, rfl⟩
  exact h2 (Finset.mem_map.mpr ⟨_, Finset.mem_image.mpr ⟨w, Finset.mem_univ _, rfl⟩, rfl⟩)

set_option backward.isDefEq.respectTransparency.types false in
/-- Region 0 as a segment over its arrays. -/
def reg0 : RegionSeg (pcfgs (F := F)) adm (pdats m) () defs₀ Variants.none Lv (fun _ _ => 0) 0 :=
  RegionSeg.ofHeld (pcfgs (F := F)) adm (pdats m) () defs₀ Variants.none Lv (fun _ _ => (0 : ℕ)) 0 (fun _ => 0)
    (fun _ => iprop(emp)) (fun _ => iprop(emp)) launch0.toP rfl
    (fun c => (L0.body_obligation c (fun b => W1 m c (Proc.devRef .tc b))).loose)
    (fun _ _ => rfl) (fun _ => rfl) (share0 m)
    (open0 m)
    (shut0 m)
    (fun _ => 0)
    ⟨fun _ _ _ => by unfold Lv; rw [if_pos rfl]; exact Finset.mem_singleton_self _, fun _ _ _ => le_refl _,
      fun _ _ _ h => absurd h (Nat.not_lt_zero _)⟩
    (fun c => StableHlo.held (c : Thread nD τ) (Pipeline.ucRefs τ sig \ Pipeline.arrRefs spec0) (W1 m c))
    (W1 m) (W2 m)
    (fun _ _ => rfl)
    (fun c w => (Pipeline.withArrays_arr spec0 winFacts0.arr_inj c (W1 m c) (fun w => (dat0 m c).arrAt w cfg0.N) w).symm)

set_option backward.isDefEq.respectTransparency.types false in
/-- The held buffers open region 0. -/
theorem enter0 (c : Dev nD) : iprop(StableHlo.held (c : Thread nD τ) (Pipeline.ucRefs τ sig) (W1 m c) ∗ E c) ⊢ (reg0 m).pre c := by
  show _ ⊢ iprop(StableHlo.held (c : Thread nD τ) (Pipeline.arrRefs spec0) (W1 m c) ∗ emp ∗ StableHlo.held (c : Thread nD τ) (Pipeline.ucRefs τ sig \ Pipeline.arrRefs spec0) (W1 m c) ∗ E c)
  rw [StableHlo.held_sub_split (c : Thread nD τ) (Pipeline.arrRefs_sub_ucRefs spec0 winFacts0.arr_unscoped) (W1 m c)]
  iintro ⟨⟨Ha, Hr⟩, He⟩
  isplitl [Ha]; · iexact Ha
  isplitr; · iempintro
  isplitl [Hr]; · iexact Hr
  iexact He

set_option backward.isDefEq.respectTransparency.types false in
/-- Region 0 closes to the held buffers. -/
theorem leave0 (c : Dev nD) : (reg0 m).post c ⊢ iprop(StableHlo.held (c : Thread nD τ) (Pipeline.ucRefs τ sig) (W2 m c) ∗ E c) := by
  show iprop(StableHlo.held (c : Thread nD τ) (Pipeline.arrRefs spec0) (W2 m c) ∗ emp ∗ StableHlo.held (c : Thread nD τ) (Pipeline.ucRefs τ sig \ Pipeline.arrRefs spec0) (W1 m c) ∗ E c) ⊢ _
  rw [StableHlo.held_sub_split (c : Thread nD τ) (Pipeline.arrRefs_sub_ucRefs spec0 winFacts0.arr_unscoped) (W2 m c)]
  rw [StableHlo.held_congr (c : Thread nD τ) (S := Pipeline.ucRefs τ sig \ Pipeline.arrRefs spec0) (V := W1 m c) (V' := W2 m c) (rest0 m c)]
  iintro ⟨Ha, -, Hr, He⟩
  isplitl [Ha Hr]
  · isplitl [Ha]; · iexact Ha
    iexact Hr
  iexact He

/-- The buffers the call does not stage are region 1's invariant before the first point. -/
theorem open1 (c : Dev nD) : iprop(Pipeline.scopedRest (Ix := Unit) (Name := ℕ) (U := UR sig nD τ) (Lvl := ℕ) (Val := Elt F) spec1 c ∗ emp) ⊢ (dat1 m c).Φ 0 := by
  iintro ⟨H, -⟩
  unfold dat1
  iapply (L1.hin c (fun b => W3 m c (Proc.devRef .tc b)))
  iexact H

/-- Region 1's invariant gives them back after the last point. -/
theorem shut1 (c : Dev nD) : (dat1 m c).Φ (Fin.last cfg1.N) ⊢ iprop(Pipeline.scopedRest (Ix := Unit) (Name := ℕ) (U := UR sig nD τ) (Lvl := ℕ) (Val := Elt F) spec1 c ∗ emp) := by
  iintro H
  unfold dat1
  isplitl [H]
  · iapply (L1.hout c (fun b => W3 m c (Proc.devRef .tc b)))
    iexact H
  iempintro

/-- Region 1 takes its arrays whole. -/
theorem share1 (c : Dev nD) (w : Fin cfg1.W) : (dat1 m c).share w = fullShare := by
  unfold Dat.share
  split <;> rfl

/-- Region 1 leaves every buffer that is not one of its arrays as it found it. -/
theorem rest1 (c : Dev nD) (b : DevRef τ sig) (hb : b ∈ Pipeline.ucRefs τ sig \ Pipeline.arrRefs spec1) : W3 m c b = W4 m c b := by
  obtain ⟨h1, h2⟩ := Finset.mem_sdiff.mp hb
  unfold W4 Pipeline.withArrays
  rw [dif_neg]
  rintro ⟨w, rfl⟩
  exact h2 (Finset.mem_map.mpr ⟨_, Finset.mem_image.mpr ⟨w, Finset.mem_univ _, rfl⟩, rfl⟩)

set_option backward.isDefEq.respectTransparency.types false in
/-- Region 1 as a segment over its arrays. -/
def reg1 : RegionSeg (pcfgs (F := F)) adm (pdats m) () defs₀ Variants.none Lv (fun _ _ => 0) 1 :=
  RegionSeg.ofHeld (pcfgs (F := F)) adm (pdats m) () defs₀ Variants.none Lv (fun _ _ => (0 : ℕ)) 1 (fun _ => 0)
    (fun _ => iprop(emp)) (fun _ => iprop(emp)) launch1.toP rfl
    (fun c => (L1.body_obligation c (fun b => W3 m c (Proc.devRef .tc b))).loose)
    (fun _ _ => rfl) (fun _ => rfl) (share1 m)
    (open1 m)
    (shut1 m)
    (fun _ => 0)
    ⟨fun _ _ _ => by unfold Lv; rw [if_pos rfl]; exact Finset.mem_singleton_self _, fun _ _ _ => le_refl _,
      fun _ _ _ h => absurd h (Nat.not_lt_zero _)⟩
    (fun c => StableHlo.held (c : Thread nD τ) (Pipeline.ucRefs τ sig \ Pipeline.arrRefs spec1) (W3 m c))
    (W3 m) (W4 m)
    (fun _ _ => rfl)
    (fun c w => (Pipeline.withArrays_arr spec1 winFacts1.arr_inj c (W3 m c) (fun w => (dat1 m c).arrAt w cfg1.N) w).symm)

set_option backward.isDefEq.respectTransparency.types false in
/-- The held buffers open region 1. -/
theorem enter1 (c : Dev nD) : iprop(StableHlo.held (c : Thread nD τ) (Pipeline.ucRefs τ sig) (W3 m c) ∗ E c) ⊢ (reg1 m).pre c := by
  show _ ⊢ iprop(StableHlo.held (c : Thread nD τ) (Pipeline.arrRefs spec1) (W3 m c) ∗ emp ∗ StableHlo.held (c : Thread nD τ) (Pipeline.ucRefs τ sig \ Pipeline.arrRefs spec1) (W3 m c) ∗ E c)
  rw [StableHlo.held_sub_split (c : Thread nD τ) (Pipeline.arrRefs_sub_ucRefs spec1 winFacts1.arr_unscoped) (W3 m c)]
  iintro ⟨⟨Ha, Hr⟩, He⟩
  isplitl [Ha]; · iexact Ha
  isplitr; · iempintro
  isplitl [Hr]; · iexact Hr
  iexact He

set_option backward.isDefEq.respectTransparency.types false in
/-- Region 1 closes to the held buffers. -/
theorem leave1 (c : Dev nD) : (reg1 m).post c ⊢ iprop(StableHlo.held (c : Thread nD τ) (Pipeline.ucRefs τ sig) (W4 m c) ∗ E c) := by
  show iprop(StableHlo.held (c : Thread nD τ) (Pipeline.arrRefs spec1) (W4 m c) ∗ emp ∗ StableHlo.held (c : Thread nD τ) (Pipeline.ucRefs τ sig \ Pipeline.arrRefs spec1) (W3 m c) ∗ E c) ⊢ _
  rw [StableHlo.held_sub_split (c : Thread nD τ) (Pipeline.arrRefs_sub_ucRefs spec1 winFacts1.arr_unscoped) (W4 m c)]
  rw [StableHlo.held_congr (c : Thread nD τ) (S := Pipeline.ucRefs τ sig \ Pipeline.arrRefs spec1) (V := W3 m c) (V' := W4 m c) (rest1 m c)]
  iintro ⟨Ha, -, Hr, He⟩
  isplitl [Ha Hr]
  · isplitl [Ha]; · iexact Ha
    iexact Hr
  iexact He

/-- The buffers the call does not stage are region 2's invariant before the first point. -/
theorem open2 (c : Dev nD) : iprop(Pipeline.scopedRest (Ix := Unit) (Name := ℕ) (U := UR sig nD τ) (Lvl := ℕ) (Val := Elt F) spec2 c ∗ emp) ⊢ (dat2 m c).Φ 0 := by
  iintro ⟨H, -⟩
  unfold dat2
  iapply (L2.hin c (fun b => W5 m c (Proc.devRef .tc b)))
  iexact H

/-- Region 2's invariant gives them back after the last point. -/
theorem shut2 (c : Dev nD) : (dat2 m c).Φ (Fin.last cfg2.N) ⊢ iprop(Pipeline.scopedRest (Ix := Unit) (Name := ℕ) (U := UR sig nD τ) (Lvl := ℕ) (Val := Elt F) spec2 c ∗ emp) := by
  iintro H
  unfold dat2
  isplitl [H]
  · iapply (L2.hout c (fun b => W5 m c (Proc.devRef .tc b)))
    iexact H
  iempintro

/-- Region 2 takes its arrays whole. -/
theorem share2 (c : Dev nD) (w : Fin cfg2.W) : (dat2 m c).share w = fullShare := by
  unfold Dat.share
  split <;> rfl

/-- Region 2 leaves every buffer that is not one of its arrays as it found it. -/
theorem rest2 (c : Dev nD) (b : DevRef τ sig) (hb : b ∈ Pipeline.ucRefs τ sig \ Pipeline.arrRefs spec2) : W5 m c b = W6 m c b := by
  obtain ⟨h1, h2⟩ := Finset.mem_sdiff.mp hb
  unfold W6 Pipeline.withArrays
  rw [dif_neg]
  rintro ⟨w, rfl⟩
  exact h2 (Finset.mem_map.mpr ⟨_, Finset.mem_image.mpr ⟨w, Finset.mem_univ _, rfl⟩, rfl⟩)

set_option backward.isDefEq.respectTransparency.types false in
/-- Region 2 as a segment over its arrays. -/
def reg2 : RegionSeg (pcfgs (F := F)) adm (pdats m) () defs₀ Variants.none Lv (fun _ _ => 0) 2 :=
  RegionSeg.ofHeld (pcfgs (F := F)) adm (pdats m) () defs₀ Variants.none Lv (fun _ _ => (0 : ℕ)) 2 (fun _ => 0)
    (fun _ => iprop(emp)) (fun _ => iprop(emp)) launch2.toP rfl
    (fun c => (L2.body_obligation c (fun b => W5 m c (Proc.devRef .tc b))).loose)
    (fun _ _ => rfl) (fun _ => rfl) (share2 m)
    (open2 m)
    (shut2 m)
    (fun _ => 0)
    ⟨fun _ _ _ => by unfold Lv; rw [if_pos rfl]; exact Finset.mem_singleton_self _, fun _ _ _ => le_refl _,
      fun _ _ _ h => absurd h (Nat.not_lt_zero _)⟩
    (fun c => StableHlo.held (c : Thread nD τ) (Pipeline.ucRefs τ sig \ Pipeline.arrRefs spec2) (W5 m c))
    (W5 m) (W6 m)
    (fun _ _ => rfl)
    (fun c w => (Pipeline.withArrays_arr spec2 winFacts2.arr_inj c (W5 m c) (fun w => (dat2 m c).arrAt w cfg2.N) w).symm)

set_option backward.isDefEq.respectTransparency.types false in
/-- The held buffers open region 2. -/
theorem enter2 (c : Dev nD) : iprop(StableHlo.held (c : Thread nD τ) (Pipeline.ucRefs τ sig) (W5 m c) ∗ E c) ⊢ (reg2 m).pre c := by
  show _ ⊢ iprop(StableHlo.held (c : Thread nD τ) (Pipeline.arrRefs spec2) (W5 m c) ∗ emp ∗ StableHlo.held (c : Thread nD τ) (Pipeline.ucRefs τ sig \ Pipeline.arrRefs spec2) (W5 m c) ∗ E c)
  rw [StableHlo.held_sub_split (c : Thread nD τ) (Pipeline.arrRefs_sub_ucRefs spec2 winFacts2.arr_unscoped) (W5 m c)]
  iintro ⟨⟨Ha, Hr⟩, He⟩
  isplitl [Ha]; · iexact Ha
  isplitr; · iempintro
  isplitl [Hr]; · iexact Hr
  iexact He

set_option backward.isDefEq.respectTransparency.types false in
/-- Region 2 closes to the held buffers. -/
theorem leave2 (c : Dev nD) : (reg2 m).post c ⊢ iprop(StableHlo.held (c : Thread nD τ) (Pipeline.ucRefs τ sig) (W6 m c) ∗ E c) := by
  show iprop(StableHlo.held (c : Thread nD τ) (Pipeline.arrRefs spec2) (W6 m c) ∗ emp ∗ StableHlo.held (c : Thread nD τ) (Pipeline.ucRefs τ sig \ Pipeline.arrRefs spec2) (W5 m c) ∗ E c) ⊢ _
  rw [StableHlo.held_sub_split (c : Thread nD τ) (Pipeline.arrRefs_sub_ucRefs spec2 winFacts2.arr_unscoped) (W6 m c)]
  rw [StableHlo.held_congr (c : Thread nD τ) (S := Pipeline.ucRefs τ sig \ Pipeline.arrRefs spec2) (V := W5 m c) (V' := W6 m c) (rest2 m c)]
  iintro ⟨Ha, -, Hr, He⟩
  isplitl [Ha Hr]
  · isplitl [Ha]; · iexact Ha
    iexact Hr
  iexact He

/-- A host stretch as a segment. -/
def host (ops : List (HloOp τ sig (Elt F))) (hs : ops.Forall fun op => op.bufs ⊆ StableHlo.tcRefs τ sig) (hf : ops.Forall fun op => op.fresh = ∅)
    (V : Dev nD → Valuation τ sig (Elt F)) : HostSeg (Ix := Unit) (Name := ℕ) (U := UR sig nD τ) (Lvl := ℕ) (pcfgs (F := F)) defs₀ Variants.none Lv (fun _ _ => 0) :=
  HostSeg.ofOps _ _ _ _ _ (Pipeline.ucRefs τ sig) ops
    (fun op h => Pipeline.sub_ucRefs op ((List.forall_iff_forall_mem.mp hs) op h))
    (fun op h => (List.forall_iff_forall_mem.mp hf) op h) V E

/-- The program's items. -/
def items (c : Dev nD) : List (Seg (pcfgs (F := F)) adm (pdats m) () defs₀ Variants.none Lv (fun _ _ => 0)) :=
  [.host (host hostOps0 hostOps0_sub hostOps0_fresh (W0 m)), .region (reg0 m), .host (host hostOps1 hostOps1_sub hostOps1_fresh (W2 m)),
    .region (reg1 m), .host (host hostOps2 hostOps2_sub hostOps2_fresh (W4 m)), .region (reg2 m)]

set_option backward.isDefEq.respectTransparency.types false in
set_option maxHeartbeats 1600000 in
/-- The whole program: it ends with every unscoped buffer at the last valuation and every counter at zero. -/
theorem run_main (ρ : Dev nD → PrngReg) : θ_run defs (onTc (τ := τ) (main (F := F))) ⟨m, fun _ => 0, ρ⟩
    (fun r => (∀ c : Dev nD, ∀ b ∈ Pipeline.ucRefs τ sig, r.2.mem (c, b) = W6 m c b) ∧ r.2.sem = fun _ => 0) := by
  refine Pipeline.θ_run_regions_kit_dev_sems (pcfgs (F := F)) adm (pdats m) () cellOf_inj emb₁ defs₀ Variants.none Lv (fun _ _ => 0) m ρ main
    (items m)
    (fun c Q => by
      rewrite [main_chain c, Seg.run_eq_chain,
        show (items m c).map Seg.prog = [StableHlo.seq hostOps0, Prog.lift (.customCall (Pipeline.entry 0) ()), StableHlo.seq hostOps1,
          Prog.lift (.customCall (Pipeline.entry 1) ()), StableHlo.seq hostOps2, Prog.lift (.customCall (Pipeline.entry 2) ())] from rfl]
      exact .rfl)
    (fun c => by simp only [items, Seg.pipes_host, Seg.pipes_region, Seg.pipes_nil]; decide) (fun _ => 0)
    (fun g hg => if_neg hg) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W6 m c))
    (hch := fun c => ⟨.rfl, enter0 m c, leave0 m c, enter1 m c, leave1 m c, enter2 m c, leave2 m c⟩)
    (hinit := ?_) (QY := fun c s => ∀ b ∈ Pipeline.ucRefs τ sig, s.mem (c, b) = W6 m c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ emp))
        ⊢ (bigSep Finset.univ fun c : Dev nD => iprop(StableHlo.held (c : Thread nD τ) (Pipeline.ucRefs τ sig) (W0 m c) ∗ E c) : sProp 𝕄) := by
      refine bigSep_mono fun c _ => ?_
      rw [← Pipeline.unscopedBufs_held (Ix := Unit) (Name := ℕ) (U := UR sig nD τ) (Lvl := ℕ) c (W0 m c)]
      show iprop(unscopedBufs c (fun b => m ((c.tc : Thread nD τ).loc b)) ∗ unscopedSems0 c ∗ owes (c.tc : Thread nD τ) 0 ∅ ∗ Pipeline.launchCred (fun _ => 0) c ∗ prngReg c (ρ c) ∗ emp)
        ⊢ iprop(unscopedBufs c (fun b => m ((c.tc : Thread nD τ).loc b)) ∗ ∃ W, owes (c : Thread nD τ) (0 : CellTallies nD τ sig Unit) W)
      iintro ⟨H, -, Ho, -, -, -⟩
      isplitl [H]; · iexact H
      iexists _; iexact Ho
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro; exact h
    iexact HSI

end Cert.KernelIdeal.Whole
-- ==== Proof.Args.lean ====
module

public import proofs.«01_k».proof.Proof.Main

/-! # What the program leaves unchanged -/

@[expose] public section

noncomputable section

namespace Cert.KernelIdeal.Whole

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-- Region 0 leaves a buffer that is no output's array as it found it. -/
theorem keep0 (c : Dev nD) (b : Ref sig .tc) (hb : ∀ w : Fin cfg0.W, (cfg0.win w).isOut = true → Pipeline.arrRef spec0 w ≠ b) :
    W2 m c (Proc.devRef .tc b) = W1 m c (Proc.devRef .tc b) := by
  unfold W2
  by_cases h : ∃ w, Pipeline.arrRef spec0 w = b
  · obtain ⟨w, rfl⟩ := h
    rw [Pipeline.withArrays_arr spec0 winFacts0.arr_inj]
    have hw : (cfg0.win w).isOut = false := by
      cases h : (cfg0.win w).isOut with
      | false => rfl
      | true => exact absurd rfl (hb w h)
    exact ((dat0 m c).arrAt_in w hw _).trans (L0.A_eq c _ w)
  · exact Pipeline.withArrays_of_ne spec0 c _ _ b fun w hw => h ⟨w, hw⟩

/-- A host stretch leaves a buffer that it does not write as it found it. -/
theorem host0 (c : Dev nD) (b : Ref sig .tc) (hb : b ∉ hostOps0_W) : W1 m c (Proc.devRef .tc b) = W0 m c (Proc.devRef .tc b) :=
  StableHlo.after_of_writes_sub hostOps0 _ hostOps0_writes hb

/-- What region 0 leaves in window `w`'s array. -/
theorem arr0 (c : Dev nD) (w : Fin cfg0.W) : W2 m c (Proc.devRef .tc (Pipeline.arrRef spec0 w)) = (dat0 m c).arrAt w cfg0.N := by
  unfold W2
  exact Pipeline.withArrays_arr spec0 winFacts0.arr_inj c _ _ w

/-- Region 1 leaves a buffer that is no output's array as it found it. -/
theorem keep1 (c : Dev nD) (b : Ref sig .tc) (hb : ∀ w : Fin cfg1.W, (cfg1.win w).isOut = true → Pipeline.arrRef spec1 w ≠ b) :
    W4 m c (Proc.devRef .tc b) = W3 m c (Proc.devRef .tc b) := by
  unfold W4
  by_cases h : ∃ w, Pipeline.arrRef spec1 w = b
  · obtain ⟨w, rfl⟩ := h
    rw [Pipeline.withArrays_arr spec1 winFacts1.arr_inj]
    have hw : (cfg1.win w).isOut = false := by
      cases h : (cfg1.win w).isOut with
      | false => rfl
      | true => exact absurd rfl (hb w h)
    exact ((dat1 m c).arrAt_in w hw _).trans (L1.A_eq c _ w)
  · exact Pipeline.withArrays_of_ne spec1 c _ _ b fun w hw => h ⟨w, hw⟩

/-- A host stretch leaves a buffer that it does not write as it found it. -/
theorem host1 (c : Dev nD) (b : Ref sig .tc) (hb : b ∉ hostOps1_W) : W3 m c (Proc.devRef .tc b) = W2 m c (Proc.devRef .tc b) :=
  StableHlo.after_of_writes_sub hostOps1 _ hostOps1_writes hb

/-- What region 1 leaves in window `w`'s array. -/
theorem arr1 (c : Dev nD) (w : Fin cfg1.W) : W4 m c (Proc.devRef .tc (Pipeline.arrRef spec1 w)) = (dat1 m c).arrAt w cfg1.N := by
  unfold W4
  exact Pipeline.withArrays_arr spec1 winFacts1.arr_inj c _ _ w

/-- Region 2 leaves a buffer that is no output's array as it found it. -/
theorem keep2 (c : Dev nD) (b : Ref sig .tc) (hb : ∀ w : Fin cfg2.W, (cfg2.win w).isOut = true → Pipeline.arrRef spec2 w ≠ b) :
    W6 m c (Proc.devRef .tc b) = W5 m c (Proc.devRef .tc b) := by
  unfold W6
  by_cases h : ∃ w, Pipeline.arrRef spec2 w = b
  · obtain ⟨w, rfl⟩ := h
    rw [Pipeline.withArrays_arr spec2 winFacts2.arr_inj]
    have hw : (cfg2.win w).isOut = false := by
      cases h : (cfg2.win w).isOut with
      | false => rfl
      | true => exact absurd rfl (hb w h)
    exact ((dat2 m c).arrAt_in w hw _).trans (L2.A_eq c _ w)
  · exact Pipeline.withArrays_of_ne spec2 c _ _ b fun w hw => h ⟨w, hw⟩

/-- A host stretch leaves a buffer that it does not write as it found it. -/
theorem host2 (c : Dev nD) (b : Ref sig .tc) (hb : b ∉ hostOps2_W) : W5 m c (Proc.devRef .tc b) = W4 m c (Proc.devRef .tc b) :=
  StableHlo.after_of_writes_sub hostOps2 _ hostOps2_writes hb

/-- What region 2 leaves in window `w`'s array. -/
theorem arr2 (c : Dev nD) (w : Fin cfg2.W) : W6 m c (Proc.devRef .tc (Pipeline.arrRef spec2 w)) = (dat2 m c).arrAt w cfg2.N := by
  unfold W6
  exact Pipeline.withArrays_arr spec2 winFacts2.arr_inj c _ _ w

/-- A buffer no item writes ends as launched. -/
theorem keep_all (c : Dev nD) (b : Ref sig .tc) (h0 : b ∉ hostOps0_W) (h1 : ∀ w : Fin cfg0.W, (cfg0.win w).isOut = true → Pipeline.arrRef spec0 w ≠ b)
    (h2 : b ∉ hostOps1_W) (h3 : ∀ w : Fin cfg1.W, (cfg1.win w).isOut = true → Pipeline.arrRef spec1 w ≠ b)
    (h4 : b ∉ hostOps2_W) (h5 : ∀ w : Fin cfg2.W, (cfg2.win w).isOut = true → Pipeline.arrRef spec2 w ≠ b) :
    W6 m c (Proc.devRef .tc b) = m ((c.tc : Thread nD τ).loc b) :=
  (keep2 m c b h5).trans <| (host2 m c b h4).trans <| (keep1 m c b h3).trans <| (host1 m c b h2).trans <| (keep0 m c b h1).trans <| (host0 m c b h0).trans rfl

/-- An unscoped buffer is among those held. -/
theorem mem_uc (b : Ref sig .tc) (h : b.isScoped = false) : Proc.devRef .tc b ∈ Pipeline.ucRefs τ sig :=
  Finset.mem_filter.mpr ⟨StableHlo.devRef_mem_tcRefs b, fun h' => Bool.false_ne_true (h.symm.trans h')⟩

set_option maxHeartbeats 1600000 in
/-- A memory that agrees with the last contents has every argument as launched. -/
theorem args_kept (c : Dev nD) (M : (ℓ : Loc nD τ sig) → Buf (Elt F) ℓ) (h : ∀ b ∈ Pipeline.ucRefs τ sig, M (c, b) = W6 m c b) :
      M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)
      ∧ M ((c.tc : Thread nD τ).loc main_arg4) = m ((c.tc : Thread nD τ).loc main_arg4)
      ∧ M ((c.tc : Thread nD τ).loc main_arg5) = m ((c.tc : Thread nD τ).loc main_arg5)
      ∧ M ((c.tc : Thread nD τ).loc main_arg6) = m ((c.tc : Thread nD τ).loc main_arg6)
      ∧ M ((c.tc : Thread nD τ).loc main_arg7) = m ((c.tc : Thread nD τ).loc main_arg7)
      ∧ M ((c.tc : Thread nD τ).loc main_arg8) = m ((c.tc : Thread nD τ).loc main_arg8)
      ∧ M ((c.tc : Thread nD τ).loc main_arg9) = m ((c.tc : Thread nD τ).loc main_arg9)
      ∧ M ((c.tc : Thread nD τ).loc main_arg10) = m ((c.tc : Thread nD τ).loc main_arg10)
      ∧ M ((c.tc : Thread nD τ).loc main_arg11) = m ((c.tc : Thread nD τ).loc main_arg11)
      ∧ M ((c.tc : Thread nD τ).loc main_arg12) = m ((c.tc : Thread nD τ).loc main_arg12)
      ∧ M ((c.tc : Thread nD τ).loc main_arg13) = m ((c.tc : Thread nD τ).loc main_arg13) :=
  ⟨(h _ (mem_uc main_arg0 rfl)).trans (keep_all m c main_arg0 (by decide) (by decide) (by decide) (by decide) (by decide) (by decide)),
    (h _ (mem_uc main_arg1 rfl)).trans (keep_all m c main_arg1 (by decide) (by decide) (by decide) (by decide) (by decide) (by decide)),
    (h _ (mem_uc main_arg2 rfl)).trans (keep_all m c main_arg2 (by decide) (by decide) (by decide) (by decide) (by decide) (by decide)),
    (h _ (mem_uc main_arg3 rfl)).trans (keep_all m c main_arg3 (by decide) (by decide) (by decide) (by decide) (by decide) (by decide)),
    (h _ (mem_uc main_arg4 rfl)).trans (keep_all m c main_arg4 (by decide) (by decide) (by decide) (by decide) (by decide) (by decide)),
    (h _ (mem_uc main_arg5 rfl)).trans (keep_all m c main_arg5 (by decide) (by decide) (by decide) (by decide) (by decide) (by decide)),
    (h _ (mem_uc main_arg6 rfl)).trans (keep_all m c main_arg6 (by decide) (by decide) (by decide) (by decide) (by decide) (by decide)),
    (h _ (mem_uc main_arg7 rfl)).trans (keep_all m c main_arg7 (by decide) (by decide) (by decide) (by decide) (by decide) (by decide)),
    (h _ (mem_uc main_arg8 rfl)).trans (keep_all m c main_arg8 (by decide) (by decide) (by decide) (by decide) (by decide) (by decide)),
    (h _ (mem_uc main_arg9 rfl)).trans (keep_all m c main_arg9 (by decide) (by decide) (by decide) (by decide) (by decide) (by decide)),
    (h _ (mem_uc main_arg10 rfl)).trans (keep_all m c main_arg10 (by decide) (by decide) (by decide) (by decide) (by decide) (by decide)),
    (h _ (mem_uc main_arg11 rfl)).trans (keep_all m c main_arg11 (by decide) (by decide) (by decide) (by decide) (by decide) (by decide)),
    (h _ (mem_uc main_arg12 rfl)).trans (keep_all m c main_arg12 (by decide) (by decide) (by decide) (by decide) (by decide) (by decide)),
    (h _ (mem_uc main_arg13 rfl)).trans (keep_all m c main_arg13 (by decide) (by decide) (by decide) (by decide) (by decide) (by decide))⟩

/-- Every argument ends as launched, and every counter at zero. -/
theorem unchanged (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => args_kept m c r.2.mem (h.1 c), h.2⟩) (run_main m ρ)

end Cert.KernelIdeal.Whole
-- ==== Proof.Spec.lean ====
module

public import Idealize.ShloMosaic.PureOps.Ideal

/-! # The layer's mathematics, one row at a time

Over the extended reals. A row of the residual stream has 1024 entries. A layer reads, for one row, the 128 rows of its chunk
(the spatial gating is causal inside a chunk), the convolution's input at the two rows before, and the row's embedding. -/

@[expose] public section

noncomputable section

namespace Cert.Spec

open Idealize.ShloMosaic

/-- The width of a row, as a float's value. -/
def c1024 : EReal := Ideal.ofBits .f32 0x44800000#32
/-- The width of a branch, as a float's value. -/
def c512 : EReal := Ideal.ofBits .f32 0x44000000#32
/-- The normalisations' small constant. -/
def eps : EReal := Ideal.ofBits .f32 0x358637BD#32

/-- A row divided by its root mean square and scaled by `g`. -/
def nrm (x g : Fin 1024 → EReal) (k : Fin 1024) : EReal :=
  x k * Ideal.rsqrt (Ideal.div (∑ m, x m * x m) c1024 + eps) * g k

/-- `z · σ(z)`. -/
def silu (z : EReal) : EReal := z * Ideal.logistic z

/-- A row minus its mean. -/
def ctr (v : Fin 512 → EReal) (k : Fin 512) : EReal := v k - Ideal.div (∑ m, v m) c512

/-- Layer normalisation of a row. -/
def lnm (v g b : Fin 512 → EReal) (k : Fin 512) : EReal :=
  ctr v k * Ideal.rsqrt (Ideal.div (∑ m, ctr v m * ctr v m) c512 + eps) * g k + b k

/-- One layer's weights. -/
structure Wt where
  /-- The input norm's scale. -/
  ng : Fin 1024 → EReal
  /-- The joint projection. -/
  W : Fin 1024 → Fin 3584 → EReal
  /-- The layer norm's scale. -/
  lg : Fin 512 → EReal
  /-- The layer norm's shift. -/
  lb : Fin 512 → EReal
  /-- The spatial weights, by head. -/
  ws : Fin 4 → Fin 128 → Fin 128 → EReal
  /-- The spatial biases, by head. -/
  bs : Fin 4 → Fin 128 → EReal
  /-- The convolution's taps, by channel. -/
  cw : Fin 512 → Fin 3 → EReal
  /-- The output projection. -/
  wo : Fin 1024 → Fin 1024 → EReal
  /-- The embedding gate's norm scale. -/
  pg : Fin 1024 → EReal
  /-- The embedding gate's projection. -/
  wg : Fin 1024 → Fin 1024 → EReal
  /-- The embedding's projection. -/
  wp : Fin 256 → Fin 1024 → EReal

/-- Column `c` of a row's joint projection. -/
def pr (w : Wt) (x : Fin 1024 → EReal) (c : Fin 3584) : EReal := ∑ k, nrm x w.ng k * w.W k c

/-- The normalised gating values of a row. -/
def vn (w : Wt) (x : Fin 1024 → EReal) (j : Fin 512) : EReal :=
  lnm (fun k => pr w x ⟨512 + k.val, by omega⟩) w.lg w.lb j

/-- The convolution's input at a row. -/
def xc (w : Wt) (x : Fin 1024 → EReal) (j : Fin 512) : EReal :=
  pr w x ⟨2560 + j.val, by omega⟩ * pr w x ⟨1536 + j.val, by omega⟩

/-- The head of a channel. -/
def hd (j : Fin 512) : Fin 4 := ⟨j.val / 128, by omega⟩

/-- The causal mixture of a chunk's rows, at row `t` and channel `j`. -/
def mixed (w : Wt) (ch : Fin 128 → Fin 1024 → EReal) (t : Fin 128) (j : Fin 512) : EReal :=
  (∑ s : Fin 128, (if s ≤ t then w.ws (hd j) t s else 0) * vn w (ch s) j) + w.bs (hd j) t

/-- The spatial branch at row `t` of a chunk. -/
def brA (w : Wt) (ch : Fin 128 → Fin 1024 → EReal) (t : Fin 128) (j : Fin 512) : EReal :=
  pr w (ch t) ⟨j.val, by omega⟩ * mixed w ch t j * silu (pr w (ch t) ⟨1024 + j.val, by omega⟩)

/-- The convolution branch at a row, `q2` and `q1` the convolution's inputs two rows and one row before. -/
def brB (w : Wt) (x : Fin 1024 → EReal) (q2 q1 : Fin 512 → EReal) (j : Fin 512) : EReal :=
  pr w x ⟨2048 + j.val, by omega⟩ * (q2 j * w.cw j 0 + q1 j * w.cw j 1 + xc w x j * w.cw j 2)
    * silu (pr w x ⟨3072 + j.val, by omega⟩)

/-- The two branches side by side. -/
def cat (a b : Fin 512 → EReal) (m : Fin 1024) : EReal :=
  if h : m.val < 512 then a ⟨m.val, h⟩ else b ⟨m.val - 512, by omega⟩

/-- A row after the mixing. -/
def mid (w : Wt) (ch : Fin 128 → Fin 1024 → EReal) (t : Fin 128) (q2 q1 : Fin 512 → EReal) (j : Fin 1024) : EReal :=
  ch t j + ∑ m, cat (brA w ch t) (brB w (ch t) q2 q1) m * w.wo m j

/-- A row plus its gated embedding. -/
def gat (w : Wt) (y : Fin 1024 → EReal) (p : Fin 256 → EReal) (j : Fin 1024) : EReal :=
  y j + Ideal.logistic (∑ k, nrm y w.pg k * w.wg k j) * ∑ k, p k * w.wp k j

/-- A row after the layer. -/
def row (w : Wt) (ch : Fin 128 → Fin 1024 → EReal) (t : Fin 128) (q2 q1 : Fin 512 → EReal) (p : Fin 256 → EReal) (j : Fin 1024) : EReal :=
  gat w (mid w ch t q2 q1) p j

/-- The rows of the chunk that holds row `s`. -/
def chunk (X : Fin 8192 → Fin 1024 → EReal) (s : Fin 8192) (t : Fin 128) : Fin 1024 → EReal := X ⟨128 * (s.val / 128) + t.val, by omega⟩

/-- The convolution's input `d` rows before row `s`; nothing before the sequence. -/
def back (w : Wt) (X : Fin 8192 → Fin 1024 → EReal) (d : Nat) (s : Fin 8192) (j : Fin 512) : EReal :=
  if s.val < d then 0 else xc w (X ⟨s.val - d, by omega⟩) j

/-- A layer on a whole sequence. -/
def layer (w : Wt) (X : Fin 8192 → Fin 1024 → EReal) (P : Fin 8192 → Fin 256 → EReal) (s : Fin 8192) (j : Fin 1024) : EReal :=
  row w (chunk X s) ⟨s.val % 128, by omega⟩ (back w X 2 s) (back w X 1 s) (P s) j

end Cert.Spec

end
-- ==== Proof.ValA.lean ====
module

public import proofs.«01_k».proof.Proof.Tile
public import proofs.«01_k».proof.Proof.Spec
public import Idealize.ShloMosaic.Lib.Pointwise

/-! # The sub-tile's functions at an element, over the extended reals -/

@[expose] public section

set_option maxRecDepth 16384

noncomputable section

namespace Cert.KernelIdeal.Tile

open Cert.KernelIdeal Cert.KernelIdeal.Gen Cert.Spec
open Idealize.ShloMosaic Idealize.ShloMosaic.TcCoe

/-- A normalised row, at an element. -/
theorem rms_at (x : FVec Ideal S256x1024 .f32) (g : Vec Ideal S1x1024 .f32) (r : Fin 256) (k : Fin 1024) :
    rms x g (ix2 r k) = nrm (fun m => x (ix2 r m)) (fun m => g (ix2 0 m)) k := by
  pointwise [rms, nrm, eps, c1024]

/-- A row's projection on a column. -/
theorem proj_at (h : FVec Ideal S256x1024 .bf16) (w : Vec Ideal S1x1024x512 .bf16) (r : Fin 256) (c : Fin 512) :
    proj h w (ix2 r c) = ∑ k : Fin 1024, h (ix2 r k) * w (ix3 0 k c) := by
  pointwise [proj, dot_S256x1024_S1024x512_S256x512_1_0_0_1_n_n]

/-- A row's mean. -/
theorem mean_at (v : FVec Ideal S256x512 .f32) (r : Fin 256) : mean v (ix2 r 0) = Ideal.div (∑ m : Fin 512, v (ix2 r m)) c512 := by
  pointwise [mean, c512]

/-- A centred row. -/
theorem centre_at (v : FVec Ideal S256x512 .f32) (r : Fin 256) (k : Fin 512) : centre v (ix2 r k) = ctr (fun m => v (ix2 r m)) k := by
  pointwise [centre, ctr, mean_at]

/-- A layer-normalised row. -/
theorem lnorm_at (v : FVec Ideal S256x512 .f32) (g b : Vec Ideal S1x512 .f32) (r : Fin 256) (k : Fin 512) :
    lnorm v g b (ix2 r k) = lnm (fun m => v (ix2 r m)) (fun m => g (ix2 0 m)) (fun m => b (ix2 0 m)) k := by
  pointwise [lnorm, lnm, mean_at, centre_at, eps]

/-- The sigmoid unit. -/
theorem silu_at (z : FVec Ideal S256x128 .f32) (i : S256x128.Idx) : Tile.silu z i = Spec.silu (z i) := by
  pointwise [Tile.silu, Spec.silu]

/-- The convolution's input at an element. -/
theorem xc_at (r : FVec Ideal S256x512 .f32) (i : Fin 256) (d : Fin 128) :
    Tile.xc r (ix2 i d) = r (ix2 i ⟨256 + d.val, by omega⟩) * r (ix2 i ⟨d.val, by omega⟩) := by
  pointwise [Tile.xc]

/-- The first gate of a pair. -/
theorem gateL_at (r : FVec Ideal S256x512 .f32) (i : Fin 256) (d : Fin 128) :
    gateL r (ix2 i d) = r (ix2 i ⟨d.val, by omega⟩) * Spec.silu (r (ix2 i ⟨128 + d.val, by omega⟩)) := by
  pointwise [gateL, silu_at]

/-- The second gate of a pair. -/
theorem gateR_at (r : FVec Ideal S256x512 .f32) (i : Fin 256) (d : Fin 128) :
    gateR r (ix2 i d) = r (ix2 i ⟨256 + d.val, by omega⟩) * Spec.silu (r (ix2 i ⟨384 + d.val, by omega⟩)) := by
  pointwise [gateR, silu_at]

/-- Four blocks side by side, read in the first. -/
theorem cat4_at0 {e : FTy} (x y z w : FVec Ideal S256x128 e) (i : Fin 256) (d : Fin 128) : cat4 x y z w (ix2 i ⟨d.val, by omega⟩) = x (ix2 i d) := by
  pointwise [cat4]

/-- In the second. -/
theorem cat4_at1 {e : FTy} (x y z w : FVec Ideal S256x128 e) (i : Fin 256) (d : Fin 128) : cat4 x y z w (ix2 i ⟨128 + d.val, by omega⟩) = y (ix2 i d) := by
  pointwise [cat4]

/-- In the third. -/
theorem cat4_at2 {e : FTy} (x y z w : FVec Ideal S256x128 e) (i : Fin 256) (d : Fin 128) : cat4 x y z w (ix2 i ⟨256 + d.val, by omega⟩) = z (ix2 i d) := by
  pointwise [cat4]
  refine (dif_neg (by omega)).trans ((dif_neg (by omega)).trans ((dif_pos (by omega)).trans ?_))
  exact congrArg (fun a => z (ix2 i a)) (Fin.ext (by show 256 + d.val - 128 - 128 = d.val; omega))

/-- In the fourth. -/
theorem cat4_at3 {e : FTy} (x y z w : FVec Ideal S256x128 e) (i : Fin 256) (d : Fin 128) : cat4 x y z w (ix2 i ⟨384 + d.val, by omega⟩) = w (ix2 i d) := by
  pointwise [cat4]
  refine (dif_neg (by omega)).trans ((dif_neg (by omega)).trans ((dif_neg (by omega)).trans ?_))
  exact congrArg (fun a => w (ix2 i a)) (Fin.ext (by show 384 + d.val - 128 - 128 - 128 = d.val; omega))

/-- The residual and the output projection at an element. -/
theorem outp_at (x : FVec Ideal S256x1024 .f32) (a b : FVec Ideal S256x512 .bf16) (w : Vec Ideal S1x1024x1024 .bf16) (r : Fin 256) (j : Fin 1024) :
    outp x a b w (ix2 r j) = x (ix2 r j) + ∑ m : Fin 1024, cat (fun k => a (ix2 r k)) (fun k => b (ix2 r k)) m * w (ix3 0 m j) := by
  pointwise [outp, dot_S256x1024_S1024x1024_S256x1024_1_0_0_1_n_n, cat]

/-- The embedding's projection at an element. -/
theorem emb_at (p : Vec Ideal S1x1x256x256 .f32) (w : Vec Ideal S1x256x1024 .bf16) (r : Fin 256) (j : Fin 1024) :
    emb p w (ix2 r j) = ∑ k : Fin 256, p (ix4 0 0 r k) * w (ix3 0 k j) := by
  pointwise [emb, dot_S256x256_S256x1024_S256x1024_1_0_0_1_n_n]

/-- The gated embedding at an element. -/
theorem gated_at (x1 : FVec Ideal S256x1024 .f32) (pg : Vec Ideal S1x1024 .f32) (wg : Vec Ideal S1x1024x1024 .bf16) (pe : FVec Ideal S256x1024 .f32) (r : Fin 256) (j : Fin 1024) :
    gated x1 pg wg pe (ix2 r j) = x1 (ix2 r j) + Ideal.logistic (∑ k : Fin 1024, nrm (fun m => x1 (ix2 r m)) (fun m => pg (ix2 0 m)) k * wg (ix3 0 k j)) * pe (ix2 r j) := by
  pointwise [gated, rmsb, rms_at, dot_S256x1024_S1024x1024_S256x1024_1_0_0_1_n_n]

end Cert.KernelIdeal.Tile

end
-- ==== Proof.Weights.lean ====
module

public import proofs.«01_k».proof.Proof.Spec
public import Idealize.ShloMosaic.Lib.Pointwise
public import Idealize.ShloMosaic.Lib.WordCmp

/-! # The weights of a layer, read from the stacked arrays -/

@[expose] public section

noncomputable section

namespace Cert.Spec

open Idealize.ShloMosaic

/-- An array of extended reals. -/
abbrev Arr (s : Shape) : Type := s.Idx → EReal

/-- Layer `l`'s weights. -/
def wt (x2 : Arr ⟨2, ![2, 1024]⟩) (x3 : Arr ⟨3, ![2, 1024, 3584]⟩) (x4 x5 : Arr ⟨2, ![2, 512]⟩) (x6 : Arr ⟨4, ![2, 4, 128, 128]⟩)
    (x7 : Arr ⟨3, ![2, 4, 128]⟩) (x8 : Arr ⟨3, ![2, 512, 3]⟩) (x9 : Arr ⟨3, ![2, 1024, 1024]⟩) (x10 : Arr ⟨2, ![2, 1024]⟩)
    (x11 : Arr ⟨3, ![2, 1024, 1024]⟩) (x12 : Arr ⟨3, ![2, 256, 1024]⟩) (l : Fin 2) : Wt where
  ng k := x2 (ix2 l k)
  W k c := x3 (ix3 l k c)
  lg k := x4 (ix2 l k)
  lb k := x5 (ix2 l k)
  ws h t s := x6 (ix4 l h t s)
  bs h t := x7 (ix3 l h t)
  cw j k := x8 (ix3 l j k)
  wo m j := x9 (ix3 l m j)
  pg k := x10 (ix2 l k)
  wg k j := x11 (ix3 l k j)
  wp k j := x12 (ix3 l k j)

/-- Batch `b`'s rows. -/
def rowsOf (x : Arr ⟨3, ![8, 8192, 1024]⟩) (b : Fin 8) : Fin 8192 → Fin 1024 → EReal := fun s k => x (ix3 b s k)

/-- Batch `b`'s embedding rows for layer `l`. -/
def embOf (p : Arr ⟨4, ![2, 8, 8192, 256]⟩) (l : Fin 2) (b : Fin 8) : Fin 8192 → Fin 256 → EReal := fun s k => p (ix4 l b s k)

/-- A row is the row of its own chunk at its own place. -/
theorem chunk_self (X : Fin 8192 → Fin 1024 → EReal) (s : Fin 8192) : chunk X s ⟨s.val % 128, by omega⟩ = X s :=
  congrArg X (Fin.ext (by show 128 * (s.val / 128) + s.val % 128 = s.val; omega))

/-- The padded input two rows before. -/
theorem back_two (w : Wt) (X : Fin 8192 → Fin 1024 → EReal) (s : Fin 8192) (j : Fin 512) :
    (if h : s.val < 2 then 0 else xc w (X ⟨s.val - 2, by omega⟩) j) = back w X 2 s j := by
  unfold back
  by_cases h : s.val < 2
  · rw [dif_pos h, if_pos h]
  · rw [dif_neg h, if_neg h]

/-- The padded input one row before. -/
theorem back_one (w : Wt) (X : Fin 8192 → Fin 1024 → EReal) (s : Fin 8192) (j : Fin 512) :
    (if h : 1 + s.val < 2 then 0 else xc w (X ⟨1 + s.val - 2, by omega⟩) j) = back w X 1 s j := by
  unfold back
  by_cases h : s.val < 1
  · rw [dif_pos (by omega), if_pos h]
  · rw [dif_neg (by omega), if_neg h]
    exact congrArg (fun a => xc w (X a) j) (Fin.ext (by show 1 + s.val - 2 = s.val - 1; omega))

/-- A word comparison of small row numbers. -/
theorem slt_small (r k : Nat) (hr : r < 1024) (hk : k < 1024) :
    IntOp.cmpi .slt (BitVec.ofNat 32 r) (BitVec.ofNat 32 k) = if r < k then 1#1 else 0#1 := by
  rw [WordCmp.cmpi_slt_ofNat (by omega) (by omega)]
  by_cases h : r < k <;> simp [h]

/-- The other order. -/
theorem sge_small (r k : Nat) (hr : r < 1024) (hk : k < 1024) :
    IntOp.cmpi .sge (BitVec.ofNat 32 r) (BitVec.ofNat 32 k) = if k ≤ r then 1#1 else 0#1 := by
  rw [WordCmp.cmpi_sge_ofNat (by omega) (by omega)]
  by_cases h : k ≤ r <;> simp [h]

/-- A masked product, the mask outside the product or on one factor. -/
theorem mask_mul (t r : Fin 128) (c : BitVec 1) (hc : c = if r ≤ t then 1#1 else 0#1) (v v' u : EReal) (hv : v = v') :
    Scalar.select c (v * u) 0 = (if r ≤ t then u else 0) * v' := by
  subst hv; subst hc
  by_cases h : r ≤ t
  · simp [h, Scalar.select, mul_comm]
  · simp [h, Scalar.select]

end Cert.Spec

end
-- ==== Proof.ValB.lean ====
module

public import proofs.«01_k».proof.Proof.Tile
public import proofs.«01_k».proof.Proof.Weights
public import Idealize.ShloMosaic.Lib.Pointwise

/-! # The spatial mixing and the shifted rows at an element, over the extended reals -/

@[expose] public section

set_option maxRecDepth 16384

noncomputable section

namespace Cert.KernelIdeal.Tile

open Cert.KernelIdeal Cert.KernelIdeal.Gen Cert.Spec
open Idealize.ShloMosaic Idealize.ShloMosaic.TcCoe

/-- Rows moved down by two. -/
theorem shift2_at (x : FVec Ideal S256x128 .f32) (t : FVec Ideal S8x128 .f32) (r : Fin 256) (d : Fin 128) :
    shift 2#32 x t (ix2 r d) = if h : r.val < 2 then t (ix2 ⟨6 + r.val, by omega⟩ d) else x (ix2 ⟨r.val - 2, by omega⟩ d) := by
  pointwise [shift]
  have hc : IntOp.cmpi .slt (BitVec.ofNat 32 r.val) 2#32 = if r.val < 2 then 1#1 else 0#1 := slt_small r.val 2 (by omega) (by omega)
  by_cases h8 : r.val < 8 <;> by_cases h2 : r.val < 2
  · rw [if_pos h2] at hc
    refine (dif_pos h8).trans ?_
    rw [hc, dif_pos h2]
    exact congrArg (fun a => t (ix2 a d)) (Fin.ext (by show (r.val + 8 - 2) % 8 = 6 + r.val; omega))
  · rw [if_neg h2] at hc
    refine (dif_pos h8).trans ?_
    rw [hc, dif_neg h2]
    exact congrArg (fun a => x (ix2 a d)) (Fin.ext (by show (r.val + 256 - 2) % 256 = r.val - 2; omega))
  · omega
  · refine (dif_neg h8).trans ?_
    rw [dif_neg h2]
    exact congrArg (fun a => x (ix2 a d)) (Fin.ext (by show (8 + (r.val - 8) + 256 - 2) % 256 = r.val - 2; omega))

/-- Rows moved down by one. -/
theorem shift1_at (x : FVec Ideal S256x128 .f32) (t : FVec Ideal S8x128 .f32) (r : Fin 256) (d : Fin 128) :
    shift 1#32 x t (ix2 r d) = if h : r.val < 1 then t (ix2 ⟨7 + r.val, by omega⟩ d) else x (ix2 ⟨r.val - 1, by omega⟩ d) := by
  pointwise [shift]
  have hc : IntOp.cmpi .slt (BitVec.ofNat 32 r.val) 1#32 = if r.val < 1 then 1#1 else 0#1 := slt_small r.val 1 (by omega) (by omega)
  by_cases h8 : r.val < 8 <;> by_cases h2 : r.val < 1
  · rw [if_pos h2] at hc
    refine (dif_pos h8).trans ?_
    rw [hc, dif_pos h2]
    exact congrArg (fun a => t (ix2 a d)) (Fin.ext (by show (r.val + 8 - 1) % 8 = 7 + r.val; omega))
  · rw [if_neg h2] at hc
    refine (dif_pos h8).trans ?_
    rw [hc, dif_neg h2]
    exact congrArg (fun a => x (ix2 a d)) (Fin.ext (by show (r.val + 256 - 1) % 256 = r.val - 1; omega))
  · omega
  · refine (dif_neg h8).trans ?_
    rw [dif_neg h2]
    exact congrArg (fun a => x (ix2 a d)) (Fin.ext (by show (8 + (r.val - 8) + 256 - 1) % 256 = r.val - 1; omega))

/-- The lower triangle's mask. -/
theorem low_at (t s : Fin 128) : low (ix2 t s) = if s ≤ t then 1#1 else 0#1 := by
  pointwise [low]
  rw [sge_small _ _ (by omega) (by omega)]
  rfl

/-- A masked sum, the mask taken inside the product or outside. -/
theorem masked_sum (t : Fin 128) (w a : Fin 128 → EReal) :
    (∑ s, Scalar.select (if s ≤ t then 1#1 else 0#1) (w s * a s) 0) = ∑ s : Fin 128, (if s ≤ t then w s else 0) * a s := by
  refine Finset.sum_congr rfl fun s _ => ?_
  by_cases h : s ≤ t <;> simp [h, Scalar.select]

/-- A head's mixing in the first chunk. -/
theorem mix_at0 (a b : FVec Ideal S128x128 .bf16) (w : Vec Ideal S1x1x128x128 .f32) (c : Vec Ideal S1x128x128 .f32) (g : FVec Ideal S256x128 .f32) (t d : Fin 128) :
    mix a b w c g (ix2 ⟨t.val, by omega⟩ d) = g (ix2 ⟨t.val, by omega⟩ d) * ((∑ s : Fin 128, (if s ≤ t then w (ix4 0 0 t s) else 0) * a (ix2 s d)) + c (ix3 0 t d)) := by
  pointwise [mix, low_at, dot_S128x128_S128x256_S128x256_1_0_0_1_n_n]
  rw [masked_sum t (fun s => w (ix4 0 0 t s)) (fun s => a (ix2 s d))]

/-- A head's mixing in the second chunk. -/
theorem mix_at1 (a b : FVec Ideal S128x128 .bf16) (w : Vec Ideal S1x1x128x128 .f32) (c : Vec Ideal S1x128x128 .f32) (g : FVec Ideal S256x128 .f32) (t d : Fin 128) :
    mix a b w c g (ix2 ⟨128 + t.val, by omega⟩ d) = g (ix2 ⟨128 + t.val, by omega⟩ d) * ((∑ s : Fin 128, (if s ≤ t then w (ix4 0 0 t s) else 0) * b (ix2 s d)) + c (ix3 0 t d)) := by
  pointwise [mix, low_at, dot_S128x128_S128x256_S128x256_1_0_0_1_n_n]
  rw [masked_sum t (fun s => w (ix4 0 0 t s)) (fun s => b (ix2 s d))]

end Cert.KernelIdeal.Tile

end
-- ==== Proof.ValC.lean ====
module

public import proofs.«01_k».proof.Proof.ValA
public import proofs.«01_k».proof.Proof.ValB

/-! # A sub-tile's rows are the layer's rows, over the extended reals

The projection's columns come in blocks of 128, in the order in which the body uses them; `perm` is where a column comes from. -/

@[expose] public section

set_option maxRecDepth 16384

noncomputable section

namespace Cert.KernelIdeal.Tile

open Cert.KernelIdeal Cert.KernelIdeal.Gen Cert.Spec
open Idealize.ShloMosaic Idealize.ShloMosaic.TcCoe

/-- The column of the joint projection that the prepared weight's column `c` is. -/
def perm (c : Fin 3584) : Fin 3584 :=
  ⟨if c.val < 512 then 512 + c.val
   else if c.val < 1536 then 1024 * ((c.val - 512) % 256 / 128) + 128 * ((c.val - 512) / 256) + c.val % 128
   else 1536 + 512 * ((c.val - 1536) % 512 / 128) + 128 * ((c.val - 1536) / 512) + c.val % 128, by split_ifs <;> omega⟩

/-- The blocks hold a layer's weights. -/
structure Holds (w : Wt) (ng : Vec Ideal S1x1024 .f32) (W : Vec Ideal S1x1024x3584 .bf16) (lg lb : Vec Ideal S1x512 .f32) (ws : Vec Ideal S1x4x128x128 .f32)
    (bs : Vec Ideal S1x128x512 .f32) (cw : Vec Ideal S1x3x512 .f32) (wo : Vec Ideal S1x1024x1024 .bf16) (pg : Vec Ideal S1x1024 .f32)
    (wg : Vec Ideal S1x1024x1024 .bf16) (wp : Vec Ideal S1x256x1024 .bf16) : Prop where
  /-- The input norm's scale. -/
  ng : ∀ k, ng (ix2 0 k) = w.ng k
  /-- The permuted projection. -/
  W : ∀ k c, W (ix3 0 k c) = w.W k (perm c)
  /-- The layer norm's scale. -/
  lg : ∀ k, lg (ix2 0 k) = w.lg k
  /-- The layer norm's shift. -/
  lb : ∀ k, lb (ix2 0 k) = w.lb k
  /-- The spatial weights. -/
  ws : ∀ h t s, ws (ix4 0 h t s) = w.ws h t s
  /-- The spatial biases, spread over the channels. -/
  bs : ∀ t j, bs (ix3 0 t j) = w.bs (hd j) t
  /-- The taps, transposed. -/
  cw : ∀ k j, cw (ix3 0 k j) = w.cw j k
  /-- The output projection. -/
  wo : ∀ m j, wo (ix3 0 m j) = w.wo m j
  /-- The gate's norm scale. -/
  pg : ∀ k, pg (ix2 0 k) = w.pg k
  /-- The gate's projection. -/
  wg : ∀ k j, wg (ix3 0 k j) = w.wg k j
  /-- The embedding's projection. -/
  wp : ∀ k j, wp (ix3 0 k j) = w.wp k j

/-- A channel is in one of four blocks of 128. -/
theorem fours (P : Fin 512 → Prop) (h0 : ∀ d : Fin 128, P ⟨d.val, by omega⟩) (h1 : ∀ d : Fin 128, P ⟨128 + d.val, by omega⟩)
    (h2 : ∀ d : Fin 128, P ⟨256 + d.val, by omega⟩) (h3 : ∀ d : Fin 128, P ⟨384 + d.val, by omega⟩) (j : Fin 512) : P j := by
  obtain ⟨j, hj⟩ := j
  by_cases a : j < 128
  · exact h0 ⟨j, a⟩
  by_cases b : j < 256
  · have := h1 ⟨j - 128, by omega⟩
    rwa [show (⟨128 + (⟨j - 128, by omega⟩ : Fin 128).val, by omega⟩ : Fin 512) = ⟨j, hj⟩ from Fin.ext (by show 128 + (j - 128) = j; omega)] at this
  by_cases c : j < 384
  · have := h2 ⟨j - 256, by omega⟩
    rwa [show (⟨256 + (⟨j - 256, by omega⟩ : Fin 128).val, by omega⟩ : Fin 512) = ⟨j, hj⟩ from Fin.ext (by show 256 + (j - 256) = j; omega)] at this
  · have := h3 ⟨j - 384, by omega⟩
    rwa [show (⟨384 + (⟨j - 384, by omega⟩ : Fin 128).val, by omega⟩ : Fin 512) = ⟨j, hj⟩ from Fin.ext (by show 384 + (j - 384) = j; omega)] at this

/-- A row of a sub-tile is in one of two chunks of 128. -/
theorem halves (P : Fin 256 → Prop) (h0 : ∀ t : Fin 128, P ⟨t.val, by omega⟩) (h1 : ∀ t : Fin 128, P ⟨128 + t.val, by omega⟩) (r : Fin 256) : P r := by
  obtain ⟨r, hr⟩ := r
  by_cases a : r < 128
  · exact h0 ⟨r, a⟩
  · have := h1 ⟨r - 128, by omega⟩
    rwa [show (⟨128 + (⟨r - 128, by omega⟩ : Fin 128).val, by omega⟩ : Fin 256) = ⟨r, hr⟩ from Fin.ext (by show 128 + (r - 128) = r; omega)] at this

/-- The weight's columns from 0, at an element. -/
theorem cols0_at (w : Vec Ideal S1x1024x3584 .bf16) (k : Fin 1024) (c : Fin 512) : cols0 w (ix3 0 k c) = w (ix3 0 k ⟨0 + c.val, by omega⟩) := by
  pointwise [cols0]

/-- The weight's columns from 512, at an element. -/
theorem cols512_at (w : Vec Ideal S1x1024x3584 .bf16) (k : Fin 1024) (c : Fin 512) : cols512 w (ix3 0 k c) = w (ix3 0 k ⟨512 + c.val, by omega⟩) := by
  pointwise [cols512]

/-- The weight's columns from 1024, at an element. -/
theorem cols1024_at (w : Vec Ideal S1x1024x3584 .bf16) (k : Fin 1024) (c : Fin 512) : cols1024 w (ix3 0 k c) = w (ix3 0 k ⟨1024 + c.val, by omega⟩) := by
  pointwise [cols1024]

/-- The weight's columns from 1536, at an element. -/
theorem cols1536_at (w : Vec Ideal S1x1024x3584 .bf16) (k : Fin 1024) (c : Fin 512) : cols1536 w (ix3 0 k c) = w (ix3 0 k ⟨1536 + c.val, by omega⟩) := by
  pointwise [cols1536]

/-- The weight's columns from 2048, at an element. -/
theorem cols2048_at (w : Vec Ideal S1x1024x3584 .bf16) (k : Fin 1024) (c : Fin 512) : cols2048 w (ix3 0 k c) = w (ix3 0 k ⟨2048 + c.val, by omega⟩) := by
  pointwise [cols2048]

/-- The weight's columns from 2560, at an element. -/
theorem cols2560_at (w : Vec Ideal S1x1024x3584 .bf16) (k : Fin 1024) (c : Fin 512) : cols2560 w (ix3 0 k c) = w (ix3 0 k ⟨2560 + c.val, by omega⟩) := by
  pointwise [cols2560]

/-- The weight's columns from 3072, at an element. -/
theorem cols3072_at (w : Vec Ideal S1x1024x3584 .bf16) (k : Fin 1024) (c : Fin 512) : cols3072 w (ix3 0 k c) = w (ix3 0 k ⟨3072 + c.val, by omega⟩) := by
  pointwise [cols3072]

section
variable (x : Vec Ideal S1x256x1024 .f32) (p : Vec Ideal S1x1x256x256 .f32) (ng : Vec Ideal S1x1024 .f32) (W : Vec Ideal S1x1024x3584 .bf16) (lg lb : Vec Ideal S1x512 .f32) (ws : Vec Ideal S1x4x128x128 .f32)
    (bs : Vec Ideal S1x128x512 .f32) (cw : Vec Ideal S1x3x512 .f32) (wo : Vec Ideal S1x1024x1024 .bf16) (pg : Vec Ideal S1x1024 .f32)
    (wg : Vec Ideal S1x1024x1024 .bf16) (wp : Vec Ideal S1x256x1024 .bf16) (t : FVec Ideal S8x512 .f32) (w : Wt)

/-- The sub-tile's rows. -/
def tr (x : Vec Ideal S1x256x1024 .f32) (r : Fin 256) : Fin 1024 → EReal := fun m => x (ix3 0 r m)

/-- The convolution's input `k` rows before row `r` of a sub-tile, the tail before its first row. -/
def tb (w : Wt) (x : Vec Ideal S1x256x1024 .f32) (t : FVec Ideal S8x512 .f32) (k : Nat) (hk : k ≤ 8) (r : Fin 256) (j : Fin 512) : EReal :=
  if h : r.val < k then t (ix2 ⟨8 - k + r.val, by omega⟩ j) else Spec.xc w (tr x ⟨r.val - k, by omega⟩) j

/-- The normalised rows. -/
theorem hn_at (hg : ∀ k, ng (ix2 0 k) = w.ng k) (r : Fin 256) (k : Fin 1024) : hn x ng (ix2 r k) = nrm (tr x r) w.ng k := by
  have e : (fun m => ng (ix2 0 m)) = w.ng := funext hg
  pointwise [hn, rmsb, rms_at, e]
  rfl

/-- The projection's columns from 0. -/
theorem p0_at (hg : ∀ k, ng (ix2 0 k) = w.ng k) (hW : ∀ k c, W (ix3 0 k c) = w.W k (perm c)) (r : Fin 256) (c : Fin 512) : proj (hn x ng) (cols0 W) (ix2 r c) = pr w (tr x r) (perm ⟨0 + c.val, by omega⟩) := by
  rw [proj_at]
  exact Finset.sum_congr rfl fun k _ => by rw [hn_at x ng w hg, cols0_at, hW]

/-- The projection's columns from 512. -/
theorem p512_at (hg : ∀ k, ng (ix2 0 k) = w.ng k) (hW : ∀ k c, W (ix3 0 k c) = w.W k (perm c)) (r : Fin 256) (c : Fin 512) : proj (hn x ng) (cols512 W) (ix2 r c) = pr w (tr x r) (perm ⟨512 + c.val, by omega⟩) := by
  rw [proj_at]
  exact Finset.sum_congr rfl fun k _ => by rw [hn_at x ng w hg, cols512_at, hW]

/-- The projection's columns from 1024. -/
theorem p1024_at (hg : ∀ k, ng (ix2 0 k) = w.ng k) (hW : ∀ k c, W (ix3 0 k c) = w.W k (perm c)) (r : Fin 256) (c : Fin 512) : proj (hn x ng) (cols1024 W) (ix2 r c) = pr w (tr x r) (perm ⟨1024 + c.val, by omega⟩) := by
  rw [proj_at]
  exact Finset.sum_congr rfl fun k _ => by rw [hn_at x ng w hg, cols1024_at, hW]

/-- The projection's columns from 1536. -/
theorem p1536_at (hg : ∀ k, ng (ix2 0 k) = w.ng k) (hW : ∀ k c, W (ix3 0 k c) = w.W k (perm c)) (r : Fin 256) (c : Fin 512) : proj (hn x ng) (cols1536 W) (ix2 r c) = pr w (tr x r) (perm ⟨1536 + c.val, by omega⟩) := by
  rw [proj_at]
  exact Finset.sum_congr rfl fun k _ => by rw [hn_at x ng w hg, cols1536_at, hW]

/-- The projection's columns from 2048. -/
theorem p2048_at (hg : ∀ k, ng (ix2 0 k) = w.ng k) (hW : ∀ k c, W (ix3 0 k c) = w.W k (perm c)) (r : Fin 256) (c : Fin 512) : proj (hn x ng) (cols2048 W) (ix2 r c) = pr w (tr x r) (perm ⟨2048 + c.val, by omega⟩) := by
  rw [proj_at]
  exact Finset.sum_congr rfl fun k _ => by rw [hn_at x ng w hg, cols2048_at, hW]

/-- The projection's columns from 2560. -/
theorem p2560_at (hg : ∀ k, ng (ix2 0 k) = w.ng k) (hW : ∀ k c, W (ix3 0 k c) = w.W k (perm c)) (r : Fin 256) (c : Fin 512) : proj (hn x ng) (cols2560 W) (ix2 r c) = pr w (tr x r) (perm ⟨2560 + c.val, by omega⟩) := by
  rw [proj_at]
  exact Finset.sum_congr rfl fun k _ => by rw [hn_at x ng w hg, cols2560_at, hW]

/-- The projection's columns from 3072. -/
theorem p3072_at (hg : ∀ k, ng (ix2 0 k) = w.ng k) (hW : ∀ k c, W (ix3 0 k c) = w.W k (perm c)) (r : Fin 256) (c : Fin 512) : proj (hn x ng) (cols3072 W) (ix2 r c) = pr w (tr x r) (perm ⟨3072 + c.val, by omega⟩) := by
  rw [proj_at]
  exact Finset.sum_congr rfl fun k _ => by rw [hn_at x ng w hg, cols3072_at, hW]

/-- Where a column of the gating values comes from. -/
theorem perm_v (c n : Nat) (h : c < 3584) (hn : n < 3584) (h1 : c < 512) (e : 512 + c = n) : perm ⟨c, h⟩ = ⟨n, hn⟩ := by
  apply Fin.ext
  show (if c < 512 then _ else if c < 1536 then _ else _) = n
  rw [if_pos h1, e]

/-- The normalised gating values. -/
theorem v_at (hg : ∀ k, ng (ix2 0 k) = w.ng k) (hW : ∀ k c, W (ix3 0 k c) = w.W k (perm c)) (h1 : ∀ k, lg (ix2 0 k) = w.lg k) (h2 : ∀ k, lb (ix2 0 k) = w.lb k) (r : Fin 256) (j : Fin 512) :
    lnorm (proj (hn x ng) (cols0 W)) lg lb (ix2 r j) = vn w (tr x r) j := by
  have e1 : (fun m => lg (ix2 0 m)) = w.lg := funext h1
  have e2 : (fun m => lb (ix2 0 m)) = w.lb := funext h2
  have e3 : (fun m => proj (hn x ng) (cols0 W) (ix2 r m)) = fun m : Fin 512 => pr w (tr x r) ⟨512 + m.val, by omega⟩ := funext fun m => by
    rw [p0_at x ng W w hg hW]
    rw [perm_v (0 + m.val) (512 + m.val) (by omega) (by omega) (by omega) (by omega)]
  rw [lnorm_at, e1, e2, e3]
  rfl

/-- Where a column of the gates comes from. -/
theorem perm_lo (c n : Nat) (h : c < 3584) (hn : n < 3584) (h1 : 512 ≤ c) (h2 : c < 1536) (e : 1024 * ((c - 512) % 256 / 128) + 128 * ((c - 512) / 256) + c % 128 = n) :
    perm ⟨c, h⟩ = ⟨n, hn⟩ := by
  apply Fin.ext
  show (if c < 512 then _ else if c < 1536 then _ else _) = n
  rw [if_neg (by omega), if_pos h2, e]

/-- Where a column of the convolution comes from. -/
theorem perm_hi (c n : Nat) (h : c < 3584) (hn : n < 3584) (h1 : 1536 ≤ c) (e : 1536 + 512 * ((c - 1536) % 512 / 128) + 128 * ((c - 1536) / 512) + c % 128 = n) :
    perm ⟨c, h⟩ = ⟨n, hn⟩ := by
  apply Fin.ext
  show (if c < 512 then _ else if c < 1536 then _ else _) = n
  rw [if_neg (by omega), if_neg (by omega), e]

/-- The gates at an element. -/
theorem g_at (hg : ∀ k, ng (ix2 0 k) = w.ng k) (hW : ∀ k c, W (ix3 0 k c) = w.W k (perm c)) (r : Fin 256) (j : Fin 512) :
    gate (hn x ng) (cols512 W) (cols1024 W) (ix2 r j) = pr w (tr x r) ⟨j.val, by omega⟩ * Spec.silu (pr w (tr x r) ⟨1024 + j.val, by omega⟩) := by
  refine fours (fun j => gate (hn x ng) (cols512 W) (cols1024 W) (ix2 r j) = pr w (tr x r) ⟨j.val, by omega⟩ * Spec.silu (pr w (tr x r) ⟨1024 + j.val, by omega⟩)) ?_ ?_ ?_ ?_ j
  · intro d
    show gate (hn x ng) (cols512 W) (cols1024 W) (ix2 r ⟨d.val, by omega⟩) = _
    rw [gate, cat4_at0, gateL_at, p512_at x ng W w hg hW, p512_at x ng W w hg hW, perm_lo (512 + (d.val)) (d.val) (by omega) (by omega) (by omega) (by omega) (by omega),
      perm_lo (512 + (128 + d.val)) (1024 + (d.val)) (by omega) (by omega) (by omega) (by omega) (by omega)]
  · intro d
    show gate (hn x ng) (cols512 W) (cols1024 W) (ix2 r ⟨128 + d.val, by omega⟩) = _
    rw [gate, cat4_at1, gateR_at, p512_at x ng W w hg hW, p512_at x ng W w hg hW, perm_lo (512 + (256 + d.val)) (128 + d.val) (by omega) (by omega) (by omega) (by omega) (by omega),
      perm_lo (512 + (384 + d.val)) (1024 + (128 + d.val)) (by omega) (by omega) (by omega) (by omega) (by omega)]
  · intro d
    show gate (hn x ng) (cols512 W) (cols1024 W) (ix2 r ⟨256 + d.val, by omega⟩) = _
    rw [gate, cat4_at2, gateL_at, p1024_at x ng W w hg hW, p1024_at x ng W w hg hW, perm_lo (1024 + (d.val)) (256 + d.val) (by omega) (by omega) (by omega) (by omega) (by omega),
      perm_lo (1024 + (128 + d.val)) (1024 + (256 + d.val)) (by omega) (by omega) (by omega) (by omega) (by omega)]
  · intro d
    show gate (hn x ng) (cols512 W) (cols1024 W) (ix2 r ⟨384 + d.val, by omega⟩) = _
    rw [gate, cat4_at3, gateR_at, p1024_at x ng W w hg hW, p1024_at x ng W w hg hW, perm_lo (1024 + (256 + d.val)) (384 + d.val) (by omega) (by omega) (by omega) (by omega) (by omega),
      perm_lo (1024 + (384 + d.val)) (1024 + (384 + d.val)) (by omega) (by omega) (by omega) (by omega) (by omega)]

/-- Head 0 in chunk 0. -/
theorem head0_at0 (v : FVec Ideal S256x512 .bf16) (g : FVec Ideal S256x512 .f32) (h1 : ∀ h t s, ws (ix4 0 h t s) = w.ws h t s) (h2 : ∀ t j, bs (ix3 0 t j) = w.bs (hd j) t) (t d : Fin 128) :
    head0 v g ws bs (ix2 ⟨t.val, by omega⟩ d) = g (ix2 ⟨t.val, by omega⟩ ⟨d.val, by omega⟩)
      * ((∑ s : Fin 128, (if s ≤ t then w.ws 0 t s else 0) * v (ix2 ⟨s.val, by omega⟩ ⟨d.val, by omega⟩)) + w.bs 0 t) := by
  have e : hd (⟨d.val, by omega⟩ : Fin 512) = 0 := Fin.ext (by show (d.val) / 128 = 0; omega)
  rw [head0, mix_at0]
  pointwise [h1, h2, e]

/-- Head 0 in chunk 1. -/
theorem head0_at1 (v : FVec Ideal S256x512 .bf16) (g : FVec Ideal S256x512 .f32) (h1 : ∀ h t s, ws (ix4 0 h t s) = w.ws h t s) (h2 : ∀ t j, bs (ix3 0 t j) = w.bs (hd j) t) (t d : Fin 128) :
    head0 v g ws bs (ix2 ⟨128 + t.val, by omega⟩ d) = g (ix2 ⟨128 + t.val, by omega⟩ ⟨d.val, by omega⟩)
      * ((∑ s : Fin 128, (if s ≤ t then w.ws 0 t s else 0) * v (ix2 ⟨128 + s.val, by omega⟩ ⟨d.val, by omega⟩)) + w.bs 0 t) := by
  have e : hd (⟨d.val, by omega⟩ : Fin 512) = 0 := Fin.ext (by show (d.val) / 128 = 0; omega)
  rw [head0, mix_at1]
  pointwise [h1, h2, e]

/-- Head 1 in chunk 0. -/
theorem head1_at0 (v : FVec Ideal S256x512 .bf16) (g : FVec Ideal S256x512 .f32) (h1 : ∀ h t s, ws (ix4 0 h t s) = w.ws h t s) (h2 : ∀ t j, bs (ix3 0 t j) = w.bs (hd j) t) (t d : Fin 128) :
    head1 v g ws bs (ix2 ⟨t.val, by omega⟩ d) = g (ix2 ⟨t.val, by omega⟩ ⟨128 + d.val, by omega⟩)
      * ((∑ s : Fin 128, (if s ≤ t then w.ws 1 t s else 0) * v (ix2 ⟨s.val, by omega⟩ ⟨128 + d.val, by omega⟩)) + w.bs 1 t) := by
  have e : hd (⟨128 + d.val, by omega⟩ : Fin 512) = 1 := Fin.ext (by show (128 + d.val) / 128 = 1; omega)
  rw [head1, mix_at0]
  pointwise [h1, h2, e]

/-- Head 1 in chunk 1. -/
theorem head1_at1 (v : FVec Ideal S256x512 .bf16) (g : FVec Ideal S256x512 .f32) (h1 : ∀ h t s, ws (ix4 0 h t s) = w.ws h t s) (h2 : ∀ t j, bs (ix3 0 t j) = w.bs (hd j) t) (t d : Fin 128) :
    head1 v g ws bs (ix2 ⟨128 + t.val, by omega⟩ d) = g (ix2 ⟨128 + t.val, by omega⟩ ⟨128 + d.val, by omega⟩)
      * ((∑ s : Fin 128, (if s ≤ t then w.ws 1 t s else 0) * v (ix2 ⟨128 + s.val, by omega⟩ ⟨128 + d.val, by omega⟩)) + w.bs 1 t) := by
  have e : hd (⟨128 + d.val, by omega⟩ : Fin 512) = 1 := Fin.ext (by show (128 + d.val) / 128 = 1; omega)
  rw [head1, mix_at1]
  pointwise [h1, h2, e]

/-- Head 2 in chunk 0. -/
theorem head2_at0 (v : FVec Ideal S256x512 .bf16) (g : FVec Ideal S256x512 .f32) (h1 : ∀ h t s, ws (ix4 0 h t s) = w.ws h t s) (h2 : ∀ t j, bs (ix3 0 t j) = w.bs (hd j) t) (t d : Fin 128) :
    head2 v g ws bs (ix2 ⟨t.val, by omega⟩ d) = g (ix2 ⟨t.val, by omega⟩ ⟨256 + d.val, by omega⟩)
      * ((∑ s : Fin 128, (if s ≤ t then w.ws 2 t s else 0) * v (ix2 ⟨s.val, by omega⟩ ⟨256 + d.val, by omega⟩)) + w.bs 2 t) := by
  have e : hd (⟨256 + d.val, by omega⟩ : Fin 512) = 2 := Fin.ext (by show (256 + d.val) / 128 = 2; omega)
  rw [head2, mix_at0]
  pointwise [h1, h2, e]

/-- Head 2 in chunk 1. -/
theorem head2_at1 (v : FVec Ideal S256x512 .bf16) (g : FVec Ideal S256x512 .f32) (h1 : ∀ h t s, ws (ix4 0 h t s) = w.ws h t s) (h2 : ∀ t j, bs (ix3 0 t j) = w.bs (hd j) t) (t d : Fin 128) :
    head2 v g ws bs (ix2 ⟨128 + t.val, by omega⟩ d) = g (ix2 ⟨128 + t.val, by omega⟩ ⟨256 + d.val, by omega⟩)
      * ((∑ s : Fin 128, (if s ≤ t then w.ws 2 t s else 0) * v (ix2 ⟨128 + s.val, by omega⟩ ⟨256 + d.val, by omega⟩)) + w.bs 2 t) := by
  have e : hd (⟨256 + d.val, by omega⟩ : Fin 512) = 2 := Fin.ext (by show (256 + d.val) / 128 = 2; omega)
  rw [head2, mix_at1]
  pointwise [h1, h2, e]

/-- Head 3 in chunk 0. -/
theorem head3_at0 (v : FVec Ideal S256x512 .bf16) (g : FVec Ideal S256x512 .f32) (h1 : ∀ h t s, ws (ix4 0 h t s) = w.ws h t s) (h2 : ∀ t j, bs (ix3 0 t j) = w.bs (hd j) t) (t d : Fin 128) :
    head3 v g ws bs (ix2 ⟨t.val, by omega⟩ d) = g (ix2 ⟨t.val, by omega⟩ ⟨384 + d.val, by omega⟩)
      * ((∑ s : Fin 128, (if s ≤ t then w.ws 3 t s else 0) * v (ix2 ⟨s.val, by omega⟩ ⟨384 + d.val, by omega⟩)) + w.bs 3 t) := by
  have e : hd (⟨384 + d.val, by omega⟩ : Fin 512) = 3 := Fin.ext (by show (384 + d.val) / 128 = 3; omega)
  rw [head3, mix_at0]
  pointwise [h1, h2, e]

/-- Head 3 in chunk 1. -/
theorem head3_at1 (v : FVec Ideal S256x512 .bf16) (g : FVec Ideal S256x512 .f32) (h1 : ∀ h t s, ws (ix4 0 h t s) = w.ws h t s) (h2 : ∀ t j, bs (ix3 0 t j) = w.bs (hd j) t) (t d : Fin 128) :
    head3 v g ws bs (ix2 ⟨128 + t.val, by omega⟩ d) = g (ix2 ⟨128 + t.val, by omega⟩ ⟨384 + d.val, by omega⟩)
      * ((∑ s : Fin 128, (if s ≤ t then w.ws 3 t s else 0) * v (ix2 ⟨128 + s.val, by omega⟩ ⟨384 + d.val, by omega⟩)) + w.bs 3 t) := by
  have e : hd (⟨384 + d.val, by omega⟩ : Fin 512) = 3 := Fin.ext (by show (384 + d.val) / 128 = 3; omega)
  rw [head3, mix_at1]
  pointwise [h1, h2, e]

/-- The spatial branch at an element. -/
theorem spatial_at (v : FVec Ideal S256x512 .bf16) (g : FVec Ideal S256x512 .f32) (h1 : ∀ h t s, ws (ix4 0 h t s) = w.ws h t s) (h2 : ∀ t j, bs (ix3 0 t j) = w.bs (hd j) t)
    (hv : ∀ r j, v (ix2 r j) = vn w (tr x r) j)
    (hg : ∀ r (j : Fin 512), g (ix2 r j) = pr w (tr x r) ⟨j.val, by omega⟩ * Spec.silu (pr w (tr x r) ⟨1024 + j.val, by omega⟩)) (r : Fin 256) (j : Fin 512) :
    spatial v g ws bs (ix2 r j) = brA w (fun s => tr x ⟨128 * (r.val / 128) + s.val, by omega⟩) ⟨r.val % 128, by omega⟩ j := by
  have key : ∀ (a : Fin 512) (i : Fin 256) (t : Fin 128) (ch : Fin 128 → Fin 256) (hh : Fin 4) (ei : ch t = i) (eh : hd a = hh),
      g (ix2 i a) * ((∑ s : Fin 128, (if s ≤ t then w.ws hh t s else 0) * v (ix2 (ch s) a)) + w.bs hh t) = brA w (fun s => tr x (ch s)) t a := by
    intro a i t ch hh ei eh
    subst ei; subst eh
    rw [hg, brA, mixed, mul_right_comm]
    refine congrArg (fun q => _ * (q + _) * _) (Finset.sum_congr rfl fun s _ => by rw [hv])
  refine fours (fun j => spatial v g ws bs (ix2 r j) = brA w (fun s => tr x ⟨128 * (r.val / 128) + s.val, by omega⟩) ⟨r.val % 128, by omega⟩ j) ?_ ?_ ?_ ?_ j
  · intro d
    show spatial v g ws bs (ix2 r ⟨d.val, by omega⟩) = _
    rw [spatial, cat4_at0]
    refine halves (fun r => head0 v g ws bs (ix2 r d) = brA w (fun s => tr x ⟨128 * (r.val / 128) + s.val, by omega⟩) ⟨r.val % 128, by omega⟩ ⟨d.val, by omega⟩) ?_ ?_ r
    · intro t
      have e1 : (fun s : Fin 128 => tr x ⟨128 * ((t.val) / 128) + s.val, by omega⟩) = fun s : Fin 128 => tr x ⟨s.val, by omega⟩ :=
        funext fun s => congrArg (tr x) (Fin.ext (by show 128 * ((t.val) / 128) + s.val = s.val; omega))
      have e2 : (⟨(t.val) % 128, by omega⟩ : Fin 128) = t := Fin.ext (by show (t.val) % 128 = t.val; omega)
      show head0 v g ws bs (ix2 ⟨t.val, by omega⟩ d) = brA w (fun s : Fin 128 => tr x ⟨128 * ((t.val) / 128) + s.val, by omega⟩) ⟨(t.val) % 128, by omega⟩ ⟨d.val, by omega⟩
      rw [e1, e2, head0_at0 ws bs w v g h1 h2]
      exact key ⟨d.val, by omega⟩ ⟨t.val, by omega⟩ t (fun s => ⟨s.val, by omega⟩) 0 rfl (Fin.ext (by show (d.val) / 128 = 0; omega))
    · intro t
      have e1 : (fun s : Fin 128 => tr x ⟨128 * ((128 + t.val) / 128) + s.val, by omega⟩) = fun s : Fin 128 => tr x ⟨128 + s.val, by omega⟩ :=
        funext fun s => congrArg (tr x) (Fin.ext (by show 128 * ((128 + t.val) / 128) + s.val = 128 + s.val; omega))
      have e2 : (⟨(128 + t.val) % 128, by omega⟩ : Fin 128) = t := Fin.ext (by show (128 + t.val) % 128 = t.val; omega)
      show head0 v g ws bs (ix2 ⟨128 + t.val, by omega⟩ d) = brA w (fun s : Fin 128 => tr x ⟨128 * ((128 + t.val) / 128) + s.val, by omega⟩) ⟨(128 + t.val) % 128, by omega⟩ ⟨d.val, by omega⟩
      rw [e1, e2, head0_at1 ws bs w v g h1 h2]
      exact key ⟨d.val, by omega⟩ ⟨128 + t.val, by omega⟩ t (fun s => ⟨128 + s.val, by omega⟩) 0 rfl (Fin.ext (by show (d.val) / 128 = 0; omega))
  · intro d
    show spatial v g ws bs (ix2 r ⟨128 + d.val, by omega⟩) = _
    rw [spatial, cat4_at1]
    refine halves (fun r => head1 v g ws bs (ix2 r d) = brA w (fun s => tr x ⟨128 * (r.val / 128) + s.val, by omega⟩) ⟨r.val % 128, by omega⟩ ⟨128 + d.val, by omega⟩) ?_ ?_ r
    · intro t
      have e1 : (fun s : Fin 128 => tr x ⟨128 * ((t.val) / 128) + s.val, by omega⟩) = fun s : Fin 128 => tr x ⟨s.val, by omega⟩ :=
        funext fun s => congrArg (tr x) (Fin.ext (by show 128 * ((t.val) / 128) + s.val = s.val; omega))
      have e2 : (⟨(t.val) % 128, by omega⟩ : Fin 128) = t := Fin.ext (by show (t.val) % 128 = t.val; omega)
      show head1 v g ws bs (ix2 ⟨t.val, by omega⟩ d) = brA w (fun s : Fin 128 => tr x ⟨128 * ((t.val) / 128) + s.val, by omega⟩) ⟨(t.val) % 128, by omega⟩ ⟨128 + d.val, by omega⟩
      rw [e1, e2, head1_at0 ws bs w v g h1 h2]
      exact key ⟨128 + d.val, by omega⟩ ⟨t.val, by omega⟩ t (fun s => ⟨s.val, by omega⟩) 1 rfl (Fin.ext (by show (128 + d.val) / 128 = 1; omega))
    · intro t
      have e1 : (fun s : Fin 128 => tr x ⟨128 * ((128 + t.val) / 128) + s.val, by omega⟩) = fun s : Fin 128 => tr x ⟨128 + s.val, by omega⟩ :=
        funext fun s => congrArg (tr x) (Fin.ext (by show 128 * ((128 + t.val) / 128) + s.val = 128 + s.val; omega))
      have e2 : (⟨(128 + t.val) % 128, by omega⟩ : Fin 128) = t := Fin.ext (by show (128 + t.val) % 128 = t.val; omega)
      show head1 v g ws bs (ix2 ⟨128 + t.val, by omega⟩ d) = brA w (fun s : Fin 128 => tr x ⟨128 * ((128 + t.val) / 128) + s.val, by omega⟩) ⟨(128 + t.val) % 128, by omega⟩ ⟨128 + d.val, by omega⟩
      rw [e1, e2, head1_at1 ws bs w v g h1 h2]
      exact key ⟨128 + d.val, by omega⟩ ⟨128 + t.val, by omega⟩ t (fun s => ⟨128 + s.val, by omega⟩) 1 rfl (Fin.ext (by show (128 + d.val) / 128 = 1; omega))
  · intro d
    show spatial v g ws bs (ix2 r ⟨256 + d.val, by omega⟩) = _
    rw [spatial, cat4_at2]
    refine halves (fun r => head2 v g ws bs (ix2 r d) = brA w (fun s => tr x ⟨128 * (r.val / 128) + s.val, by omega⟩) ⟨r.val % 128, by omega⟩ ⟨256 + d.val, by omega⟩) ?_ ?_ r
    · intro t
      have e1 : (fun s : Fin 128 => tr x ⟨128 * ((t.val) / 128) + s.val, by omega⟩) = fun s : Fin 128 => tr x ⟨s.val, by omega⟩ :=
        funext fun s => congrArg (tr x) (Fin.ext (by show 128 * ((t.val) / 128) + s.val = s.val; omega))
      have e2 : (⟨(t.val) % 128, by omega⟩ : Fin 128) = t := Fin.ext (by show (t.val) % 128 = t.val; omega)
      show head2 v g ws bs (ix2 ⟨t.val, by omega⟩ d) = brA w (fun s : Fin 128 => tr x ⟨128 * ((t.val) / 128) + s.val, by omega⟩) ⟨(t.val) % 128, by omega⟩ ⟨256 + d.val, by omega⟩
      rw [e1, e2, head2_at0 ws bs w v g h1 h2]
      exact key ⟨256 + d.val, by omega⟩ ⟨t.val, by omega⟩ t (fun s => ⟨s.val, by omega⟩) 2 rfl (Fin.ext (by show (256 + d.val) / 128 = 2; omega))
    · intro t
      have e1 : (fun s : Fin 128 => tr x ⟨128 * ((128 + t.val) / 128) + s.val, by omega⟩) = fun s : Fin 128 => tr x ⟨128 + s.val, by omega⟩ :=
        funext fun s => congrArg (tr x) (Fin.ext (by show 128 * ((128 + t.val) / 128) + s.val = 128 + s.val; omega))
      have e2 : (⟨(128 + t.val) % 128, by omega⟩ : Fin 128) = t := Fin.ext (by show (128 + t.val) % 128 = t.val; omega)
      show head2 v g ws bs (ix2 ⟨128 + t.val, by omega⟩ d) = brA w (fun s : Fin 128 => tr x ⟨128 * ((128 + t.val) / 128) + s.val, by omega⟩) ⟨(128 + t.val) % 128, by omega⟩ ⟨256 + d.val, by omega⟩
      rw [e1, e2, head2_at1 ws bs w v g h1 h2]
      exact key ⟨256 + d.val, by omega⟩ ⟨128 + t.val, by omega⟩ t (fun s => ⟨128 + s.val, by omega⟩) 2 rfl (Fin.ext (by show (256 + d.val) / 128 = 2; omega))
  · intro d
    show spatial v g ws bs (ix2 r ⟨384 + d.val, by omega⟩) = _
    rw [spatial, cat4_at3]
    refine halves (fun r => head3 v g ws bs (ix2 r d) = brA w (fun s => tr x ⟨128 * (r.val / 128) + s.val, by omega⟩) ⟨r.val % 128, by omega⟩ ⟨384 + d.val, by omega⟩) ?_ ?_ r
    · intro t
      have e1 : (fun s : Fin 128 => tr x ⟨128 * ((t.val) / 128) + s.val, by omega⟩) = fun s : Fin 128 => tr x ⟨s.val, by omega⟩ :=
        funext fun s => congrArg (tr x) (Fin.ext (by show 128 * ((t.val) / 128) + s.val = s.val; omega))
      have e2 : (⟨(t.val) % 128, by omega⟩ : Fin 128) = t := Fin.ext (by show (t.val) % 128 = t.val; omega)
      show head3 v g ws bs (ix2 ⟨t.val, by omega⟩ d) = brA w (fun s : Fin 128 => tr x ⟨128 * ((t.val) / 128) + s.val, by omega⟩) ⟨(t.val) % 128, by omega⟩ ⟨384 + d.val, by omega⟩
      rw [e1, e2, head3_at0 ws bs w v g h1 h2]
      exact key ⟨384 + d.val, by omega⟩ ⟨t.val, by omega⟩ t (fun s => ⟨s.val, by omega⟩) 3 rfl (Fin.ext (by show (384 + d.val) / 128 = 3; omega))
    · intro t
      have e1 : (fun s : Fin 128 => tr x ⟨128 * ((128 + t.val) / 128) + s.val, by omega⟩) = fun s : Fin 128 => tr x ⟨128 + s.val, by omega⟩ :=
        funext fun s => congrArg (tr x) (Fin.ext (by show 128 * ((128 + t.val) / 128) + s.val = 128 + s.val; omega))
      have e2 : (⟨(128 + t.val) % 128, by omega⟩ : Fin 128) = t := Fin.ext (by show (128 + t.val) % 128 = t.val; omega)
      show head3 v g ws bs (ix2 ⟨128 + t.val, by omega⟩ d) = brA w (fun s : Fin 128 => tr x ⟨128 * ((128 + t.val) / 128) + s.val, by omega⟩) ⟨(128 + t.val) % 128, by omega⟩ ⟨384 + d.val, by omega⟩
      rw [e1, e2, head3_at1 ws bs w v g h1 h2]
      exact key ⟨384 + d.val, by omega⟩ ⟨128 + t.val, by omega⟩ t (fun s => ⟨128 + s.val, by omega⟩) 3 rfl (Fin.ext (by show (384 + d.val) / 128 = 3; omega))

/-- The gated convolution of a block of channels, at an element. -/
theorem conv_at (r : FVec Ideal S256x512 .f32) (t : FVec Ideal S8x128 .f32) (c0 c1 c2 : Vec Ideal S1x1x128 .f32) (i : Fin 256) (d : Fin 128) :
    conv r t c0 c1 c2 (ix2 i d) = r (ix2 i ⟨128 + d.val, by omega⟩)
      * ((if h : i.val < 2 then t (ix2 ⟨6 + i.val, by omega⟩ d) else Tile.xc r (ix2 ⟨i.val - 2, by omega⟩ d)) * c0 (ix3 0 0 d)
        + (if h : i.val < 1 then t (ix2 ⟨7 + i.val, by omega⟩ d) else Tile.xc r (ix2 ⟨i.val - 1, by omega⟩ d)) * c1 (ix3 0 0 d) + Tile.xc r (ix2 i d) * c2 (ix3 0 0 d))
      * Spec.silu (r (ix2 i ⟨384 + d.val, by omega⟩)) := by
  have s2 := shift2_at (Tile.xc r) t i d
  have s1 := shift1_at (Tile.xc r) t i d
  pointwise [conv, silu_at, tap, s2, s1]

/-- The convolution's input, channels from 0. -/
theorem x0_at (hg : ∀ k, ng (ix2 0 k) = w.ng k) (hW : ∀ k c, W (ix3 0 k c) = w.W k (perm c)) (r : Fin 256) (d : Fin 128) :
    Tile.xc (proj (hn x ng) (cols1536 W)) (ix2 r d) = Spec.xc w (tr x r) ⟨d.val, by omega⟩ := by
  rw [Tile.xc_at, p1536_at x ng W w hg hW, p1536_at x ng W w hg hW, perm_hi (1536 + (256 + d.val)) (2560 + (d.val)) (by omega) (by omega) (by omega) (by omega),
    perm_hi (1536 + d.val) (1536 + (d.val)) (by omega) (by omega) (by omega) (by omega)]
  rfl

/-- The convolution branch, channels from 0. -/
theorem conv0_at (hg : ∀ k, ng (ix2 0 k) = w.ng k) (hW : ∀ k c, W (ix3 0 k c) = w.W k (perm c)) (hc : ∀ k j, cw (ix3 0 k j) = w.cw j k) (r : Fin 256) (d : Fin 128) :
    conv0 (hn x ng) W t cw (ix2 r d) = brB w (tr x r) (tb w x t 2 (by omega) r) (tb w x t 1 (by omega) r) ⟨d.val, by omega⟩ := by
  rw [conv0, conv_at, p1536_at x ng W w hg hW, p1536_at x ng W w hg hW,
    perm_hi (1536 + (128 + d.val)) (2048 + (d.val)) (by omega) (by omega) (by omega) (by omega),
    perm_hi (1536 + (384 + d.val)) (3072 + (d.val)) (by omega) (by omega) (by omega) (by omega)]
  simp only [x0_at x ng W w hg hW]
  pointwise [hc]
  rfl

/-- The convolution's input, channels from 128. -/
theorem x1_at (hg : ∀ k, ng (ix2 0 k) = w.ng k) (hW : ∀ k c, W (ix3 0 k c) = w.W k (perm c)) (r : Fin 256) (d : Fin 128) :
    Tile.xc (proj (hn x ng) (cols2048 W)) (ix2 r d) = Spec.xc w (tr x r) ⟨128 + d.val, by omega⟩ := by
  rw [Tile.xc_at, p2048_at x ng W w hg hW, p2048_at x ng W w hg hW, perm_hi (2048 + (256 + d.val)) (2560 + (128 + d.val)) (by omega) (by omega) (by omega) (by omega),
    perm_hi (2048 + d.val) (1536 + (128 + d.val)) (by omega) (by omega) (by omega) (by omega)]
  rfl

/-- The convolution branch, channels from 128. -/
theorem conv1_at (hg : ∀ k, ng (ix2 0 k) = w.ng k) (hW : ∀ k c, W (ix3 0 k c) = w.W k (perm c)) (hc : ∀ k j, cw (ix3 0 k j) = w.cw j k) (r : Fin 256) (d : Fin 128) :
    conv1 (hn x ng) W t cw (ix2 r d) = brB w (tr x r) (tb w x t 2 (by omega) r) (tb w x t 1 (by omega) r) ⟨128 + d.val, by omega⟩ := by
  rw [conv1, conv_at, p2048_at x ng W w hg hW, p2048_at x ng W w hg hW,
    perm_hi (2048 + (128 + d.val)) (2048 + (128 + d.val)) (by omega) (by omega) (by omega) (by omega),
    perm_hi (2048 + (384 + d.val)) (3072 + (128 + d.val)) (by omega) (by omega) (by omega) (by omega)]
  simp only [x1_at x ng W w hg hW]
  pointwise [hc]
  rfl

/-- The convolution's input, channels from 256. -/
theorem x2_at (hg : ∀ k, ng (ix2 0 k) = w.ng k) (hW : ∀ k c, W (ix3 0 k c) = w.W k (perm c)) (r : Fin 256) (d : Fin 128) :
    Tile.xc (proj (hn x ng) (cols2560 W)) (ix2 r d) = Spec.xc w (tr x r) ⟨256 + d.val, by omega⟩ := by
  rw [Tile.xc_at, p2560_at x ng W w hg hW, p2560_at x ng W w hg hW, perm_hi (2560 + (256 + d.val)) (2560 + (256 + d.val)) (by omega) (by omega) (by omega) (by omega),
    perm_hi (2560 + d.val) (1536 + (256 + d.val)) (by omega) (by omega) (by omega) (by omega)]
  rfl

/-- The convolution branch, channels from 256. -/
theorem conv2_at (hg : ∀ k, ng (ix2 0 k) = w.ng k) (hW : ∀ k c, W (ix3 0 k c) = w.W k (perm c)) (hc : ∀ k j, cw (ix3 0 k j) = w.cw j k) (r : Fin 256) (d : Fin 128) :
    conv2 (hn x ng) W t cw (ix2 r d) = brB w (tr x r) (tb w x t 2 (by omega) r) (tb w x t 1 (by omega) r) ⟨256 + d.val, by omega⟩ := by
  rw [conv2, conv_at, p2560_at x ng W w hg hW, p2560_at x ng W w hg hW,
    perm_hi (2560 + (128 + d.val)) (2048 + (256 + d.val)) (by omega) (by omega) (by omega) (by omega),
    perm_hi (2560 + (384 + d.val)) (3072 + (256 + d.val)) (by omega) (by omega) (by omega) (by omega)]
  simp only [x2_at x ng W w hg hW]
  pointwise [hc]
  rfl

/-- The convolution's input, channels from 384. -/
theorem x3_at (hg : ∀ k, ng (ix2 0 k) = w.ng k) (hW : ∀ k c, W (ix3 0 k c) = w.W k (perm c)) (r : Fin 256) (d : Fin 128) :
    Tile.xc (proj (hn x ng) (cols3072 W)) (ix2 r d) = Spec.xc w (tr x r) ⟨384 + d.val, by omega⟩ := by
  rw [Tile.xc_at, p3072_at x ng W w hg hW, p3072_at x ng W w hg hW, perm_hi (3072 + (256 + d.val)) (2560 + (384 + d.val)) (by omega) (by omega) (by omega) (by omega),
    perm_hi (3072 + d.val) (1536 + (384 + d.val)) (by omega) (by omega) (by omega) (by omega)]
  rfl

/-- The convolution branch, channels from 384. -/
theorem conv3_at (hg : ∀ k, ng (ix2 0 k) = w.ng k) (hW : ∀ k c, W (ix3 0 k c) = w.W k (perm c)) (hc : ∀ k j, cw (ix3 0 k j) = w.cw j k) (r : Fin 256) (d : Fin 128) :
    conv3 (hn x ng) W t cw (ix2 r d) = brB w (tr x r) (tb w x t 2 (by omega) r) (tb w x t 1 (by omega) r) ⟨384 + d.val, by omega⟩ := by
  rw [conv3, conv_at, p3072_at x ng W w hg hW, p3072_at x ng W w hg hW,
    perm_hi (3072 + (128 + d.val)) (2048 + (384 + d.val)) (by omega) (by omega) (by omega) (by omega),
    perm_hi (3072 + (384 + d.val)) (3072 + (384 + d.val)) (by omega) (by omega) (by omega) (by omega)]
  simp only [x3_at x ng W w hg hW]
  pointwise [hc]
  rfl

/-- The convolution branch at an element. -/
theorem convs_at (hg : ∀ k, ng (ix2 0 k) = w.ng k) (hW : ∀ k c, W (ix3 0 k c) = w.W k (perm c)) (hc : ∀ k j, cw (ix3 0 k j) = w.cw j k) (r : Fin 256) (j : Fin 512) :
    convs (hn x ng) W t cw (ix2 r j) = brB w (tr x r) (tb w x t 2 (by omega) r) (tb w x t 1 (by omega) r) j := by
  refine fours (fun j => convs (hn x ng) W t cw (ix2 r j) = brB w (tr x r) (tb w x t 2 (by omega) r) (tb w x t 1 (by omega) r) j) ?_ ?_ ?_ ?_ j
  · intro d
    show convs (hn x ng) W t cw (ix2 r ⟨d.val, by omega⟩) = _
    rw [convs, cat4_at0, conv0_at x ng W cw t w hg hW hc]
  · intro d
    show convs (hn x ng) W t cw (ix2 r ⟨128 + d.val, by omega⟩) = _
    rw [convs, cat4_at1, conv1_at x ng W cw t w hg hW hc]
  · intro d
    show convs (hn x ng) W t cw (ix2 r ⟨256 + d.val, by omega⟩) = _
    rw [convs, cat4_at2, conv2_at x ng W cw t w hg hW hc]
  · intro d
    show convs (hn x ng) W t cw (ix2 r ⟨384 + d.val, by omega⟩) = _
    rw [convs, cat4_at3, conv3_at x ng W cw t w hg hW hc]

/-- The tail that a sub-tile leaves. -/
theorem tail_at (hg : ∀ k, ng (ix2 0 k) = w.ng k) (hW : ∀ k c, W (ix3 0 k c) = w.W k (perm c)) (a : Fin 8) (j : Fin 512) :
    tail (hn x ng) W (ix2 a j) = Spec.xc w (tr x ⟨248 + a.val, by omega⟩) j := by
  refine fours (fun j => tail (hn x ng) W (ix2 a j) = Spec.xc w (tr x ⟨248 + a.val, by omega⟩) j) ?_ ?_ ?_ ?_ j
  · intro d
    show tail (hn x ng) W (ix2 a ⟨d.val, by omega⟩) = _
    refine Eq.trans ?_ (x0_at x ng W w hg hW ⟨248 + a.val, by omega⟩ d)
    pointwise [tail, last8]

  · intro d
    show tail (hn x ng) W (ix2 a ⟨128 + d.val, by omega⟩) = _
    refine Eq.trans ?_ (x1_at x ng W w hg hW ⟨248 + a.val, by omega⟩ d)
    pointwise [tail, last8]

  · intro d
    show tail (hn x ng) W (ix2 a ⟨256 + d.val, by omega⟩) = _
    refine Eq.trans ?_ (x2_at x ng W w hg hW ⟨248 + a.val, by omega⟩ d)
    pointwise [tail, last8]
    refine (dif_neg (by omega)).trans ((dif_neg (by omega)).trans ((dif_pos (by omega)).trans ?_))
    exact congrArg (fun b => Tile.xc (proj (hn x ng) (cols2560 W)) (ix2 ⟨248 + a.val, by omega⟩ b)) (Fin.ext (by show 256 + d.val - 128 - 128 = d.val; omega))
  · intro d
    show tail (hn x ng) W (ix2 a ⟨384 + d.val, by omega⟩) = _
    refine Eq.trans ?_ (x3_at x ng W w hg hW ⟨248 + a.val, by omega⟩ d)
    pointwise [tail, last8]
    refine (dif_neg (by omega)).trans ((dif_neg (by omega)).trans ((dif_neg (by omega)).trans ?_))
    exact congrArg (fun b => Tile.xc (proj (hn x ng) (cols3072 W)) (ix2 ⟨248 + a.val, by omega⟩ b)) (Fin.ext (by show 384 + d.val - 128 - 128 - 128 = d.val; omega))

/-- The rows after the mixing. -/
theorem mid_at (H : Holds w ng W lg lb ws bs cw wo pg wg wp) (r : Fin 256) (j : Fin 1024) :
    Tile.mid x ng W lg lb ws bs cw wo t (ix2 r j)
      = Spec.mid w (fun s => tr x ⟨128 * (r.val / 128) + s.val, by omega⟩) ⟨r.val % 128, by omega⟩ (tb w x t 2 (by omega) r) (tb w x t 1 (by omega) r) j := by
  have e : (⟨128 * (r.val / 128) + r.val % 128, by omega⟩ : Fin 256) = r := Fin.ext (by show 128 * (r.val / 128) + r.val % 128 = r.val; omega)
  have ea : (fun k => spatial (lnorm (proj (hn x ng) (cols0 W)) lg lb) (gate (hn x ng) (cols512 W) (cols1024 W)) ws bs (ix2 r k))
      = brA w (fun s => tr x ⟨128 * (r.val / 128) + s.val, by omega⟩) ⟨r.val % 128, by omega⟩ :=
    funext fun k => spatial_at x ws bs w _ _ H.ws H.bs (v_at x ng W lg lb w H.ng H.W H.lg H.lb) (g_at x ng W w H.ng H.W) r k
  have eb : (fun k => convs (hn x ng) W t cw (ix2 r k)) = brB w (tr x r) (tb w x t 2 (by omega) r) (tb w x t 1 (by omega) r) :=
    funext fun k => convs_at x ng W cw t w H.ng H.W H.cw r k
  have ex : shapeCast S256x1024 x shapeCasts_S1x256x1024_S256x1024 (ix2 r j) = x (ix3 0 r j) := by pointwise
  rw [Tile.mid, outp_at, ea, eb, ex, Spec.mid]
  show _ = tr x (⟨128 * (r.val / 128) + r.val % 128, by omega⟩ : Fin 256) j + ∑ m, cat _ (brB w (tr x (⟨128 * (r.val / 128) + r.val % 128, by omega⟩ : Fin 256)) _ _) m * w.wo m j
  rw [e]
  exact congrArg (fun q => x (ix3 0 r j) + q) (Finset.sum_congr rfl fun m _ => by rw [H.wo])

/-- The rows after the layer. -/
theorem rows_at (H : Holds w ng W lg lb ws bs cw wo pg wg wp) (r : Fin 256) (j : Fin 1024) :
    rows x p ng W lg lb ws bs cw wo pg wg wp t (ix2 r j)
      = row w (fun s => tr x ⟨128 * (r.val / 128) + s.val, by omega⟩) ⟨r.val % 128, by omega⟩ (tb w x t 2 (by omega) r) (tb w x t 1 (by omega) r) (fun k => p (ix4 0 0 r k)) j := by
  have em := fun m => mid_at x ng W lg lb ws bs cw wo pg wg wp t w H r m
  have ef : (fun m => Tile.mid x ng W lg lb ws bs cw wo t (ix2 r m)) = _ := funext em
  have ep : (fun m => pg (ix2 0 m)) = w.pg := funext H.pg
  rw [rows, gated_at, em, ef, ep, emb_at, row, gat]
  refine congrArg₂ (fun a b => _ + Ideal.logistic a * b) (Finset.sum_congr rfl fun k _ => by rw [H.wg]) (Finset.sum_congr rfl fun k _ => by rw [H.wp])
end

end Cert.KernelIdeal.Tile

end
-- ==== Proof.RegVal0.lean ====
module

public import proofs.«01_k».proof.Proof.Reg0
public import proofs.«01_k».proof.Proof.ValC
public import Idealize.ShloMosaic.Lib.Pipeline.ValueKit.Geometry

/-! # The prepared weights, over the extended reals

The joint projection's columns are stored in the order `perm`; the other weights are stored as they are. -/

@[expose] public section

set_option maxRecDepth 16384

noncomputable section

namespace Cert.KernelIdeal.L0

open Cert.KernelIdeal Cert.KernelIdeal.Gen Cert.KernelIdeal.Tile Cert.Spec
open Idealize.ShloMosaic Idealize.ShloMosaic.TcCoe
open Idealize.ShloMosaic.Pipeline (Dat)

/-- A block of columns is stored as it is. -/
theorem blk_at (v : Vec Ideal S1x256x128 .f32) (a : Fin 1) (r : Fin 256) (d : Fin 128) : blk v (ix3 a r d) = v (ix3 a r d) := by
  have ha : a = 0 := Subsingleton.elim _ _
  subst ha
  pointwise [blk]

/-- A square block is stored as it is. -/
theorem sqr_at (v : Vec Ideal S1x256x1024 .f32) (a : Fin 1) (r : Fin 256) (d : Fin 1024) : sqr v (ix3 a r d) = v (ix3 a r d) := by
  have ha : a = 0 := Subsingleton.elim _ _
  subst ha
  pointwise [sqr]

/-- The embedding projection's block is stored as it is. -/
theorem pro_at (v : Vec Ideal S1x64x1024 .f32) (a : Fin 1) (r : Fin 64) (d : Fin 1024) : pro v (ix3 a r d) = v (ix3 a r d) := by
  have ha : a = 0 := Subsingleton.elim _ _
  subst ha
  pointwise [pro]

/-- A piece of 128 columns from `o` that reads the columns from `u`, when `perm` says so. -/
theorem piece_at (x0 : Vec Ideal S1x256x3584 .f32) (o u : Nat) (ho : ∀ a, (![0, 0, o] : Fin 3 → Nat) a + S1x256x128.size a ≤ S1x256x3584.size a)
    (hu : ∀ a, (![0, 0, u] : Fin 3 → Nat) a + S1x256x128.size a ≤ S1x256x3584.size a) (hp : ∀ (c : Fin 3584) (d : Nat), d < 128 → c.val = o + d → (perm c).val = u + d)
    (z : (Rect.unit (s := S1x256x3584) ![0, 0, o] S1x256x128.size ho).shape.Idx) :
    blk (View.ld x0 (Rect.unit (s := S1x256x3584) ![0, 0, u] S1x256x128.size hu)) z
      = (fun y : S1x256x3584.Idx => x0 (ix3 0 (y 1) (perm (y 2)))) ((Rect.unit (s := S1x256x3584) ![0, 0, o] S1x256x128.size ho).emb z) := by
  refine (congrArg (blk _) (ix3_eta z).symm).trans ((blk_at _ _ _ _).trans ((congrArg (View.ld x0 _) (ix3_eta z)).trans ?_))
  have e1 := ValueKit.rect_emb_unit_val (s := S1x256x3584) ![0, 0, o] S1x256x128.size ho z 1
  have e2 := ValueKit.rect_emb_unit_val (s := S1x256x3584) ![0, 0, o] S1x256x128.size ho z 2
  have f1 := ValueKit.rect_emb_unit_val (s := S1x256x3584) ![0, 0, u] S1x256x128.size hu z 1
  have f2 := ValueKit.rect_emb_unit_val (s := S1x256x3584) ![0, 0, u] S1x256x128.size hu z 2
  have hd : (z 2).val < 128 := (z 2).isLt
  show x0 ((Rect.unit (s := S1x256x3584) ![0, 0, u] S1x256x128.size hu).emb z) = _
  refine (congrArg x0 (ix3_eta _).symm).trans ?_
  refine congrArg x0 ?_
  refine congr (congr (congrArg ix3 (Subsingleton.elim _ _)) (Fin.ext (f1.trans e1.symm))) (Fin.ext ?_)
  exact f2.trans (hp _ (z 2).val hd e2).symm

/-- The stored projection weight at an element. -/
theorem canon_col (x0 : Vec Ideal S1x256x3584 .f32) (y : S1x256x3584.Idx) :
    (View.canon (colL x0) : Vec Ideal S1x256x3584 .bf16) y = x0 (ix3 0 (y 1) (perm (y 2))) := by
  refine View.canon_apply_of_pieces (Val := Elt Ideal) (S := S1x256x3584) (e := .bf16) (fun y : S1x256x3584.Idx => x0 (ix3 0 (y 1) (perm (y 2)))) _ ?_ y
    (View.cover_of_tiledL (colL x0) S1x256x128.size (by sl_kernel_rfl) y)
  refine List.forall_mem_cons.2 ⟨piece_at x0 3456 3456 inb_S1x256x3584_S1x256x128_0_0_3456 inb_S1x256x3584_S1x256x128_0_0_3456 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 3456 + d; split_ifs <;> omega), ?_⟩
  refine List.forall_mem_cons.2 ⟨piece_at x0 3328 2944 inb_S1x256x3584_S1x256x128_0_0_3328 inb_S1x256x3584_S1x256x128_0_0_2944 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 2944 + d; split_ifs <;> omega), ?_⟩
  refine List.forall_mem_cons.2 ⟨piece_at x0 3200 2432 inb_S1x256x3584_S1x256x128_0_0_3200 inb_S1x256x3584_S1x256x128_0_0_2432 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 2432 + d; split_ifs <;> omega), ?_⟩
  refine List.forall_mem_cons.2 ⟨piece_at x0 3072 1920 inb_S1x256x3584_S1x256x128_0_0_3072 inb_S1x256x3584_S1x256x128_0_0_1920 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 1920 + d; split_ifs <;> omega), ?_⟩
  refine List.forall_mem_cons.2 ⟨piece_at x0 2944 3328 inb_S1x256x3584_S1x256x128_0_0_2944 inb_S1x256x3584_S1x256x128_0_0_3328 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 3328 + d; split_ifs <;> omega), ?_⟩
  refine List.forall_mem_cons.2 ⟨piece_at x0 2816 2816 inb_S1x256x3584_S1x256x128_0_0_2816 inb_S1x256x3584_S1x256x128_0_0_2816 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 2816 + d; split_ifs <;> omega), ?_⟩
  refine List.forall_mem_cons.2 ⟨piece_at x0 2688 2304 inb_S1x256x3584_S1x256x128_0_0_2688 inb_S1x256x3584_S1x256x128_0_0_2304 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 2304 + d; split_ifs <;> omega), ?_⟩
  refine List.forall_mem_cons.2 ⟨piece_at x0 2560 1792 inb_S1x256x3584_S1x256x128_0_0_2560 inb_S1x256x3584_S1x256x128_0_0_1792 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 1792 + d; split_ifs <;> omega), ?_⟩
  refine List.forall_mem_cons.2 ⟨piece_at x0 2432 3200 inb_S1x256x3584_S1x256x128_0_0_2432 inb_S1x256x3584_S1x256x128_0_0_3200 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 3200 + d; split_ifs <;> omega), ?_⟩
  refine List.forall_mem_cons.2 ⟨piece_at x0 2304 2688 inb_S1x256x3584_S1x256x128_0_0_2304 inb_S1x256x3584_S1x256x128_0_0_2688 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 2688 + d; split_ifs <;> omega), ?_⟩
  refine List.forall_mem_cons.2 ⟨piece_at x0 2176 2176 inb_S1x256x3584_S1x256x128_0_0_2176 inb_S1x256x3584_S1x256x128_0_0_2176 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 2176 + d; split_ifs <;> omega), ?_⟩
  refine List.forall_mem_cons.2 ⟨piece_at x0 2048 1664 inb_S1x256x3584_S1x256x128_0_0_2048 inb_S1x256x3584_S1x256x128_0_0_1664 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 1664 + d; split_ifs <;> omega), ?_⟩
  refine List.forall_mem_cons.2 ⟨piece_at x0 1920 3072 inb_S1x256x3584_S1x256x128_0_0_1920 inb_S1x256x3584_S1x256x128_0_0_3072 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 3072 + d; split_ifs <;> omega), ?_⟩
  refine List.forall_mem_cons.2 ⟨piece_at x0 1792 2560 inb_S1x256x3584_S1x256x128_0_0_1792 inb_S1x256x3584_S1x256x128_0_0_2560 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 2560 + d; split_ifs <;> omega), ?_⟩
  refine List.forall_mem_cons.2 ⟨piece_at x0 1664 2048 inb_S1x256x3584_S1x256x128_0_0_1664 inb_S1x256x3584_S1x256x128_0_0_2048 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 2048 + d; split_ifs <;> omega), ?_⟩
  refine List.forall_mem_cons.2 ⟨piece_at x0 1536 1536 inb_S1x256x3584_S1x256x128_0_0_1536 inb_S1x256x3584_S1x256x128_0_0_1536 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 1536 + d; split_ifs <;> omega), ?_⟩
  refine List.forall_mem_cons.2 ⟨piece_at x0 1408 1408 inb_S1x256x3584_S1x256x128_0_0_1408 inb_S1x256x3584_S1x256x128_0_0_1408 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 1408 + d; split_ifs <;> omega), ?_⟩
  refine List.forall_mem_cons.2 ⟨piece_at x0 1280 384 inb_S1x256x3584_S1x256x128_0_0_1280 inb_S1x256x3584_S1x256x128_0_0_384 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 384 + d; split_ifs <;> omega), ?_⟩
  refine List.forall_mem_cons.2 ⟨piece_at x0 1152 1280 inb_S1x256x3584_S1x256x128_0_0_1152 inb_S1x256x3584_S1x256x128_0_0_1280 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 1280 + d; split_ifs <;> omega), ?_⟩
  refine List.forall_mem_cons.2 ⟨piece_at x0 1024 256 inb_S1x256x3584_S1x256x128_0_0_1024 inb_S1x256x3584_S1x256x128_0_0_256 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 256 + d; split_ifs <;> omega), ?_⟩
  refine List.forall_mem_cons.2 ⟨piece_at x0 896 1152 inb_S1x256x3584_S1x256x128_0_0_896 inb_S1x256x3584_S1x256x128_0_0_1152 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 1152 + d; split_ifs <;> omega), ?_⟩
  refine List.forall_mem_cons.2 ⟨piece_at x0 768 128 inb_S1x256x3584_S1x256x128_0_0_768 inb_S1x256x3584_S1x256x128_0_0_128 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 128 + d; split_ifs <;> omega), ?_⟩
  refine List.forall_mem_cons.2 ⟨piece_at x0 640 1024 inb_S1x256x3584_S1x256x128_0_0_640 inb_S1x256x3584_S1x256x128_0_0_1024 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 1024 + d; split_ifs <;> omega), ?_⟩
  refine List.forall_mem_cons.2 ⟨piece_at x0 512 0 inb_S1x256x3584_S1x256x128_0_0_512 inb_S1x256x3584_S1x256x128_0_0_0 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 0 + d; split_ifs <;> omega), ?_⟩
  refine List.forall_mem_cons.2 ⟨piece_at x0 384 896 inb_S1x256x3584_S1x256x128_0_0_384 inb_S1x256x3584_S1x256x128_0_0_896 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 896 + d; split_ifs <;> omega), ?_⟩
  refine List.forall_mem_cons.2 ⟨piece_at x0 256 768 inb_S1x256x3584_S1x256x128_0_0_256 inb_S1x256x3584_S1x256x128_0_0_768 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 768 + d; split_ifs <;> omega), ?_⟩
  refine List.forall_mem_cons.2 ⟨piece_at x0 128 640 inb_S1x256x3584_S1x256x128_0_0_128 inb_S1x256x3584_S1x256x128_0_0_640 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 640 + d; split_ifs <;> omega), ?_⟩
  refine List.forall_mem_cons.2 ⟨piece_at x0 0 512 inb_S1x256x3584_S1x256x128_0_0_0 inb_S1x256x3584_S1x256x128_0_0_512 fun c d hd hc => (by show (if c.val < 512 then 512 + c.val else if c.val < 1536 then 1024 * ((c.val - 512) % 256 / 128) + 128 * ((c.val - 512) / 256) + c.val % 128 else 1536 + 512 * ((c.val - 1536) % 512 / 128) + 128 * ((c.val - 1536) / 512) + c.val % 128) = 512 + d; split_ifs <;> omega), ?_⟩
  exact fun _ h => absurd h List.not_mem_nil

/-- A stored square block at an element. -/
theorem canon_sqr (x : Vec Ideal S1x256x1024 .f32) (y : S1x256x1024.Idx) : (View.canon (sqrL x) : Vec Ideal S1x256x1024 .bf16) y = x y := by
  unfold sqrL
  rw [View.canon_cons_unit_lit _ _ _ (fun a => by fin_cases a <;> rfl)]
  refine (congrArg (sqr _) (ix3_eta y).symm).trans ((sqr_at _ _ _ _).trans ((congrArg (View.ld x _) (ix3_eta y)).trans ?_))
  exact congrArg x (funext fun a => Fin.ext ((ValueKit.rect_emb_unit_val (s := S1x256x1024) ![0, 0, 0] S1x256x1024.size inb_S1x256x1024_S1x256x1024_0_0_0 y a).trans (by fin_cases a <;> exact Nat.zero_add _)))

/-- The stored embedding projection's block at an element. -/
theorem canon_pro (x : Vec Ideal S1x64x1024 .f32) (y : S1x64x1024.Idx) : (View.canon (proL x) : Vec Ideal S1x64x1024 .bf16) y = x y := by
  unfold proL
  rw [View.canon_cons_unit_lit _ _ _ (fun a => by fin_cases a <;> rfl)]
  refine (congrArg (pro _) (ix3_eta y).symm).trans ((pro_at _ _ _ _).trans ((congrArg (View.ld x _) (ix3_eta y)).trans ?_))
  exact congrArg x (funext fun a => Fin.ext ((ValueKit.rect_emb_unit_val (s := S1x64x1024) ![0, 0, 0] S1x64x1024.size inb_S1x64x1024_S1x64x1024_0_0_0 y a).trans (by fin_cases a <;> exact Nat.zero_add _)))

/-- Where window 0's block lies. -/
theorem idx_0 : ∀ t : Fin cfg0.N, win0_0.index t = ![t.val / 4, t.val % 4, 0] := (by decide +kernel : ∀ t : Fin grid0.N, _)

/-- Where window 1's block lies. -/
theorem idx_1 : ∀ t : Fin cfg0.N, win0_1.index t = ![t.val / 4, t.val % 4, 0] := (by decide +kernel : ∀ t : Fin grid0.N, _)

/-- Where window 2's block lies. -/
theorem idx_2 : ∀ t : Fin cfg0.N, win0_2.index t = ![t.val / 4, t.val % 4, 0] := (by decide +kernel : ∀ t : Fin grid0.N, _)

/-- Where window 3's block lies. -/
theorem idx_3 : ∀ t : Fin cfg0.N, win0_3.index t = ![t.val / 4, t.val % 4, 0] := (by decide +kernel : ∀ t : Fin grid0.N, _)

/-- Where window 4's block lies. -/
theorem idx_4 : ∀ t : Fin cfg0.N, win0_4.index t = ![t.val / 4, t.val % 4, 0] := (by decide +kernel : ∀ t : Fin grid0.N, _)

/-- Where window 5's block lies. -/
theorem idx_5 : ∀ t : Fin cfg0.N, win0_5.index t = ![t.val / 4, t.val % 4, 0] := (by decide +kernel : ∀ t : Fin grid0.N, _)

/-- Where window 6's block lies. -/
theorem idx_6 : ∀ t : Fin cfg0.N, win0_6.index t = ![t.val / 4, t.val % 4, 0] := (by decide +kernel : ∀ t : Fin grid0.N, _)

/-- Where window 7's block lies. -/
theorem idx_7 : ∀ t : Fin cfg0.N, win0_7.index t = ![t.val / 4, t.val % 4, 0] := (by decide +kernel : ∀ t : Fin grid0.N, _)

variable (c : Dev nD) (V : (b : Ref sig .tc) → Buf (Elt Ideal) ((c : Thread nD τ).loc b))

/-- The array that window 4 leaves. -/
theorem arr_4 : (dat c V).arrAt 4 cfg0.N = fun y : S2x1024x3584.Idx => (V main_arg3 : Vec Ideal S2x1024x3584 .f32) (ix3 (y 0) (y 1) (perm (y 2))) := by
  refine (dat c V).arrAt_eq_of_covers 4 (fun y : S2x1024x3584.Idx => (V main_arg3 : Vec Ideal S2x1024x3584 .f32) (ix3 (y 0) (y 1) (perm (y 2)))) (by decide +kernel) fun t hf y => ?_
  blk_simp
  rw [after_4]
  unfold out4
  refine (canon_col _ y).trans ?_
  unfold in0 iblk
  blk_simp
  refine congrArg (V main_arg3 : Vec Ideal S2x1024x3584 .f32) ?_
  refine (ix3_eta _).symm.trans (congr (congr (congrArg ix3 (Fin.ext ?_)) (Fin.ext ?_)) (Fin.ext ?_))
  · blk_simp [idx_0, idx_4]
    rfl
  · blk_simp [idx_0, idx_4]
  · have e : (((cfg0.win 4).blk t).view.emb y 2 : Fin 3584) = y 2 := Fin.ext (by blk_simp [idx_4])
    blk_simp [idx_0]
    exact congrArg (fun j => (perm j).val) e.symm

/-- The array that window 5 leaves. -/
theorem arr_5 : (dat c V).arrAt 5 cfg0.N = fun y : S2x1024x1024.Idx => (V main_arg9 : Vec Ideal S2x1024x1024 .f32) (ix3 (y 0) (y 1) (y 2)) := by
  refine (dat c V).arrAt_eq_of_covers 5 (fun y : S2x1024x1024.Idx => (V main_arg9 : Vec Ideal S2x1024x1024 .f32) (ix3 (y 0) (y 1) (y 2))) (by decide +kernel) fun t hf y => ?_
  blk_simp
  rw [after_5]
  unfold out5
  refine (canon_sqr _ y).trans ?_
  unfold in1 iblk
  blk_simp
  refine congrArg (V main_arg9 : Vec Ideal S2x1024x1024 .f32) (Eq.trans (funext fun a => Fin.ext ?_) (ix3_eta _).symm)
  fin_cases a
  · blk_simp [idx_1, idx_5]
  · blk_simp [idx_1, idx_5]
  · blk_simp [idx_1, idx_5]

/-- The array that window 6 leaves. -/
theorem arr_6 : (dat c V).arrAt 6 cfg0.N = fun y : S2x1024x1024.Idx => (V main_arg11 : Vec Ideal S2x1024x1024 .f32) (ix3 (y 0) (y 1) (y 2)) := by
  refine (dat c V).arrAt_eq_of_covers 6 (fun y : S2x1024x1024.Idx => (V main_arg11 : Vec Ideal S2x1024x1024 .f32) (ix3 (y 0) (y 1) (y 2))) (by decide +kernel) fun t hf y => ?_
  blk_simp
  rw [after_6]
  unfold out6
  refine (canon_sqr _ y).trans ?_
  unfold in2 iblk
  blk_simp
  refine congrArg (V main_arg11 : Vec Ideal S2x1024x1024 .f32) (Eq.trans (funext fun a => Fin.ext ?_) (ix3_eta _).symm)
  fin_cases a
  · blk_simp [idx_2, idx_6]
  · blk_simp [idx_2, idx_6]
  · blk_simp [idx_2, idx_6]

/-- The array that window 7 leaves. -/
theorem arr_7 : (dat c V).arrAt 7 cfg0.N = fun y : S2x256x1024.Idx => (V main_arg12 : Vec Ideal S2x256x1024 .f32) (ix3 (y 0) (y 1) (y 2)) := by
  refine (dat c V).arrAt_eq_of_covers 7 (fun y : S2x256x1024.Idx => (V main_arg12 : Vec Ideal S2x256x1024 .f32) (ix3 (y 0) (y 1) (y 2))) (by decide +kernel) fun t hf y => ?_
  blk_simp
  rw [after_7]
  unfold out7
  refine (canon_pro _ y).trans ?_
  unfold in3 iblk
  blk_simp
  refine congrArg (V main_arg12 : Vec Ideal S2x256x1024 .f32) (Eq.trans (funext fun a => Fin.ext ?_) (ix3_eta _).symm)
  fin_cases a
  · blk_simp [idx_3, idx_7]
  · blk_simp [idx_3, idx_7]
  · blk_simp [idx_3, idx_7]

end Cert.KernelIdeal.L0
-- ==== Proof.WinVal1.lean ====
module

public import proofs.«01_k».proof.Proof.Reg1
public import proofs.«01_k».proof.Proof.Spec
public import Idealize.ShloMosaic.Lib.Pointwise
public import Idealize.ShloMosaic.Lib.Pipeline.ValueKit.Geometry

/-! # Layer 0's blocks, read off the arrays -/

@[expose] public section

set_option maxRecDepth 16384

noncomputable section

namespace Cert.KernelIdeal.L1

open Cert.KernelIdeal Cert.KernelIdeal.Gen Cert.KernelIdeal.Tile
open Idealize.ShloMosaic Idealize.ShloMosaic.TcCoe

/-- The sequence that a point works on. -/
def bt (t : Fin cfg1.N) : Fin 8 := ⟨t.val / 8, Nat.div_lt_of_lt_mul (lt_of_lt_of_eq t.isLt N_1)⟩

/-- Where window 0's block lies. -/
theorem idx_0 : ∀ t : Fin cfg1.N, win1_0.index t = ![t.val / 8, t.val % 8, 0] := (by decide +kernel : ∀ t : Fin grid1.N, _)

/-- Where window 1's block lies. -/
theorem idx_1 : ∀ t : Fin cfg1.N, win1_1.index t = ![0, t.val / 8, t.val % 8, 0] := (by decide +kernel : ∀ t : Fin grid1.N, _)

/-- Where window 2's block lies. -/
theorem idx_2 : ∀ t : Fin cfg1.N, win1_2.index t = ![0, 0] := (by decide +kernel : ∀ t : Fin grid1.N, _)

/-- Where window 3's block lies. -/
theorem idx_3 : ∀ t : Fin cfg1.N, win1_3.index t = ![0, 0, 0] := (by decide +kernel : ∀ t : Fin grid1.N, _)

/-- Where window 4's block lies. -/
theorem idx_4 : ∀ t : Fin cfg1.N, win1_4.index t = ![0, 0] := (by decide +kernel : ∀ t : Fin grid1.N, _)

/-- Where window 5's block lies. -/
theorem idx_5 : ∀ t : Fin cfg1.N, win1_5.index t = ![0, 0] := (by decide +kernel : ∀ t : Fin grid1.N, _)

/-- Where window 6's block lies. -/
theorem idx_6 : ∀ t : Fin cfg1.N, win1_6.index t = ![0, 0, 0, 0] := (by decide +kernel : ∀ t : Fin grid1.N, _)

/-- Where window 7's block lies. -/
theorem idx_7 : ∀ t : Fin cfg1.N, win1_7.index t = ![0, 0, 0] := (by decide +kernel : ∀ t : Fin grid1.N, _)

/-- Where window 8's block lies. -/
theorem idx_8 : ∀ t : Fin cfg1.N, win1_8.index t = ![0, 0, 0] := (by decide +kernel : ∀ t : Fin grid1.N, _)

/-- Where window 9's block lies. -/
theorem idx_9 : ∀ t : Fin cfg1.N, win1_9.index t = ![0, 0, 0] := (by decide +kernel : ∀ t : Fin grid1.N, _)

/-- Where window 10's block lies. -/
theorem idx_10 : ∀ t : Fin cfg1.N, win1_10.index t = ![0, 0] := (by decide +kernel : ∀ t : Fin grid1.N, _)

/-- Where window 11's block lies. -/
theorem idx_11 : ∀ t : Fin cfg1.N, win1_11.index t = ![0, 0, 0] := (by decide +kernel : ∀ t : Fin grid1.N, _)

/-- Where window 12's block lies. -/
theorem idx_12 : ∀ t : Fin cfg1.N, win1_12.index t = ![0, 0, 0] := (by decide +kernel : ∀ t : Fin grid1.N, _)

/-- Where window 13's block lies. -/
theorem idx_13 : ∀ t : Fin cfg1.N, win1_13.index t = ![0, 0] := (by decide +kernel : ∀ t : Fin grid1.N, _)

/-- Where the output's block lies. -/
theorem idx_14 : ∀ t : Fin cfg1.N, win1_14.index t = ![t.val / 8, t.val % 8, 0] := (by decide +kernel : ∀ t : Fin grid1.N, _)

variable (c : Dev nD) (V : (b : Ref sig .tc) → Buf (Elt Ideal) ((c : Thread nD τ).loc b)) (t : Fin cfg1.N)

/-- Window 0's block at an element. -/
theorem in0_at (r k : Fin 1024) : in0 c V t (ix3 0 r k) = (V main_arg0 : Vec Ideal S8x8192x1024 .f32) (ix3 (bt t) ⟨1024 * (t.val % 8) + r.val, by omega⟩ k) := by
  unfold in0 iblk
  blk_ext [idx_0, bt]

/-- Window 1's block at an element. -/
theorem in1_at (r : Fin 1024) (k : Fin 256) : in1 c V t (ix4 0 0 r k) = (V main_arg1 : Vec Ideal S2x8x8192x256 .f32) (ix4 0 (bt t) ⟨1024 * (t.val % 8) + r.val, by omega⟩ k) := by
  unfold in1 iblk
  blk_ext [idx_1, bt]

/-- Window 2's block at an element. -/
theorem in2_at (a : Fin 2) (k : Fin 1024) : in2 c V t (ix2 a k) = (V main_arg2 : Vec Ideal S2x1024 .f32) (ix2 a k) := by
  unfold in2 iblk
  blk_ext [idx_2, bt]

/-- Window 3's block at an element. -/
theorem in3_at (k : Fin 1024) (j : Fin 3584) : in3 c V t (ix3 0 k j) = (V main_v3_0 : Vec Ideal S2x1024x3584 .bf16) (ix3 0 k j) := by
  unfold in3 iblk
  blk_ext [idx_3, bt]

/-- Window 4's block at an element. -/
theorem in4_at (a : Fin 2) (k : Fin 512) : in4 c V t (ix2 a k) = (V main_arg4 : Vec Ideal S2x512 .f32) (ix2 a k) := by
  unfold in4 iblk
  blk_ext [idx_4, bt]

/-- Window 5's block at an element. -/
theorem in5_at (a : Fin 2) (k : Fin 512) : in5 c V t (ix2 a k) = (V main_arg5 : Vec Ideal S2x512 .f32) (ix2 a k) := by
  unfold in5 iblk
  blk_ext [idx_5, bt]

/-- Window 6's block at an element. -/
theorem in6_at (h : Fin 4) (s r : Fin 128) : in6 c V t (ix4 0 h s r) = (V main_arg6 : Vec Ideal S2x4x128x128 .f32) (ix4 0 h s r) := by
  unfold in6 iblk
  blk_ext [idx_6, bt]

/-- Window 7's block at an element. -/
theorem in7_at (s : Fin 128) (j : Fin 512) : in7 c V t (ix3 0 s j) = (V main_v2 : Vec Ideal S2x128x512 .f32) (ix3 0 s j) := by
  unfold in7 iblk
  blk_ext [idx_7, bt]

/-- Window 8's block at an element. -/
theorem in8_at (s : Fin 3) (j : Fin 512) : in8 c V t (ix3 0 s j) = (V main_v4 : Vec Ideal S2x3x512 .f32) (ix3 0 s j) := by
  unfold in8 iblk
  blk_ext [idx_8, bt]

/-- Window 9's block at an element. -/
theorem in9_at (k j : Fin 1024) : in9 c V t (ix3 0 k j) = (V main_v3_1 : Vec Ideal S2x1024x1024 .bf16) (ix3 0 k j) := by
  unfold in9 iblk
  blk_ext [idx_9, bt]

/-- Window 10's block at an element. -/
theorem in10_at (a : Fin 2) (k : Fin 1024) : in10 c V t (ix2 a k) = (V main_arg10 : Vec Ideal S2x1024 .f32) (ix2 a k) := by
  unfold in10 iblk
  blk_ext [idx_10, bt]

/-- Window 11's block at an element. -/
theorem in11_at (k j : Fin 1024) : in11 c V t (ix3 0 k j) = (V main_v3_2 : Vec Ideal S2x1024x1024 .bf16) (ix3 0 k j) := by
  unfold in11 iblk
  blk_ext [idx_11, bt]

/-- Window 12's block at an element. -/
theorem in12_at (k : Fin 256) (j : Fin 1024) : in12 c V t (ix3 0 k j) = (V main_v3_3 : Vec Ideal S2x256x1024 .bf16) (ix3 0 k j) := by
  unfold in12 iblk
  blk_ext [idx_12, bt]

/-- Window 13's block at an element. -/
theorem in13_at (k : Fin 1024) : in13 c V t (ix2 0 k) = (V main_v5 : Vec Ideal S1x1024 .f32) (ix2 0 k) := by
  unfold in13 iblk
  blk_ext [idx_13, bt]

end Cert.KernelIdeal.L1
-- ==== Proof.ValD.lean ====
module

public import proofs.«01_k».proof.Proof.ValC
public import Idealize.ShloMosaic.Lib.Pipeline.ValueKit.Geometry
public import Idealize.ShloMosaic.Lib.Pipeline.ValueKit.Tiles

/-! # A block's rows are the layer's rows, over the extended reals -/

@[expose] public section

set_option maxRecDepth 16384

noncomputable section

namespace Cert.KernelIdeal.Tile

open Cert.KernelIdeal Cert.KernelIdeal.Gen Cert.Spec
open Idealize.ShloMosaic Idealize.ShloMosaic.TcCoe

/-- A block's row. -/
def br (x : Vec Ideal S1x1024x1024 .f32) (R : Fin 1024) : Fin 1024 → EReal := fun m => x (ix3 0 R m)

/-- The convolution's input `k` rows before row `R` of a block, the tail before its first row. -/
def bb (w : Wt) (x : Vec Ideal S1x1024x1024 .f32) (t : FVec Ideal S8x512 .f32) (k : Nat) (hk : k ≤ 8) (R : Fin 1024) (j : Fin 512) : EReal :=
  if h : R.val < k then t (ix2 ⟨8 - k + R.val, by omega⟩ j) else Spec.xc w (br x ⟨R.val - k, by omega⟩) j

/-- Before the block's first row it is the tail's. -/
theorem bb_lt (w : Wt) (x : Vec Ideal S1x1024x1024 .f32) (t : FVec Ideal S8x512 .f32) (k : Nat) (hk : k ≤ 8) (R : Fin 1024) (j : Fin 512) (h : R.val < k) :
    bb w x t k hk R j = t (ix2 ⟨8 - k + R.val, by omega⟩ j) := dif_pos h

/-- Else it is the block's. -/
theorem bb_ge (w : Wt) (x : Vec Ideal S1x1024x1024 .f32) (t : FVec Ideal S8x512 .f32) (k : Nat) (hk : k ≤ 8) (R : Fin 1024) (j : Fin 512) (h : ¬ R.val < k) :
    bb w x t k hk R j = Spec.xc w (br x ⟨R.val - k, by omega⟩) j := dif_neg h

/-- A block's row after the layer. -/
def lay (w : Wt) (x : Vec Ideal S1x1024x1024 .f32) (p : Vec Ideal S1x1x1024x256 .f32) (t : FVec Ideal S8x512 .f32) (R : Fin 1024) (j : Fin 1024) : EReal :=
  row w (fun s => br x ⟨128 * (R.val / 128) + s.val, by omega⟩) ⟨R.val % 128, by omega⟩ (bb w x t 2 (by omega) R) (bb w x t 1 (by omega) R)
    (fun k => p (ix4 0 0 R k)) j

/-- Equal ingredients, equal rows. -/
theorem row_congr (w : Wt) {ch ch' : Fin 128 → Fin 1024 → EReal} {t t' : Fin 128} {a a' b b' : Fin 512 → EReal} {p p' : Fin 256 → EReal}
    (h1 : ch = ch') (h2 : t = t') (h3 : a = a') (h4 : b = b') (h5 : p = p') (j : Fin 1024) :
    row w ch t a b p j = row w ch' t' a' b' p' j := by subst h1; subst h2; subst h3; subst h4; subst h5; rfl

/-- A sub-tile's rows are the block's rows where it lies. -/
theorem rows_lay (x : Vec Ideal S1x1024x1024 .f32) (p : Vec Ideal S1x1x1024x256 .f32) (t : FVec Ideal S8x512 .f32)
    (xr : Vec Ideal S1x256x1024 .f32) (pr : Vec Ideal S1x1x256x256 .f32) (T : FVec Ideal S8x512 .f32)
    (ng : Vec Ideal S1x1024 .f32) (W : Vec Ideal S1x1024x3584 .bf16) (lg lb : Vec Ideal S1x512 .f32) (ws : Vec Ideal S1x4x128x128 .f32)
    (bs : Vec Ideal S1x128x512 .f32) (cw : Vec Ideal S1x3x512 .f32) (wo : Vec Ideal S1x1024x1024 .bf16) (pg : Vec Ideal S1x1024 .f32)
    (wg : Vec Ideal S1x1024x1024 .bf16) (wp : Vec Ideal S1x256x1024 .bf16) (w : Wt) (H : Holds w ng W lg lb ws bs cw wo pg wg wp)
    (q : Nat) (hq : q < 4)
    (hx : ∀ (r : Fin 256) m, xr (ix3 0 r m) = x (ix3 0 ⟨256 * q + r.val, by omega⟩ m))
    (hp : ∀ (r : Fin 256) m, pr (ix4 0 0 r m) = p (ix4 0 0 ⟨256 * q + r.val, by omega⟩ m))
    (hT : ∀ (k : Nat) (hk : k ≤ 8) (r : Fin 256) (h : r.val < k) j, T (ix2 ⟨8 - k + r.val, by omega⟩ j) = bb w x t k hk ⟨256 * q + r.val, by omega⟩ j)
    (r : Fin 256) (j : Fin 1024) :
    rows xr pr ng W lg lb ws bs cw wo pg wg wp T (ix2 r j) = lay w x p t ⟨256 * q + r.val, by omega⟩ j := by
  have et : ∀ s : Fin 256, tr xr s = br x ⟨256 * q + s.val, by omega⟩ := fun s => funext fun m => hx s m
  have eb : ∀ (k : Nat) (hk : k ≤ 8), tb w xr T k hk r = bb w x t k hk ⟨256 * q + r.val, by omega⟩ := fun k hk => funext fun i => by
    by_cases h : r.val < k
    · exact (dif_pos h).trans (hT k hk r h i)
    · refine (dif_neg h).trans ((congrArg (fun v => Spec.xc w v i) ?_).trans (bb_ge w x t k hk _ i (by show ¬ 256 * q + r.val < k; omega)).symm)
      exact (et _).trans (congrArg (br x) (Fin.ext (by show 256 * q + (r.val - k) = 256 * q + r.val - k; omega)))
  rw [rows_at xr pr ng W lg lb ws bs cw wo pg wg wp T w H r j]
  unfold lay
  refine row_congr w (funext fun s => ?_) (Fin.ext ?_) (eb 2 (by omega)) (eb 1 (by omega)) (funext fun m => hp r m) j
  · exact (et _).trans (congrArg (br x) (Fin.ext (by
      show 256 * q + (128 * (r.val / 128) + s.val) = 128 * ((256 * q + r.val) / 128) + s.val; omega)))
  · show r.val % 128 = (256 * q + r.val) % 128; omega

/-- The first sub-tile starts from the block's tail. -/
theorem tail_first (w : Wt) (x : Vec Ideal S1x1024x1024 .f32) (t : FVec Ideal S8x512 .f32) (k : Nat) (hk : k ≤ 8) (r : Fin 256) (h : r.val < k) (j : Fin 512) :
    t (ix2 ⟨8 - k + r.val, by omega⟩ j) = bb w x t k hk ⟨256 * 0 + r.val, by omega⟩ j :=
  (congrArg (fun a => t (ix2 a j)) (Fin.ext (show 8 - k + r.val = 8 - k + (256 * 0 + r.val) by omega))).trans
    (bb_lt w x t k hk ⟨256 * 0 + r.val, by omega⟩ j (show 256 * 0 + r.val < k by omega)).symm

/-- A later sub-tile starts from the tail of the one before. -/
theorem tail_next (w : Wt) (x : Vec Ideal S1x1024x1024 .f32) (t : FVec Ideal S8x512 .f32) (xr : Vec Ideal S1x256x1024 .f32)
    (ng : Vec Ideal S1x1024 .f32) (W : Vec Ideal S1x1024x3584 .bf16)
    (hg : ∀ k, ng (ix2 0 k) = w.ng k) (hW : ∀ k c, W (ix3 0 k c) = w.W k (perm c)) (q : Nat) (hq : q + 1 < 4)
    (hx : ∀ (r : Fin 256) m, xr (ix3 0 r m) = x (ix3 0 ⟨256 * q + r.val, by omega⟩ m))
    (k : Nat) (hk : k ≤ 8) (r : Fin 256) (h : r.val < k) (j : Fin 512) :
    tail (hn xr ng) W (ix2 ⟨8 - k + r.val, by omega⟩ j) = bb w x t k hk ⟨256 * (q + 1) + r.val, by omega⟩ j := by
  rw [tail_at xr ng W w hg hW]
  refine ((congrArg (fun v => Spec.xc w v j) ?_)).trans (bb_ge w x t k hk _ j (by show ¬ 256 * (q + 1) + r.val < k; omega)).symm
  refine (funext fun m => hx ⟨248 + (8 - k + r.val), by omega⟩ m : tr xr ⟨248 + (8 - k + r.val), by omega⟩ = br x ⟨256 * q + (248 + (8 - k + r.val)), by omega⟩).trans (congrArg (br x) (Fin.ext ?_))
  show 256 * q + (248 + (8 - k + r.val)) = 256 * (q + 1) + r.val - k
  omega

/-- A stored piece at an element. -/
theorem put_at (v : FVec Ideal S256x1024 .f32) (a : Fin 1) (r : Fin 256) (j : Fin 1024) : put v (ix3 a r j) = v (ix2 r j) := by
  pointwise [put]

/-- The carried scratch at an element. -/
theorem scr_at (t : Vec Ideal S8x512 .f32) (a : Fin 8) (j : Fin 512) : scr t (ix2 a j) = t (ix2 a j) := by pointwise [scr]

/-- The kept tail at an element. -/
theorem keep_at (t : FVec Ideal S8x512 .f32) (a : Fin 8) (j : Fin 512) : keep t (ix2 a j) = t (ix2 a j) := by pointwise [keep]

/-- The zero tail at an element. -/
theorem zeros_at (a : Fin 8) (j : Fin 512) : (keep (zeros : FVec Ideal S8x512 .f32)) (ix2 a j) = 0 := by pointwise [keep, zeros]

/-- The rows from 0, 256, 512 and 768 of a block. -/
theorem xrow0_at (x : Vec Ideal S1x1024x1024 .f32) (r : Fin 256) (m : Fin 1024) : xrow0 x (ix3 0 r m) = x (ix3 0 ⟨256 * 0 + r.val, by omega⟩ m) := by
  pointwise [xrow0]
@[inherit_doc xrow0_at]
theorem xrow1_at (x : Vec Ideal S1x1024x1024 .f32) (r : Fin 256) (m : Fin 1024) : xrow1 x (ix3 0 r m) = x (ix3 0 ⟨256 * 1 + r.val, by omega⟩ m) := by
  pointwise [xrow1]
@[inherit_doc xrow0_at]
theorem xrow2_at (x : Vec Ideal S1x1024x1024 .f32) (r : Fin 256) (m : Fin 1024) : xrow2 x (ix3 0 r m) = x (ix3 0 ⟨256 * 2 + r.val, by omega⟩ m) := by
  pointwise [xrow2]
@[inherit_doc xrow0_at]
theorem xrow3_at (x : Vec Ideal S1x1024x1024 .f32) (r : Fin 256) (m : Fin 1024) : xrow3 x (ix3 0 r m) = x (ix3 0 ⟨256 * 3 + r.val, by omega⟩ m) := by
  pointwise [xrow3]

/-- The same rows of the embedding block. -/
theorem prow0_at (p : Vec Ideal S1x1x1024x256 .f32) (r m : Fin 256) : prow0 p (ix4 0 0 r m) = p (ix4 0 0 ⟨256 * 0 + r.val, by omega⟩ m) := by
  pointwise [prow0]
@[inherit_doc prow0_at]
theorem prow1_at (p : Vec Ideal S1x1x1024x256 .f32) (r m : Fin 256) : prow1 p (ix4 0 0 r m) = p (ix4 0 0 ⟨256 * 1 + r.val, by omega⟩ m) := by
  pointwise [prow1]
@[inherit_doc prow0_at]
theorem prow2_at (p : Vec Ideal S1x1x1024x256 .f32) (r m : Fin 256) : prow2 p (ix4 0 0 r m) = p (ix4 0 0 ⟨256 * 2 + r.val, by omega⟩ m) := by
  pointwise [prow2]
@[inherit_doc prow0_at]
theorem prow3_at (p : Vec Ideal S1x1x1024x256 .f32) (r m : Fin 256) : prow3 p (ix4 0 0 r m) = p (ix4 0 0 ⟨256 * 3 + r.val, by omega⟩ m) := by
  pointwise [prow3]

/-- Layer 0's and layer 1's row of a scale. -/
theorem grow0_at (g : Vec Ideal S2x1024 .f32) (k : Fin 1024) : grow0 g (ix2 0 k) = g (ix2 0 k) := by pointwise [grow0]
@[inherit_doc grow0_at]
theorem grow1_at (g : Vec Ideal S2x1024 .f32) (k : Fin 1024) : grow1 g (ix2 0 k) = g (ix2 1 k) := by pointwise [grow1] <;> rfl
@[inherit_doc grow0_at]
theorem lrow0_at (g : Vec Ideal S2x512 .f32) (k : Fin 512) : lrow0 g (ix2 0 k) = g (ix2 0 k) := by pointwise [lrow0]
@[inherit_doc grow0_at]
theorem lrow1_at (g : Vec Ideal S2x512 .f32) (k : Fin 512) : lrow1 g (ix2 0 k) = g (ix2 1 k) := by pointwise [lrow1] <;> rfl
/-- A square weight and the embedding's projection, loaded whole. -/
theorem sq_at (v : Vec Ideal S1x1024x1024 .bf16) (k j : Fin 1024) : sq v (ix3 0 k j) = v (ix3 0 k j) := by pointwise [sq]
@[inherit_doc sq_at]
theorem wide_at (v : Vec Ideal S1x256x1024 .bf16) (k : Fin 256) (j : Fin 1024) : wide v (ix3 0 k j) = v (ix3 0 k j) := by pointwise [wide]

/-- The closing normalisation of a row. -/
theorem close_at (v : FVec Ideal S256x1024 .f32) (g : Vec Ideal S1x1024 .f32) (r : Fin 256) (j : Fin 1024) :
    close v (frow g) (ix2 r j) = nrm (fun m => v (ix2 r m)) (fun k => g (ix2 0 k)) j := by
  unfold close
  rw [rms_at]
  refine congrArg (fun h => nrm (fun m => v (ix2 r m)) h j) (funext fun k => ?_)
  pointwise [frow]

end Cert.KernelIdeal.Tile
-- ==== Proof.BlkVal1.lean ====
module

public import proofs.«01_k».proof.Proof.ValD
public import proofs.«01_k».proof.Proof.Reg1

/-! # Layer 0's block at an element, over the extended reals -/

@[expose] public section

set_option maxRecDepth 16384

noncomputable section

namespace Cert.KernelIdeal.L1

open Cert.KernelIdeal Cert.KernelIdeal.Gen Cert.KernelIdeal.Tile Cert.Spec
open Idealize.ShloMosaic Idealize.ShloMosaic.TcCoe

/-- The blocks hold the layer's weights. -/
abbrev Has (w : Wt) (x2 : Vec Ideal S2x1024 .f32) (x3 : Vec Ideal S1x1024x3584 .bf16) (x4 x5 : Vec Ideal S2x512 .f32) (x6 : Vec Ideal S1x4x128x128 .f32)
    (x7 : Vec Ideal S1x128x512 .f32) (x8 : Vec Ideal S1x3x512 .f32) (x9 : Vec Ideal S1x1024x1024 .bf16) (x10 : Vec Ideal S2x1024 .f32)
    (x11 : Vec Ideal S1x1024x1024 .bf16) (x12 : Vec Ideal S1x256x1024 .bf16) : Prop :=
  Holds w (grow0 x2) x3 (lrow0 x4) (lrow0 x5) x6 x7 x8 (sq x9) (grow0 x10) (sq x11) (wide x12)

variable (w : Wt) (t : FVec Ideal S8x512 .f32) (x0 : Vec Ideal S1x1024x1024 .f32) (x1 : Vec Ideal S1x1x1024x256 .f32)
    (x2 : Vec Ideal S2x1024 .f32) (x3 : Vec Ideal S1x1024x3584 .bf16) (x4 x5 : Vec Ideal S2x512 .f32) (x6 : Vec Ideal S1x4x128x128 .f32)
    (x7 : Vec Ideal S1x128x512 .f32) (x8 : Vec Ideal S1x3x512 .f32) (x9 : Vec Ideal S1x1024x1024 .bf16) (x10 : Vec Ideal S2x1024 .f32)
    (x11 : Vec Ideal S1x1024x1024 .bf16) (x12 : Vec Ideal S1x256x1024 .bf16) (x13 : Vec Ideal S1x1024 .f32)

/-- The rows from 0. -/
theorem sub0_at (H : Has w x2 x3 x4 x5 x6 x7 x8 x9 x10 x11 x12) (r : Fin 256) (j : Fin 1024) :
    sub (xrow0 x0) (prow0 x1) t x2 x3 x4 x5 x6 x7 x8 x9 x10 x11 x12 x13 (ix2 r j) = lay w x0 x1 t ⟨256 * 0 + r.val, by omega⟩ j := by
  unfold sub
  exact rows_lay x0 x1 t (xrow0 x0) (prow0 x1) t _ _ _ _ _ _ _ _ _ _ _ w H 0 (by omega) (xrow0_at x0) (prow0_at x1) (tail_first w x0 t) r j

/-- The rows from 256. -/
theorem sub1_at (H : Has w x2 x3 x4 x5 x6 x7 x8 x9 x10 x11 x12) (r : Fin 256) (j : Fin 1024) :
    sub (xrow1 x0) (prow1 x1) (tl (xrow0 x0) x2 x3) x2 x3 x4 x5 x6 x7 x8 x9 x10 x11 x12 x13 (ix2 r j) = lay w x0 x1 t ⟨256 * 1 + r.val, by omega⟩ j := by
  unfold sub
  exact rows_lay x0 x1 t (xrow1 x0) (prow1 x1) (tl (xrow0 x0) x2 x3) _ _ _ _ _ _ _ _ _ _ _ w H 1 (by omega) (xrow1_at x0) (prow1_at x1) (tail_next w x0 t (xrow0 x0) (grow0 x2) x3 H.ng H.W 0 (by omega) (xrow0_at x0)) r j

/-- The rows from 512. -/
theorem sub2_at (H : Has w x2 x3 x4 x5 x6 x7 x8 x9 x10 x11 x12) (r : Fin 256) (j : Fin 1024) :
    sub (xrow2 x0) (prow2 x1) (tl (xrow1 x0) x2 x3) x2 x3 x4 x5 x6 x7 x8 x9 x10 x11 x12 x13 (ix2 r j) = lay w x0 x1 t ⟨256 * 2 + r.val, by omega⟩ j := by
  unfold sub
  exact rows_lay x0 x1 t (xrow2 x0) (prow2 x1) (tl (xrow1 x0) x2 x3) _ _ _ _ _ _ _ _ _ _ _ w H 2 (by omega) (xrow2_at x0) (prow2_at x1) (tail_next w x0 t (xrow1 x0) (grow0 x2) x3 H.ng H.W 1 (by omega) (xrow1_at x0)) r j

/-- The rows from 768. -/
theorem sub3_at (H : Has w x2 x3 x4 x5 x6 x7 x8 x9 x10 x11 x12) (r : Fin 256) (j : Fin 1024) :
    sub (xrow3 x0) (prow3 x1) (tl (xrow2 x0) x2 x3) x2 x3 x4 x5 x6 x7 x8 x9 x10 x11 x12 x13 (ix2 r j) = lay w x0 x1 t ⟨256 * 3 + r.val, by omega⟩ j := by
  unfold sub
  exact rows_lay x0 x1 t (xrow3 x0) (prow3 x1) (tl (xrow2 x0) x2 x3) _ _ _ _ _ _ _ _ _ _ _ w H 3 (by omega) (xrow3_at x0) (prow3_at x1) (tail_next w x0 t (xrow2 x0) (grow0 x2) x3 H.ng H.W 2 (by omega) (xrow2_at x0)) r j

/-- The stored block at an element. -/
theorem canon_at (H : Has w x2 x3 x4 x5 x6 x7 x8 x9 x10 x11 x12) (y : S1x1024x1024.Idx) :
    (View.canon (outL t x0 x1 x2 x3 x4 x5 x6 x7 x8 x9 x10 x11 x12 x13) : Vec Ideal S1x1024x1024 .f32) y = lay w x0 x1 t (y 1) (y 2) := by
  refine View.canon_apply_of_pieces (Val := Elt Ideal) (S := S1x1024x1024) (e := .f32) (fun y : S1x1024x1024.Idx => lay w x0 x1 t (y 1) (y 2)) _ ?_ y
    (View.cover_of_tiledL (outL t x0 x1 x2 x3 x4 x5 x6 x7 x8 x9 x10 x11 x12 x13) S1x256x1024.size (by sl_kernel_rfl) y)
  refine List.forall_mem_cons.2 ⟨?_, List.forall_mem_cons.2 ⟨?_, List.forall_mem_cons.2 ⟨?_, List.forall_mem_cons.2 ⟨?_, fun _ h => absurd h List.not_mem_nil⟩⟩⟩⟩
  · intro z
    refine (congrArg (put _) (ix3_eta z).symm).trans ((put_at _ _ _ _).trans ((sub3_at w t x0 x1 x2 x3 x4 x5 x6 x7 x8 x9 x10 x11 x12 x13 H (z 1) (z 2)).trans ?_))
    exact congrArg₂ (fun a b => lay w x0 x1 t a b) (Fin.ext (ValueKit.rect_emb_unit_val (s := S1x1024x1024) ![0, 768, 0] S1x256x1024.size inb_S1x1024x1024_S1x256x1024_0_768_0 z 1).symm)
      (Fin.ext ((ValueKit.rect_emb_unit_val (s := S1x1024x1024) ![0, 768, 0] S1x256x1024.size inb_S1x1024x1024_S1x256x1024_0_768_0 z 2).trans (Nat.zero_add _)).symm)
  · intro z
    refine (congrArg (put _) (ix3_eta z).symm).trans ((put_at _ _ _ _).trans ((sub2_at w t x0 x1 x2 x3 x4 x5 x6 x7 x8 x9 x10 x11 x12 x13 H (z 1) (z 2)).trans ?_))
    exact congrArg₂ (fun a b => lay w x0 x1 t a b) (Fin.ext (ValueKit.rect_emb_unit_val (s := S1x1024x1024) ![0, 512, 0] S1x256x1024.size inb_S1x1024x1024_S1x256x1024_0_512_0 z 1).symm)
      (Fin.ext ((ValueKit.rect_emb_unit_val (s := S1x1024x1024) ![0, 512, 0] S1x256x1024.size inb_S1x1024x1024_S1x256x1024_0_512_0 z 2).trans (Nat.zero_add _)).symm)
  · intro z
    refine (congrArg (put _) (ix3_eta z).symm).trans ((put_at _ _ _ _).trans ((sub1_at w t x0 x1 x2 x3 x4 x5 x6 x7 x8 x9 x10 x11 x12 x13 H (z 1) (z 2)).trans ?_))
    exact congrArg₂ (fun a b => lay w x0 x1 t a b) (Fin.ext (ValueKit.rect_emb_unit_val (s := S1x1024x1024) ![0, 256, 0] S1x256x1024.size inb_S1x1024x1024_S1x256x1024_0_256_0 z 1).symm)
      (Fin.ext ((ValueKit.rect_emb_unit_val (s := S1x1024x1024) ![0, 256, 0] S1x256x1024.size inb_S1x1024x1024_S1x256x1024_0_256_0 z 2).trans (Nat.zero_add _)).symm)
  · intro z
    refine (congrArg (put _) (ix3_eta z).symm).trans ((put_at _ _ _ _).trans ((sub0_at w t x0 x1 x2 x3 x4 x5 x6 x7 x8 x9 x10 x11 x12 x13 H (z 1) (z 2)).trans ?_))
    exact congrArg₂ (fun a b => lay w x0 x1 t a b) (Fin.ext (ValueKit.rect_emb_unit_val (s := S1x1024x1024) ![0, 0, 0] S1x256x1024.size inb_S1x1024x1024_S1x256x1024_0_0_0 z 1).symm)
      (Fin.ext ((ValueKit.rect_emb_unit_val (s := S1x1024x1024) ![0, 0, 0] S1x256x1024.size inb_S1x1024x1024_S1x256x1024_0_0_0 z 2).trans (Nat.zero_add _)).symm)

end Cert.KernelIdeal.L1
-- ==== Proof.RegVal1.lean ====
module

public import proofs.«01_k».proof.Proof.WinVal1
public import proofs.«01_k».proof.Proof.BlkVal1
public import proofs.«01_k».proof.Proof.Weights

/-! # The array that layer 0's region leaves, over the extended reals -/

@[expose] public section

set_option maxRecDepth 16384

noncomputable section

namespace Cert.KernelIdeal.L1

open Cert.KernelIdeal Cert.KernelIdeal.Gen Cert.KernelIdeal.Tile Cert.Spec
open Idealize.ShloMosaic Idealize.ShloMosaic.TcCoe
open Idealize.ShloMosaic.Pipeline (Dat)

variable (c : Dev nD) (V : (b : Ref sig .tc) → Buf (Elt Ideal) ((c : Thread nD τ).loc b)) (w : Wt)

/-- The arrays that the region finds hold the layer's weights. -/
structure Given : Prop where
  /-- The input norm's scale. -/
  ng : ∀ k, (V main_arg2 : Vec Ideal S2x1024 .f32) (ix2 0 k) = w.ng k
  /-- The permuted projection. -/
  W : ∀ k j, (V main_v3_0 : Vec Ideal S2x1024x3584 .bf16) (ix3 0 k j) = w.W k (perm j)
  /-- The layer norm's scale. -/
  lg : ∀ k, (V main_arg4 : Vec Ideal S2x512 .f32) (ix2 0 k) = w.lg k
  /-- The layer norm's shift. -/
  lb : ∀ k, (V main_arg5 : Vec Ideal S2x512 .f32) (ix2 0 k) = w.lb k
  /-- The spatial weights. -/
  ws : ∀ h s r, (V main_arg6 : Vec Ideal S2x4x128x128 .f32) (ix4 0 h s r) = w.ws h s r
  /-- The spatial biases, spread over the channels. -/
  bs : ∀ s j, (V main_v2 : Vec Ideal S2x128x512 .f32) (ix3 0 s j) = w.bs (hd j) s
  /-- The taps, transposed. -/
  cw : ∀ k j, (V main_v4 : Vec Ideal S2x3x512 .f32) (ix3 0 k j) = w.cw j k
  /-- The output projection. -/
  wo : ∀ k j, (V main_v3_1 : Vec Ideal S2x1024x1024 .bf16) (ix3 0 k j) = w.wo k j
  /-- The embedding norm's scale. -/
  pg : ∀ k, (V main_arg10 : Vec Ideal S2x1024 .f32) (ix2 0 k) = w.pg k
  /-- The embedding's gate. -/
  wg : ∀ k j, (V main_v3_2 : Vec Ideal S2x1024x1024 .bf16) (ix3 0 k j) = w.wg k j
  /-- The embedding's projection. -/
  wp : ∀ k j, (V main_v3_3 : Vec Ideal S2x256x1024 .bf16) (ix3 0 k j) = w.wp k j

/-- Then every point's blocks hold them. -/
theorem Given.has {c V w} (g : Given c V w) (t : Fin cfg1.N) :
    Has w (in2 c V t) (in3 c V t) (in4 c V t) (in5 c V t) (in6 c V t) (in7 c V t) (in8 c V t) (in9 c V t) (in10 c V t) (in11 c V t) (in12 c V t) where
  ng k := (grow0_at _ k).trans ((in2_at c V t 0 k).trans (g.ng k))
  W k j := (in3_at c V t k j).trans (g.W k j)
  lg k := (lrow0_at _ k).trans ((in4_at c V t 0 k).trans (g.lg k))
  lb k := (lrow0_at _ k).trans ((in5_at c V t 0 k).trans (g.lb k))
  ws h s r := (in6_at c V t h s r).trans (g.ws h s r)
  bs s j := (in7_at c V t s j).trans (g.bs s j)
  cw k j := (in8_at c V t k j).trans (g.cw k j)
  wo k j := (sq_at _ k j).trans ((in9_at c V t k j).trans (g.wo k j))
  pg k := (grow0_at _ k).trans ((in10_at c V t 0 k).trans (g.pg k))
  wg k j := (sq_at _ k j).trans ((in11_at c V t k j).trans (g.wg k j))
  wp k j := (wide_at _ k j).trans ((in12_at c V t k j).trans (g.wp k j))

/-- A block's row is the sequence's. -/
theorem br_at (t : Fin cfg1.N) (R : Fin 1024) (S : Fin 8192) (h : S.val = 1024 * (t.val % 8) + R.val) :
    br (in0 c V t) R = rowsOf (V main_arg0 : Vec Ideal S8x8192x1024 .f32) (bt t) S :=
  funext fun m => (in0_at c V t R m).trans (congrArg (fun s => (V main_arg0 : Vec Ideal S8x8192x1024 .f32) (ix3 (bt t) s m)) (Fin.ext h.symm))

/-- The tail that a later point starts from is the convolution's input on the eight rows before. -/
theorem start_at (g : Given c V w) (t : Fin cfg1.N) (h : ¬ t.val % 8 = 0) (a : Fin 8) (j : Fin 512) (S : Fin 8192) (hS : S.val + 8 = 1024 * (t.val % 8) + a.val) :
    start c V t (ix2 a j) = Spec.xc w (rowsOf (V main_arg0 : Vec Ideal S8x8192x1024 .f32) (bt t) S) j := by
  have hl : t.val - 1 < cfg1.N := lt_of_le_of_lt (Nat.sub_le _ _) t.isLt
  have e : start c V t = scr (carry c V ⟨t.val - 1, hl⟩) := if_neg h
  rw [e, scr_at]
  unfold carry tl
  rw [keep_at, tail_at _ _ _ w (g.has ⟨t.val - 1, hl⟩).ng (g.has ⟨t.val - 1, hl⟩).W]
  refine congrArg (fun v => Spec.xc w v j) (funext fun m => (xrow3_at _ _ m).trans ?_)
  refine (congrFun (br_at c V ⟨t.val - 1, hl⟩ _ S ?_) m).trans (congrArg (fun b => rowsOf (V main_arg0 : Vec Ideal S8x8192x1024 .f32) b S m) (Fin.ext ?_))
  · show S.val = 1024 * ((t.val - 1) % 8) + (256 * 3 + (248 + a.val)); omega
  · show (t.val - 1) / 8 = t.val / 8; omega

/-- The convolution's inputs before a block's row are the sequence's. -/
theorem bb_at (g : Given c V w) (t : Fin cfg1.N) (k : Nat) (hk : k ≤ 8) (R : Fin 1024) (S : Fin 8192) (h : S.val = 1024 * (t.val % 8) + R.val) :
    bb w (in0 c V t) (start c V t) k hk R = back w (rowsOf (V main_arg0 : Vec Ideal S8x8192x1024 .f32) (bt t)) k S := by
  funext j
  unfold back
  by_cases hR : R.val < k
  · rw [bb_lt _ _ _ k hk R j hR]
    by_cases h8 : t.val % 8 = 0
    · rw [if_pos (by omega)]
      have e : start c V t = keep zeros := if_pos h8
      rw [e, zeros_at]
    · rw [if_neg (by omega)]
      exact start_at c V w g t h8 _ j _ (by show S.val - k + 8 = 1024 * (t.val % 8) + (8 - k + R.val); omega)
  · rw [bb_ge _ _ _ k hk R j hR, if_neg (by omega)]
    exact congrArg (fun v => Spec.xc w v j) (br_at c V t _ _ (by show S.val - k = 1024 * (t.val % 8) + (R.val - k); omega))

/-- A block's row after the layer is the sequence's. -/
theorem lay_at (g : Given c V w) (t : Fin cfg1.N) (R : Fin 1024) (S : Fin 8192) (h : S.val = 1024 * (t.val % 8) + R.val) (j : Fin 1024) :
    lay w (in0 c V t) (in1 c V t) (start c V t) R j = layer w (rowsOf (V main_arg0 : Vec Ideal S8x8192x1024 .f32) (bt t)) (embOf (V main_arg1 : Vec Ideal S2x8x8192x256 .f32) 0 (bt t)) S j := by
  unfold lay layer
  refine row_congr w (funext fun s => ?_) (Fin.ext ?_) (bb_at c V w g t 2 _ R S h) (bb_at c V w g t 1 _ R S h) (funext fun k => ?_) j
  · exact br_at c V t _ _ (by show 128 * (S.val / 128) + s.val = 1024 * (t.val % 8) + (128 * (R.val / 128) + s.val); omega)
  · show R.val % 128 = S.val % 128; omega
  · exact (in1_at c V t R k).trans (congrArg (fun s => (V main_arg1 : Vec Ideal S2x8x8192x256 .f32) (ix4 0 (bt t) s k)) (Fin.ext h.symm))

/-- What the region's output holds at an element. -/
def res (b : Fin 8) (s : Fin 8192) (j : Fin 1024) : EReal :=
  layer w (rowsOf (V main_arg0 : Vec Ideal S8x8192x1024 .f32) b) (embOf (V main_arg1 : Vec Ideal S2x8x8192x256 .f32) 0 b) s j

/-- Equal coordinates, equal elements. -/
theorem res_congr {b b' : Fin 8} {s s' : Fin 8192} {j j' : Fin 1024} (h0 : b.val = b'.val) (h1 : s.val = s'.val) (h2 : j.val = j'.val) :
    res c V w b s j = res c V w b' s' j' := by
  rw [Fin.ext h0, Fin.ext h1, Fin.ext h2]

/-- What a point leaves in the output's block. -/
theorem out_at (g : Given c V w) (t : Fin cfg1.N) (y : S1x1024x1024.Idx) :
    out c V t y = res c V w (bt t) ⟨1024 * (t.val % 8) + (y 1).val, by have h : (y 1).val < 1024 := (y 1).isLt; omega⟩ (y 2) := by
  unfold out
  refine (canon_at w _ _ _ _ _ _ _ _ _ _ _ _ _ _ _ (g.has t) y).trans ?_
  exact lay_at c V w g t (y 1) _ rfl (y 2)

/-- The array that the region leaves. -/
theorem arr_at (g : Given c V w) : (dat c V).arrAt 14 cfg1.N = fun y : S8x8192x1024.Idx => res c V w (y 0) (y 1) (y 2) := by
  refine (dat c V).arrAt_eq_of_covers 14 (fun y : S8x8192x1024.Idx => res c V w (y 0) (y 1) (y 2)) (by decide +kernel) fun t hf y => ?_
  blk_simp
  rw [after_14]
  refine (out_at c V w g t y).trans (res_congr c V w ?_ ?_ ?_)
  · show t.val / 8 = _
    blk_simp [idx_14]
  · show 1024 * (t.val % 8) + (y 1).val = _
    blk_simp [idx_14]
    omega
  · show (y 2).val = _
    blk_simp [idx_14]

end Cert.KernelIdeal.L1
-- ==== Proof.WinVal2.lean ====
module

public import proofs.«01_k».proof.Proof.Reg2
public import proofs.«01_k».proof.Proof.Spec
public import Idealize.ShloMosaic.Lib.Pointwise
public import Idealize.ShloMosaic.Lib.Pipeline.ValueKit.Geometry

/-! # Layer 1's blocks, read off the arrays -/

@[expose] public section

set_option maxRecDepth 16384

noncomputable section

namespace Cert.KernelIdeal.L2

open Cert.KernelIdeal Cert.KernelIdeal.Gen Cert.KernelIdeal.Tile
open Idealize.ShloMosaic Idealize.ShloMosaic.TcCoe

/-- The sequence that a point works on. -/
def bt (t : Fin cfg2.N) : Fin 8 := ⟨t.val / 8, Nat.div_lt_of_lt_mul (lt_of_lt_of_eq t.isLt N_2)⟩

/-- Where window 0's block lies. -/
theorem idx_0 : ∀ t : Fin cfg2.N, win2_0.index t = ![t.val / 8, t.val % 8, 0] := (by decide +kernel : ∀ t : Fin grid2.N, _)

/-- Where window 1's block lies. -/
theorem idx_1 : ∀ t : Fin cfg2.N, win2_1.index t = ![1, t.val / 8, t.val % 8, 0] := (by decide +kernel : ∀ t : Fin grid2.N, _)

/-- Where window 2's block lies. -/
theorem idx_2 : ∀ t : Fin cfg2.N, win2_2.index t = ![0, 0] := (by decide +kernel : ∀ t : Fin grid2.N, _)

/-- Where window 3's block lies. -/
theorem idx_3 : ∀ t : Fin cfg2.N, win2_3.index t = ![1, 0, 0] := (by decide +kernel : ∀ t : Fin grid2.N, _)

/-- Where window 4's block lies. -/
theorem idx_4 : ∀ t : Fin cfg2.N, win2_4.index t = ![0, 0] := (by decide +kernel : ∀ t : Fin grid2.N, _)

/-- Where window 5's block lies. -/
theorem idx_5 : ∀ t : Fin cfg2.N, win2_5.index t = ![0, 0] := (by decide +kernel : ∀ t : Fin grid2.N, _)

/-- Where window 6's block lies. -/
theorem idx_6 : ∀ t : Fin cfg2.N, win2_6.index t = ![1, 0, 0, 0] := (by decide +kernel : ∀ t : Fin grid2.N, _)

/-- Where window 7's block lies. -/
theorem idx_7 : ∀ t : Fin cfg2.N, win2_7.index t = ![1, 0, 0] := (by decide +kernel : ∀ t : Fin grid2.N, _)

/-- Where window 8's block lies. -/
theorem idx_8 : ∀ t : Fin cfg2.N, win2_8.index t = ![1, 0, 0] := (by decide +kernel : ∀ t : Fin grid2.N, _)

/-- Where window 9's block lies. -/
theorem idx_9 : ∀ t : Fin cfg2.N, win2_9.index t = ![1, 0, 0] := (by decide +kernel : ∀ t : Fin grid2.N, _)

/-- Where window 10's block lies. -/
theorem idx_10 : ∀ t : Fin cfg2.N, win2_10.index t = ![0, 0] := (by decide +kernel : ∀ t : Fin grid2.N, _)

/-- Where window 11's block lies. -/
theorem idx_11 : ∀ t : Fin cfg2.N, win2_11.index t = ![1, 0, 0] := (by decide +kernel : ∀ t : Fin grid2.N, _)

/-- Where window 12's block lies. -/
theorem idx_12 : ∀ t : Fin cfg2.N, win2_12.index t = ![1, 0, 0] := (by decide +kernel : ∀ t : Fin grid2.N, _)

/-- Where window 13's block lies. -/
theorem idx_13 : ∀ t : Fin cfg2.N, win2_13.index t = ![0, 0] := (by decide +kernel : ∀ t : Fin grid2.N, _)

/-- Where the output's block lies. -/
theorem idx_14 : ∀ t : Fin cfg2.N, win2_14.index t = ![t.val / 8, t.val % 8, 0] := (by decide +kernel : ∀ t : Fin grid2.N, _)

variable (c : Dev nD) (V : (b : Ref sig .tc) → Buf (Elt Ideal) ((c : Thread nD τ).loc b)) (t : Fin cfg2.N)

/-- Window 0's block at an element. -/
theorem in0_at (r k : Fin 1024) : in0 c V t (ix3 0 r k) = (V main_v6 : Vec Ideal S8x8192x1024 .f32) (ix3 (bt t) ⟨1024 * (t.val % 8) + r.val, by omega⟩ k) := by
  unfold in0 iblk
  blk_ext [idx_0, bt]

/-- Window 1's block at an element. -/
theorem in1_at (r : Fin 1024) (k : Fin 256) : in1 c V t (ix4 0 0 r k) = (V main_arg1 : Vec Ideal S2x8x8192x256 .f32) (ix4 1 (bt t) ⟨1024 * (t.val % 8) + r.val, by omega⟩ k) := by
  unfold in1 iblk
  blk_ext [idx_1, bt]

/-- Window 2's block at an element. -/
theorem in2_at (a : Fin 2) (k : Fin 1024) : in2 c V t (ix2 a k) = (V main_arg2 : Vec Ideal S2x1024 .f32) (ix2 a k) := by
  unfold in2 iblk
  blk_ext [idx_2, bt]

/-- Window 3's block at an element. -/
theorem in3_at (k : Fin 1024) (j : Fin 3584) : in3 c V t (ix3 0 k j) = (V main_v3_0 : Vec Ideal S2x1024x3584 .bf16) (ix3 1 k j) := by
  unfold in3 iblk
  blk_ext [idx_3, bt]

/-- Window 4's block at an element. -/
theorem in4_at (a : Fin 2) (k : Fin 512) : in4 c V t (ix2 a k) = (V main_arg4 : Vec Ideal S2x512 .f32) (ix2 a k) := by
  unfold in4 iblk
  blk_ext [idx_4, bt]

/-- Window 5's block at an element. -/
theorem in5_at (a : Fin 2) (k : Fin 512) : in5 c V t (ix2 a k) = (V main_arg5 : Vec Ideal S2x512 .f32) (ix2 a k) := by
  unfold in5 iblk
  blk_ext [idx_5, bt]

/-- Window 6's block at an element. -/
theorem in6_at (h : Fin 4) (s r : Fin 128) : in6 c V t (ix4 0 h s r) = (V main_arg6 : Vec Ideal S2x4x128x128 .f32) (ix4 1 h s r) := by
  unfold in6 iblk
  blk_ext [idx_6, bt]

/-- Window 7's block at an element. -/
theorem in7_at (s : Fin 128) (j : Fin 512) : in7 c V t (ix3 0 s j) = (V main_v2 : Vec Ideal S2x128x512 .f32) (ix3 1 s j) := by
  unfold in7 iblk
  blk_ext [idx_7, bt]

/-- Window 8's block at an element. -/
theorem in8_at (s : Fin 3) (j : Fin 512) : in8 c V t (ix3 0 s j) = (V main_v4 : Vec Ideal S2x3x512 .f32) (ix3 1 s j) := by
  unfold in8 iblk
  blk_ext [idx_8, bt]

/-- Window 9's block at an element. -/
theorem in9_at (k j : Fin 1024) : in9 c V t (ix3 0 k j) = (V main_v3_1 : Vec Ideal S2x1024x1024 .bf16) (ix3 1 k j) := by
  unfold in9 iblk
  blk_ext [idx_9, bt]

/-- Window 10's block at an element. -/
theorem in10_at (a : Fin 2) (k : Fin 1024) : in10 c V t (ix2 a k) = (V main_arg10 : Vec Ideal S2x1024 .f32) (ix2 a k) := by
  unfold in10 iblk
  blk_ext [idx_10, bt]

/-- Window 11's block at an element. -/
theorem in11_at (k j : Fin 1024) : in11 c V t (ix3 0 k j) = (V main_v3_2 : Vec Ideal S2x1024x1024 .bf16) (ix3 1 k j) := by
  unfold in11 iblk
  blk_ext [idx_11, bt]

/-- Window 12's block at an element. -/
theorem in12_at (k : Fin 256) (j : Fin 1024) : in12 c V t (ix3 0 k j) = (V main_v3_3 : Vec Ideal S2x256x1024 .bf16) (ix3 1 k j) := by
  unfold in12 iblk
  blk_ext [idx_12, bt]

/-- Window 13's block at an element. -/
theorem in13_at (k : Fin 1024) : in13 c V t (ix2 0 k) = (V main_v7 : Vec Ideal S1x1024 .f32) (ix2 0 k) := by
  unfold in13 iblk
  blk_ext [idx_13, bt]

end Cert.KernelIdeal.L2
-- ==== Proof.BlkVal2.lean ====
module

public import proofs.«01_k».proof.Proof.ValD
public import proofs.«01_k».proof.Proof.Reg2

/-! # Layer 1's block at an element, over the extended reals -/

@[expose] public section

set_option maxRecDepth 16384

noncomputable section

namespace Cert.KernelIdeal.L2

open Cert.KernelIdeal Cert.KernelIdeal.Gen Cert.KernelIdeal.Tile Cert.Spec
open Idealize.ShloMosaic Idealize.ShloMosaic.TcCoe

/-- The blocks hold the layer's weights. -/
abbrev Has (w : Wt) (x2 : Vec Ideal S2x1024 .f32) (x3 : Vec Ideal S1x1024x3584 .bf16) (x4 x5 : Vec Ideal S2x512 .f32) (x6 : Vec Ideal S1x4x128x128 .f32)
    (x7 : Vec Ideal S1x128x512 .f32) (x8 : Vec Ideal S1x3x512 .f32) (x9 : Vec Ideal S1x1024x1024 .bf16) (x10 : Vec Ideal S2x1024 .f32)
    (x11 : Vec Ideal S1x1024x1024 .bf16) (x12 : Vec Ideal S1x256x1024 .bf16) : Prop :=
  Holds w (grow1 x2) x3 (lrow1 x4) (lrow1 x5) x6 x7 x8 (sq x9) (grow1 x10) (sq x11) (wide x12)

variable (w : Wt) (t : FVec Ideal S8x512 .f32) (x0 : Vec Ideal S1x1024x1024 .f32) (x1 : Vec Ideal S1x1x1024x256 .f32)
    (x2 : Vec Ideal S2x1024 .f32) (x3 : Vec Ideal S1x1024x3584 .bf16) (x4 x5 : Vec Ideal S2x512 .f32) (x6 : Vec Ideal S1x4x128x128 .f32)
    (x7 : Vec Ideal S1x128x512 .f32) (x8 : Vec Ideal S1x3x512 .f32) (x9 : Vec Ideal S1x1024x1024 .bf16) (x10 : Vec Ideal S2x1024 .f32)
    (x11 : Vec Ideal S1x1024x1024 .bf16) (x12 : Vec Ideal S1x256x1024 .bf16) (x13 : Vec Ideal S1x1024 .f32)

/-- The rows from 0. -/
theorem sub0_at (H : Has w x2 x3 x4 x5 x6 x7 x8 x9 x10 x11 x12) (r : Fin 256) (j : Fin 1024) :
    sub (xrow0 x0) (prow0 x1) t x2 x3 x4 x5 x6 x7 x8 x9 x10 x11 x12 x13 (ix2 r j) = nrm (lay w x0 x1 t ⟨256 * 0 + r.val, by omega⟩) (fun k => x13 (ix2 0 k)) j := by
  unfold sub
  rw [close_at]
  exact congrArg (fun v => nrm v (fun k => x13 (ix2 0 k)) j) (funext fun m => rows_lay x0 x1 t (xrow0 x0) (prow0 x1) t _ _ _ _ _ _ _ _ _ _ _ w H 0 (by omega) (xrow0_at x0) (prow0_at x1) (tail_first w x0 t) r m)

/-- The rows from 256. -/
theorem sub1_at (H : Has w x2 x3 x4 x5 x6 x7 x8 x9 x10 x11 x12) (r : Fin 256) (j : Fin 1024) :
    sub (xrow1 x0) (prow1 x1) (tl (xrow0 x0) x2 x3) x2 x3 x4 x5 x6 x7 x8 x9 x10 x11 x12 x13 (ix2 r j) = nrm (lay w x0 x1 t ⟨256 * 1 + r.val, by omega⟩) (fun k => x13 (ix2 0 k)) j := by
  unfold sub
  rw [close_at]
  exact congrArg (fun v => nrm v (fun k => x13 (ix2 0 k)) j) (funext fun m => rows_lay x0 x1 t (xrow1 x0) (prow1 x1) (tl (xrow0 x0) x2 x3) _ _ _ _ _ _ _ _ _ _ _ w H 1 (by omega) (xrow1_at x0) (prow1_at x1) (tail_next w x0 t (xrow0 x0) (grow1 x2) x3 H.ng H.W 0 (by omega) (xrow0_at x0)) r m)

/-- The rows from 512. -/
theorem sub2_at (H : Has w x2 x3 x4 x5 x6 x7 x8 x9 x10 x11 x12) (r : Fin 256) (j : Fin 1024) :
    sub (xrow2 x0) (prow2 x1) (tl (xrow1 x0) x2 x3) x2 x3 x4 x5 x6 x7 x8 x9 x10 x11 x12 x13 (ix2 r j) = nrm (lay w x0 x1 t ⟨256 * 2 + r.val, by omega⟩) (fun k => x13 (ix2 0 k)) j := by
  unfold sub
  rw [close_at]
  exact congrArg (fun v => nrm v (fun k => x13 (ix2 0 k)) j) (funext fun m => rows_lay x0 x1 t (xrow2 x0) (prow2 x1) (tl (xrow1 x0) x2 x3) _ _ _ _ _ _ _ _ _ _ _ w H 2 (by omega) (xrow2_at x0) (prow2_at x1) (tail_next w x0 t (xrow1 x0) (grow1 x2) x3 H.ng H.W 1 (by omega) (xrow1_at x0)) r m)

/-- The rows from 768. -/
theorem sub3_at (H : Has w x2 x3 x4 x5 x6 x7 x8 x9 x10 x11 x12) (r : Fin 256) (j : Fin 1024) :
    sub (xrow3 x0) (prow3 x1) (tl (xrow2 x0) x2 x3) x2 x3 x4 x5 x6 x7 x8 x9 x10 x11 x12 x13 (ix2 r j) = nrm (lay w x0 x1 t ⟨256 * 3 + r.val, by omega⟩) (fun k => x13 (ix2 0 k)) j := by
  unfold sub
  rw [close_at]
  exact congrArg (fun v => nrm v (fun k => x13 (ix2 0 k)) j) (funext fun m => rows_lay x0 x1 t (xrow3 x0) (prow3 x1) (tl (xrow2 x0) x2 x3) _ _ _ _ _ _ _ _ _ _ _ w H 3 (by omega) (xrow3_at x0) (prow3_at x1) (tail_next w x0 t (xrow2 x0) (grow1 x2) x3 H.ng H.W 2 (by omega) (xrow2_at x0)) r m)

/-- The stored block at an element. -/
theorem canon_at (H : Has w x2 x3 x4 x5 x6 x7 x8 x9 x10 x11 x12) (y : S1x1024x1024.Idx) :
    (View.canon (outL t x0 x1 x2 x3 x4 x5 x6 x7 x8 x9 x10 x11 x12 x13) : Vec Ideal S1x1024x1024 .f32) y = nrm (lay w x0 x1 t (y 1)) (fun k => x13 (ix2 0 k)) (y 2) := by
  refine View.canon_apply_of_pieces (Val := Elt Ideal) (S := S1x1024x1024) (e := .f32) (fun y : S1x1024x1024.Idx => nrm (lay w x0 x1 t (y 1)) (fun k => x13 (ix2 0 k)) (y 2)) _ ?_ y
    (View.cover_of_tiledL (outL t x0 x1 x2 x3 x4 x5 x6 x7 x8 x9 x10 x11 x12 x13) S1x256x1024.size (by sl_kernel_rfl) y)
  refine List.forall_mem_cons.2 ⟨?_, List.forall_mem_cons.2 ⟨?_, List.forall_mem_cons.2 ⟨?_, List.forall_mem_cons.2 ⟨?_, fun _ h => absurd h List.not_mem_nil⟩⟩⟩⟩
  · intro z
    refine (congrArg (put _) (ix3_eta z).symm).trans ((put_at _ _ _ _).trans ((sub3_at w t x0 x1 x2 x3 x4 x5 x6 x7 x8 x9 x10 x11 x12 x13 H (z 1) (z 2)).trans ?_))
    exact congrArg₂ (fun a b => nrm (lay w x0 x1 t a) (fun k => x13 (ix2 0 k)) b) (Fin.ext (ValueKit.rect_emb_unit_val (s := S1x1024x1024) ![0, 768, 0] S1x256x1024.size inb_S1x1024x1024_S1x256x1024_0_768_0 z 1).symm)
      (Fin.ext ((ValueKit.rect_emb_unit_val (s := S1x1024x1024) ![0, 768, 0] S1x256x1024.size inb_S1x1024x1024_S1x256x1024_0_768_0 z 2).trans (Nat.zero_add _)).symm)
  · intro z
    refine (congrArg (put _) (ix3_eta z).symm).trans ((put_at _ _ _ _).trans ((sub2_at w t x0 x1 x2 x3 x4 x5 x6 x7 x8 x9 x10 x11 x12 x13 H (z 1) (z 2)).trans ?_))
    exact congrArg₂ (fun a b => nrm (lay w x0 x1 t a) (fun k => x13 (ix2 0 k)) b) (Fin.ext (ValueKit.rect_emb_unit_val (s := S1x1024x1024) ![0, 512, 0] S1x256x1024.size inb_S1x1024x1024_S1x256x1024_0_512_0 z 1).symm)
      (Fin.ext ((ValueKit.rect_emb_unit_val (s := S1x1024x1024) ![0, 512, 0] S1x256x1024.size inb_S1x1024x1024_S1x256x1024_0_512_0 z 2).trans (Nat.zero_add _)).symm)
  · intro z
    refine (congrArg (put _) (ix3_eta z).symm).trans ((put_at _ _ _ _).trans ((sub1_at w t x0 x1 x2 x3 x4 x5 x6 x7 x8 x9 x10 x11 x12 x13 H (z 1) (z 2)).trans ?_))
    exact congrArg₂ (fun a b => nrm (lay w x0 x1 t a) (fun k => x13 (ix2 0 k)) b) (Fin.ext (ValueKit.rect_emb_unit_val (s := S1x1024x1024) ![0, 256, 0] S1x256x1024.size inb_S1x1024x1024_S1x256x1024_0_256_0 z 1).symm)
      (Fin.ext ((ValueKit.rect_emb_unit_val (s := S1x1024x1024) ![0, 256, 0] S1x256x1024.size inb_S1x1024x1024_S1x256x1024_0_256_0 z 2).trans (Nat.zero_add _)).symm)
  · intro z
    refine (congrArg (put _) (ix3_eta z).symm).trans ((put_at _ _ _ _).trans ((sub0_at w t x0 x1 x2 x3 x4 x5 x6 x7 x8 x9 x10 x11 x12 x13 H (z 1) (z 2)).trans ?_))
    exact congrArg₂ (fun a b => nrm (lay w x0 x1 t a) (fun k => x13 (ix2 0 k)) b) (Fin.ext (ValueKit.rect_emb_unit_val (s := S1x1024x1024) ![0, 0, 0] S1x256x1024.size inb_S1x1024x1024_S1x256x1024_0_0_0 z 1).symm)
      (Fin.ext ((ValueKit.rect_emb_unit_val (s := S1x1024x1024) ![0, 0, 0] S1x256x1024.size inb_S1x1024x1024_S1x256x1024_0_0_0 z 2).trans (Nat.zero_add _)).symm)

end Cert.KernelIdeal.L2
-- ==== Proof.RegVal2.lean ====
module

public import proofs.«01_k».proof.Proof.WinVal2
public import proofs.«01_k».proof.Proof.BlkVal2
public import proofs.«01_k».proof.Proof.Weights

/-! # The array that layer 1's region leaves, over the extended reals -/

@[expose] public section

set_option maxRecDepth 16384

noncomputable section

namespace Cert.KernelIdeal.L2

open Cert.KernelIdeal Cert.KernelIdeal.Gen Cert.KernelIdeal.Tile Cert.Spec
open Idealize.ShloMosaic Idealize.ShloMosaic.TcCoe
open Idealize.ShloMosaic.Pipeline (Dat)

variable (c : Dev nD) (V : (b : Ref sig .tc) → Buf (Elt Ideal) ((c : Thread nD τ).loc b)) (w : Wt)

/-- The arrays that the region finds hold the layer's weights. -/
structure Given : Prop where
  /-- The input norm's scale. -/
  ng : ∀ k, (V main_arg2 : Vec Ideal S2x1024 .f32) (ix2 1 k) = w.ng k
  /-- The permuted projection. -/
  W : ∀ k j, (V main_v3_0 : Vec Ideal S2x1024x3584 .bf16) (ix3 1 k j) = w.W k (perm j)
  /-- The layer norm's scale. -/
  lg : ∀ k, (V main_arg4 : Vec Ideal S2x512 .f32) (ix2 1 k) = w.lg k
  /-- The layer norm's shift. -/
  lb : ∀ k, (V main_arg5 : Vec Ideal S2x512 .f32) (ix2 1 k) = w.lb k
  /-- The spatial weights. -/
  ws : ∀ h s r, (V main_arg6 : Vec Ideal S2x4x128x128 .f32) (ix4 1 h s r) = w.ws h s r
  /-- The spatial biases, spread over the channels. -/
  bs : ∀ s j, (V main_v2 : Vec Ideal S2x128x512 .f32) (ix3 1 s j) = w.bs (hd j) s
  /-- The taps, transposed. -/
  cw : ∀ k j, (V main_v4 : Vec Ideal S2x3x512 .f32) (ix3 1 k j) = w.cw j k
  /-- The output projection. -/
  wo : ∀ k j, (V main_v3_1 : Vec Ideal S2x1024x1024 .bf16) (ix3 1 k j) = w.wo k j
  /-- The embedding norm's scale. -/
  pg : ∀ k, (V main_arg10 : Vec Ideal S2x1024 .f32) (ix2 1 k) = w.pg k
  /-- The embedding's gate. -/
  wg : ∀ k j, (V main_v3_2 : Vec Ideal S2x1024x1024 .bf16) (ix3 1 k j) = w.wg k j
  /-- The embedding's projection. -/
  wp : ∀ k j, (V main_v3_3 : Vec Ideal S2x256x1024 .bf16) (ix3 1 k j) = w.wp k j

/-- Then every point's blocks hold them. -/
theorem Given.has {c V w} (g : Given c V w) (t : Fin cfg2.N) :
    Has w (in2 c V t) (in3 c V t) (in4 c V t) (in5 c V t) (in6 c V t) (in7 c V t) (in8 c V t) (in9 c V t) (in10 c V t) (in11 c V t) (in12 c V t) where
  ng k := (grow1_at _ k).trans ((in2_at c V t 1 k).trans (g.ng k))
  W k j := (in3_at c V t k j).trans (g.W k j)
  lg k := (lrow1_at _ k).trans ((in4_at c V t 1 k).trans (g.lg k))
  lb k := (lrow1_at _ k).trans ((in5_at c V t 1 k).trans (g.lb k))
  ws h s r := (in6_at c V t h s r).trans (g.ws h s r)
  bs s j := (in7_at c V t s j).trans (g.bs s j)
  cw k j := (in8_at c V t k j).trans (g.cw k j)
  wo k j := (sq_at _ k j).trans ((in9_at c V t k j).trans (g.wo k j))
  pg k := (grow1_at _ k).trans ((in10_at c V t 1 k).trans (g.pg k))
  wg k j := (sq_at _ k j).trans ((in11_at c V t k j).trans (g.wg k j))
  wp k j := (wide_at _ k j).trans ((in12_at c V t k j).trans (g.wp k j))

/-- A block's row is the sequence's. -/
theorem br_at (t : Fin cfg2.N) (R : Fin 1024) (S : Fin 8192) (h : S.val = 1024 * (t.val % 8) + R.val) :
    br (in0 c V t) R = rowsOf (V main_v6 : Vec Ideal S8x8192x1024 .f32) (bt t) S :=
  funext fun m => (in0_at c V t R m).trans (congrArg (fun s => (V main_v6 : Vec Ideal S8x8192x1024 .f32) (ix3 (bt t) s m)) (Fin.ext h.symm))

/-- The tail that a later point starts from is the convolution's input on the eight rows before. -/
theorem start_at (g : Given c V w) (t : Fin cfg2.N) (h : ¬ t.val % 8 = 0) (a : Fin 8) (j : Fin 512) (S : Fin 8192) (hS : S.val + 8 = 1024 * (t.val % 8) + a.val) :
    start c V t (ix2 a j) = Spec.xc w (rowsOf (V main_v6 : Vec Ideal S8x8192x1024 .f32) (bt t) S) j := by
  have hl : t.val - 1 < cfg2.N := lt_of_le_of_lt (Nat.sub_le _ _) t.isLt
  have e : start c V t = scr (carry c V ⟨t.val - 1, hl⟩) := if_neg h
  rw [e, scr_at]
  unfold carry tl
  rw [keep_at, tail_at _ _ _ w (g.has ⟨t.val - 1, hl⟩).ng (g.has ⟨t.val - 1, hl⟩).W]
  refine congrArg (fun v => Spec.xc w v j) (funext fun m => (xrow3_at _ _ m).trans ?_)
  refine (congrFun (br_at c V ⟨t.val - 1, hl⟩ _ S ?_) m).trans (congrArg (fun b => rowsOf (V main_v6 : Vec Ideal S8x8192x1024 .f32) b S m) (Fin.ext ?_))
  · show S.val = 1024 * ((t.val - 1) % 8) + (256 * 3 + (248 + a.val)); omega
  · show (t.val - 1) / 8 = t.val / 8; omega

/-- The convolution's inputs before a block's row are the sequence's. -/
theorem bb_at (g : Given c V w) (t : Fin cfg2.N) (k : Nat) (hk : k ≤ 8) (R : Fin 1024) (S : Fin 8192) (h : S.val = 1024 * (t.val % 8) + R.val) :
    bb w (in0 c V t) (start c V t) k hk R = back w (rowsOf (V main_v6 : Vec Ideal S8x8192x1024 .f32) (bt t)) k S := by
  funext j
  unfold back
  by_cases hR : R.val < k
  · rw [bb_lt _ _ _ k hk R j hR]
    by_cases h8 : t.val % 8 = 0
    · rw [if_pos (by omega)]
      have e : start c V t = keep zeros := if_pos h8
      rw [e, zeros_at]
    · rw [if_neg (by omega)]
      exact start_at c V w g t h8 _ j _ (by show S.val - k + 8 = 1024 * (t.val % 8) + (8 - k + R.val); omega)
  · rw [bb_ge _ _ _ k hk R j hR, if_neg (by omega)]
    exact congrArg (fun v => Spec.xc w v j) (br_at c V t _ _ (by show S.val - k = 1024 * (t.val % 8) + (R.val - k); omega))

/-- A block's row after the layer is the sequence's. -/
theorem lay_at (g : Given c V w) (t : Fin cfg2.N) (R : Fin 1024) (S : Fin 8192) (h : S.val = 1024 * (t.val % 8) + R.val) (j : Fin 1024) :
    lay w (in0 c V t) (in1 c V t) (start c V t) R j = layer w (rowsOf (V main_v6 : Vec Ideal S8x8192x1024 .f32) (bt t)) (embOf (V main_arg1 : Vec Ideal S2x8x8192x256 .f32) 1 (bt t)) S j := by
  unfold lay layer
  refine row_congr w (funext fun s => ?_) (Fin.ext ?_) (bb_at c V w g t 2 _ R S h) (bb_at c V w g t 1 _ R S h) (funext fun k => ?_) j
  · exact br_at c V t _ _ (by show 128 * (S.val / 128) + s.val = 1024 * (t.val % 8) + (128 * (R.val / 128) + s.val); omega)
  · show R.val % 128 = S.val % 128; omega
  · exact (in1_at c V t R k).trans (congrArg (fun s => (V main_arg1 : Vec Ideal S2x8x8192x256 .f32) (ix4 1 (bt t) s k)) (Fin.ext h.symm))

/-- What the region's output holds at an element. -/
def res (b : Fin 8) (s : Fin 8192) (j : Fin 1024) : EReal :=
  nrm (fun j => layer w (rowsOf (V main_v6 : Vec Ideal S8x8192x1024 .f32) b) (embOf (V main_arg1 : Vec Ideal S2x8x8192x256 .f32) 1 b) s j) (fun k => (V main_v7 : Vec Ideal S1x1024 .f32) (ix2 0 k)) j

/-- Equal coordinates, equal elements. -/
theorem res_congr {b b' : Fin 8} {s s' : Fin 8192} {j j' : Fin 1024} (h0 : b.val = b'.val) (h1 : s.val = s'.val) (h2 : j.val = j'.val) :
    res c V w b s j = res c V w b' s' j' := by
  rw [Fin.ext h0, Fin.ext h1, Fin.ext h2]

/-- What a point leaves in the output's block. -/
theorem out_at (g : Given c V w) (t : Fin cfg2.N) (y : S1x1024x1024.Idx) :
    out c V t y = res c V w (bt t) ⟨1024 * (t.val % 8) + (y 1).val, by have h : (y 1).val < 1024 := (y 1).isLt; omega⟩ (y 2) := by
  unfold out
  refine (canon_at w _ _ _ _ _ _ _ _ _ _ _ _ _ _ _ (g.has t) y).trans ?_
  unfold res
  exact congrArg₂ (fun v f => nrm v f (y 2)) (funext fun m => lay_at c V w g t (y 1) _ rfl m) (funext fun k => in13_at c V t k)

/-- The array that the region leaves. -/
theorem arr_at (g : Given c V w) : (dat c V).arrAt 14 cfg2.N = fun y : S8x8192x1024.Idx => res c V w (y 0) (y 1) (y 2) := by
  refine (dat c V).arrAt_eq_of_covers 14 (fun y : S8x8192x1024.Idx => res c V w (y 0) (y 1) (y 2)) (by decide +kernel) fun t hf y => ?_
  blk_simp
  rw [after_14]
  refine (out_at c V w g t y).trans (res_congr c V w ?_ ?_ ?_)
  · show t.val / 8 = _
    blk_simp [idx_14]
  · show 1024 * (t.val % 8) + (y 1).val = _
    blk_simp [idx_14]
    omega
  · show (y 2).val = _
    blk_simp [idx_14]

end Cert.KernelIdeal.L2
-- ==== Proof.Result.lean ====
module

public import proofs.«01_k».proof.Proof.Args
public import proofs.«01_k».proof.Proof.RegVal0
public import proofs.«01_k».proof.Proof.RegVal1
public import proofs.«01_k».proof.Proof.RegVal2
public import Idealize.ShloMosaic.Lib.StableHlo.RunRead

/-! # What the program's result holds, over the extended reals -/

@[expose] public section

set_option maxRecDepth 16384

noncomputable section

namespace Cert.KernelIdeal.Whole

open Cert.KernelIdeal Cert.KernelIdeal.Gen Cert.Spec
open Idealize.ShloMosaic Idealize.ShloMosaic.TcCoe

variable (m : (ℓ : Loc nD τ sig) → Buf (Elt Ideal) ℓ) (c : Dev nD)

/-- Layer `l`'s weights as launched. -/
def wts (l : Fin 2) : Wt :=
  wt (m ((c.tc : Thread nD τ).loc main_arg2) : Vec Ideal S2x1024 .f32) (m ((c.tc : Thread nD τ).loc main_arg3) : Vec Ideal S2x1024x3584 .f32) (m ((c.tc : Thread nD τ).loc main_arg4) : Vec Ideal S2x512 .f32) (m ((c.tc : Thread nD τ).loc main_arg5) : Vec Ideal S2x512 .f32) (m ((c.tc : Thread nD τ).loc main_arg6) : Vec Ideal S2x4x128x128 .f32) (m ((c.tc : Thread nD τ).loc main_arg7) : Vec Ideal S2x4x128 .f32) (m ((c.tc : Thread nD τ).loc main_arg8) : Vec Ideal S2x512x3 .f32) (m ((c.tc : Thread nD τ).loc main_arg9) : Vec Ideal S2x1024x1024 .f32) (m ((c.tc : Thread nD τ).loc main_arg10) : Vec Ideal S2x1024 .f32) (m ((c.tc : Thread nD τ).loc main_arg11) : Vec Ideal S2x1024x1024 .f32) (m ((c.tc : Thread nD τ).loc main_arg12) : Vec Ideal S2x256x1024 .f32) l

/-- A buffer that the first region and the host operations before and after it leave is as launched at layer 0's region. -/
theorem at3 (b : Ref sig .tc) (h0 : b ∉ hostOps0_W) (h1 : ∀ w : Fin cfg0.W, (cfg0.win w).isOut = true → Pipeline.arrRef spec0 w ≠ b) (h2 : b ∉ hostOps1_W) :
    W3 m c (Proc.devRef .tc b) = m ((c.tc : Thread nD τ).loc b) :=
  (host1 m c b h2).trans <| (keep0 m c b h1).trans <| (host0 m c b h0).trans rfl

/-- What layer 0's region and the host operation after it leave is at layer 1's region as it was at layer 0's. -/
theorem at5 (b : Ref sig .tc) (h3 : ∀ w : Fin cfg1.W, (cfg1.win w).isOut = true → Pipeline.arrRef spec1 w ≠ b) (h4 : b ∉ hostOps2_W) :
    W5 m c (Proc.devRef .tc b) = W3 m c (Proc.devRef .tc b) :=
  (host2 m c b h4).trans (keep1 m c b h3)

/-- The biases, transposed and spread over a head's channels. -/
theorem bias_at (l : Fin 2) (s : Fin 128) (j : Fin 512) :
    (W1 m c (Proc.devRef .tc main_v2) : Vec Ideal S2x128x512 .f32) (ix3 l s j) = (m ((c.tc : Thread nD τ).loc main_arg7) : Vec Ideal S2x4x128 .f32) (ix3 l (hd j) s) := by
  have e : (W1 m c (Proc.devRef .tc main_v2) : Vec Ideal S2x128x512 .f32)
      = shapeCast S2x128x512 (broadcastInDim S2x128x4x128 ![0, 1, 2] bcast_S2x128x4_S2x128x4x128_0_1_2
          (transpose S2x128x4 [0, 2, 1] (m ((c.tc : Thread nD τ).loc main_arg7) : Vec Ideal S2x4x128 .f32) transposes_S2x4x128_S2x128x4_0_2_1)) shapeCasts_S2x128x4x128_S2x128x512 := by
    unfold W1
    after_reads_simp
    rfl
  rw [e]
  pointwise [hd]

/-- The taps, transposed. -/
theorem taps_at (l : Fin 2) (k : Fin 3) (j : Fin 512) :
    (W3 m c (Proc.devRef .tc main_v4) : Vec Ideal S2x3x512 .f32) (ix3 l k j) = (m ((c.tc : Thread nD τ).loc main_arg8) : Vec Ideal S2x512x3 .f32) (ix3 l j k) := by
  have e : (W3 m c (Proc.devRef .tc main_v4) : Vec Ideal S2x3x512 .f32)
      = transpose S2x3x512 [0, 2, 1] (W2 m c (Proc.devRef .tc main_arg8) : Vec Ideal S2x512x3 .f32) transposes_S2x512x3_S2x3x512_0_2_1 := by
    unfold W3
    after_reads_simp
  have e2 : W2 m c (Proc.devRef .tc main_arg8) = m ((c.tc : Thread nD τ).loc main_arg8) :=
    (keep0 m c main_arg8 (by decide)).trans ((host0 m c main_arg8 (by decide)).trans rfl)
  rw [e, e2]
  pointwise

/-- The last scale, as a row. -/
theorem last_at (k : Fin 1024) :
    (W5 m c (Proc.devRef .tc main_v7) : Vec Ideal S1x1024 .f32) (ix2 0 k) = (m ((c.tc : Thread nD τ).loc main_arg13) : Vec Ideal S1024 .f32) (ix1 k) := by
  have e : (W5 m c (Proc.devRef .tc main_v7) : Vec Ideal S1x1024 .f32)
      = broadcastInDim S1x1024 ![1] bcast_S1024_S1x1024_1 (W4 m c (Proc.devRef .tc main_arg13) : Vec Ideal S1024 .f32) := by
    unfold W5
    after_reads_simp
  have e2 : W4 m c (Proc.devRef .tc main_arg13) = m ((c.tc : Thread nD τ).loc main_arg13) :=
    (keep1 m c main_arg13 (by decide)).trans (at3 m c main_arg13 (by decide) (by decide) (by decide))
  rw [e, e2]
  pointwise

/-- The prepared array `v3_0`. -/
theorem v3_0_at (l : Fin 2) (k : Fin 1024) (j : Fin 3584) : (W3 m c (Proc.devRef .tc main_v3_0) : Vec Ideal S2x1024x3584 .bf16) (ix3 l k j) = (m ((c.tc : Thread nD τ).loc main_arg3) : Vec Ideal S2x1024x3584 .f32) (ix3 l k (Tile.perm j)) := by
  have e1 : W3 m c (Proc.devRef .tc main_v3_0) = (dat0 m c).arrAt 4 cfg0.N := (host1 m c main_v3_0 (by decide)).trans (arr0 m c 4)
  have e2 := L0.arr_4 c (fun b => W1 m c (Proc.devRef .tc b))
  have e3 : W1 m c (Proc.devRef .tc main_arg3) = m ((c.tc : Thread nD τ).loc main_arg3) := (host0 m c main_arg3 (by decide)).trans rfl
  refine (congrFun (e1.trans e2) (ix3 l k j)).trans ?_
  show (W1 m c (Proc.devRef .tc main_arg3) : Vec Ideal S2x1024x3584 .f32) (ix3 l k (Tile.perm j)) = _
  rw [e3]

/-- The prepared array `v3_1`. -/
theorem v3_1_at (l : Fin 2) (k j : Fin 1024) : (W3 m c (Proc.devRef .tc main_v3_1) : Vec Ideal S2x1024x1024 .bf16) (ix3 l k j) = (m ((c.tc : Thread nD τ).loc main_arg9) : Vec Ideal S2x1024x1024 .f32) (ix3 l k (j)) := by
  have e1 : W3 m c (Proc.devRef .tc main_v3_1) = (dat0 m c).arrAt 5 cfg0.N := (host1 m c main_v3_1 (by decide)).trans (arr0 m c 5)
  have e2 := L0.arr_5 c (fun b => W1 m c (Proc.devRef .tc b))
  have e3 : W1 m c (Proc.devRef .tc main_arg9) = m ((c.tc : Thread nD τ).loc main_arg9) := (host0 m c main_arg9 (by decide)).trans rfl
  refine (congrFun (e1.trans e2) (ix3 l k j)).trans ?_
  show (W1 m c (Proc.devRef .tc main_arg9) : Vec Ideal S2x1024x1024 .f32) (ix3 l k (j)) = _
  rw [e3]

/-- The prepared array `v3_2`. -/
theorem v3_2_at (l : Fin 2) (k j : Fin 1024) : (W3 m c (Proc.devRef .tc main_v3_2) : Vec Ideal S2x1024x1024 .bf16) (ix3 l k j) = (m ((c.tc : Thread nD τ).loc main_arg11) : Vec Ideal S2x1024x1024 .f32) (ix3 l k (j)) := by
  have e1 : W3 m c (Proc.devRef .tc main_v3_2) = (dat0 m c).arrAt 6 cfg0.N := (host1 m c main_v3_2 (by decide)).trans (arr0 m c 6)
  have e2 := L0.arr_6 c (fun b => W1 m c (Proc.devRef .tc b))
  have e3 : W1 m c (Proc.devRef .tc main_arg11) = m ((c.tc : Thread nD τ).loc main_arg11) := (host0 m c main_arg11 (by decide)).trans rfl
  refine (congrFun (e1.trans e2) (ix3 l k j)).trans ?_
  show (W1 m c (Proc.devRef .tc main_arg11) : Vec Ideal S2x1024x1024 .f32) (ix3 l k (j)) = _
  rw [e3]

/-- The prepared array `v3_3`. -/
theorem v3_3_at (l : Fin 2) (k : Fin 256) (j : Fin 1024) : (W3 m c (Proc.devRef .tc main_v3_3) : Vec Ideal S2x256x1024 .bf16) (ix3 l k j) = (m ((c.tc : Thread nD τ).loc main_arg12) : Vec Ideal S2x256x1024 .f32) (ix3 l k (j)) := by
  have e1 : W3 m c (Proc.devRef .tc main_v3_3) = (dat0 m c).arrAt 7 cfg0.N := (host1 m c main_v3_3 (by decide)).trans (arr0 m c 7)
  have e2 := L0.arr_7 c (fun b => W1 m c (Proc.devRef .tc b))
  have e3 : W1 m c (Proc.devRef .tc main_arg12) = m ((c.tc : Thread nD τ).loc main_arg12) := (host0 m c main_arg12 (by decide)).trans rfl
  refine (congrFun (e1.trans e2) (ix3 l k j)).trans ?_
  show (W1 m c (Proc.devRef .tc main_arg12) : Vec Ideal S2x256x1024 .f32) (ix3 l k (j)) = _
  rw [e3]

/-- Layer 0's region finds the layer's weights. -/
theorem given1 : L1.Given c (fun b => W3 m c (Proc.devRef .tc b)) (wts m c 0) where
  ng k := congrFun (at3 m c main_arg2 (by decide) (by decide) (by decide)) (ix2 0 k)
  W k j := v3_0_at m c 0 k j
  lg k := congrFun (at3 m c main_arg4 (by decide) (by decide) (by decide)) (ix2 0 k)
  lb k := congrFun (at3 m c main_arg5 (by decide) (by decide) (by decide)) (ix2 0 k)
  ws h s r := congrFun (at3 m c main_arg6 (by decide) (by decide) (by decide)) (ix4 0 h s r)
  bs s j := (congrFun ((host1 m c main_v2 (by decide)).trans (keep0 m c main_v2 (by decide))) (ix3 0 s j)).trans (bias_at m c 0 s j)
  cw k j := taps_at m c 0 k j
  wo k j := v3_1_at m c 0 k j
  pg k := congrFun (at3 m c main_arg10 (by decide) (by decide) (by decide)) (ix2 0 k)
  wg k j := v3_2_at m c 0 k j
  wp k j := v3_3_at m c 0 k j

/-- Layer 1's region finds the layer's weights. -/
theorem given2 : L2.Given c (fun b => W5 m c (Proc.devRef .tc b)) (wts m c 1) where
  ng k := congrFun ((at5 m c main_arg2 (by decide) (by decide)).trans (at3 m c main_arg2 (by decide) (by decide) (by decide))) (ix2 1 k)
  W k j := (congrFun (at5 m c main_v3_0 (by decide) (by decide)) (ix3 1 k j)).trans (v3_0_at m c 1 k j)
  lg k := congrFun ((at5 m c main_arg4 (by decide) (by decide)).trans (at3 m c main_arg4 (by decide) (by decide) (by decide))) (ix2 1 k)
  lb k := congrFun ((at5 m c main_arg5 (by decide) (by decide)).trans (at3 m c main_arg5 (by decide) (by decide) (by decide))) (ix2 1 k)
  ws h s r := congrFun ((at5 m c main_arg6 (by decide) (by decide)).trans (at3 m c main_arg6 (by decide) (by decide) (by decide))) (ix4 1 h s r)
  bs s j := (congrFun (at5 m c main_v2 (by decide) (by decide)) (ix3 1 s j)).trans ((congrFun ((host1 m c main_v2 (by decide)).trans (keep0 m c main_v2 (by decide))) (ix3 1 s j)).trans (bias_at m c 1 s j))
  cw k j := (congrFun (at5 m c main_v4 (by decide) (by decide)) (ix3 1 k j)).trans (taps_at m c 1 k j)
  wo k j := (congrFun (at5 m c main_v3_1 (by decide) (by decide)) (ix3 1 k j)).trans (v3_1_at m c 1 k j)
  pg k := congrFun ((at5 m c main_arg10 (by decide) (by decide)).trans (at3 m c main_arg10 (by decide) (by decide) (by decide))) (ix2 1 k)
  wg k j := (congrFun (at5 m c main_v3_2 (by decide) (by decide)) (ix3 1 k j)).trans (v3_2_at m c 1 k j)
  wp k j := (congrFun (at5 m c main_v3_3 (by decide) (by decide)) (ix3 1 k j)).trans (v3_3_at m c 1 k j)

/-- The rows after layer 0. -/
def mid0 : Arr S8x8192x1024 := fun y => layer (wts m c 0) (rowsOf (m ((c.tc : Thread nD τ).loc main_arg0) : Vec Ideal S8x8192x1024 .f32) (y 0)) (embOf (m ((c.tc : Thread nD τ).loc main_arg1) : Vec Ideal S2x8x8192x256 .f32) 0 (y 0)) (y 1) (y 2)

/-- Layer 0's region leaves them. -/
theorem v6_at : (W5 m c (Proc.devRef .tc main_v6) : Vec Ideal S8x8192x1024 .f32) = mid0 m c := by
  have e1 : W5 m c (Proc.devRef .tc main_v6) = (dat1 m c).arrAt 14 cfg1.N := (host2 m c main_v6 (by decide)).trans (arr1 m c 14)
  have e2 := L1.arr_at c (fun b => W3 m c (Proc.devRef .tc b)) _ (given1 m c)
  have e3 : W3 m c (Proc.devRef .tc main_arg0) = m ((c.tc : Thread nD τ).loc main_arg0) := at3 m c main_arg0 (by decide) (by decide) (by decide)
  have e4 : W3 m c (Proc.devRef .tc main_arg1) = m ((c.tc : Thread nD τ).loc main_arg1) := at3 m c main_arg1 (by decide) (by decide) (by decide)
  refine (e1.trans e2).trans (funext fun y => ?_)
  unfold L1.res mid0
  dsimp only
  rw [e3, e4]

/-- The result's rows: layer 1 on layer 0's, normalised. -/
theorem v8_at (b : Fin 8) (s : Fin 8192) (j : Fin 1024) :
    (W6 m c (Proc.devRef .tc main_v8) : Vec Ideal S8x8192x1024 .f32) (ix3 b s j)
      = nrm (fun j => layer (wts m c 1) (rowsOf (mid0 m c) b) (embOf (m ((c.tc : Thread nD τ).loc main_arg1) : Vec Ideal S2x8x8192x256 .f32) 1 b) s j) (fun k => (m ((c.tc : Thread nD τ).loc main_arg13) : Vec Ideal S1024 .f32) (ix1 k)) j := by
  have e1 : W6 m c (Proc.devRef .tc main_v8) = (dat2 m c).arrAt 14 cfg2.N := arr2 m c 14
  have e2 := L2.arr_at c (fun b => W5 m c (Proc.devRef .tc b)) _ (given2 m c)
  have e4 : W5 m c (Proc.devRef .tc main_arg1) = m ((c.tc : Thread nD τ).loc main_arg1) :=
    (at5 m c main_arg1 (by decide) (by decide)).trans (at3 m c main_arg1 (by decide) (by decide) (by decide))
  refine (congrFun (e1.trans e2) (ix3 b s j)).trans ?_
  show L2.res c (fun b => W5 m c (Proc.devRef .tc b)) (wts m c 1) b s j = _
  unfold L2.res
  have e5 := v6_at m c
  have e6 := fun k => last_at m c k
  dsimp only
  rw [e4, e5]
  exact congrArg (fun f => nrm _ f j) (funext e6)

end Cert.KernelIdeal.Whole
-- ==== Proof.Ref0.lean ====
module

public import proofs.«01_k».proof.Proof.Gen.ReferenceIdeal.Read
public import proofs.«01_k».proof.Proof.Weights

/-! # The reference's layer 0, read at an element -/

@[expose] public section

set_option maxRecDepth 16384

noncomputable section

namespace Cert.Ref

open Cert.ReferenceIdeal Cert.ReferenceIdeal.Gen Cert.ReferenceIdeal.Read Cert.Spec
open Idealize.ShloMosaic Idealize.ShloMosaic.TcCoe

section
variable (x0 : (⟨S8x8192x1024, .f32⟩ : BufTy).Contents (Elt Ideal)) (x1 : (⟨S2x8x8192x256, .f32⟩ : BufTy).Contents (Elt Ideal)) (x2 : (⟨S2x1024, .f32⟩ : BufTy).Contents (Elt Ideal)) (x3 : (⟨S2x1024x3584, .f32⟩ : BufTy).Contents (Elt Ideal)) (x4 : (⟨S2x512, .f32⟩ : BufTy).Contents (Elt Ideal)) (x5 : (⟨S2x512, .f32⟩ : BufTy).Contents (Elt Ideal)) (x6 : (⟨S2x4x128x128, .f32⟩ : BufTy).Contents (Elt Ideal)) (x7 : (⟨S2x4x128, .f32⟩ : BufTy).Contents (Elt Ideal)) (x8 : (⟨S2x512x3, .f32⟩ : BufTy).Contents (Elt Ideal)) (x9 : (⟨S2x1024x1024, .f32⟩ : BufTy).Contents (Elt Ideal)) (x10 : (⟨S2x1024, .f32⟩ : BufTy).Contents (Elt Ideal)) (x11 : (⟨S2x1024x1024, .f32⟩ : BufTy).Contents (Elt Ideal)) (x12 : (⟨S2x256x1024, .f32⟩ : BufTy).Contents (Elt Ideal)) (x13 : (⟨S1024, .f32⟩ : BufTy).Contents (Elt Ideal))
include x0 x1 x2 x3 x4 x5 x6 x7 x8 x9 x10 x11 x12 x13

/-- The normalised rows. -/
theorem nrm_0 (b : Fin 8) (s : Fin 8192) (k : Fin 1024) :
    val_main_v14 (F := Ideal) x0 x2 (ix3 b s k) = nrm (rowsOf x0 b s) (wt x2 x3 x4 x5 x6 x7 x8 x9 x10 x11 x12 0).ng k := by
  simp only [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  pointwise [nrm, eps, c1024, rowsOf, wt]

/-- The joint projection. -/
theorem pr_0 (b : Fin 8) (s : Fin 8192) (c : Fin 3584) :
    val_main_v17 (F := Ideal) x0 x2 x3 (ix3 b s c) = pr (wt x2 x3 x4 x5 x6 x7 x8 x9 x10 x11 x12 0) (rowsOf x0 b s) c := by
  have h := fun k => nrm_0 x0 x1 x2 x3 x4 x5 x6 x7 x8 x9 x10 x11 x12 x13 b s k
  simp only [val_main_v15, val_main_v16, val_main_v17]
  pointwise [h, pr, dot_S8x8192x1024_S1024x3584_S8x8192x3584_2_0_01_1_n_n]
  first | done | rfl

/-- The normalised gating values. -/
theorem vn_0 (b : Fin 8) (s : Fin 8192) (j : Fin 512) :
    val_main_v54 (F := Ideal) x0 x2 x3 x4 x5 (ix3 b s j) = vn (wt x2 x3 x4 x5 x6 x7 x8 x9 x10 x11 x12 0) (rowsOf x0 b s) j := by
  have h := fun c => pr_0 x0 x1 x2 x3 x4 x5 x6 x7 x8 x9 x10 x11 x12 x13 b s c
  simp only [val_main_v19, val_main_v20, val_main_v21, val_main_v22, val_main_v23, val_main_v24, val_main_v25, val_main_v26, val_main_v27, val_main_v28, val_main_v29, val_main_v30, val_main_v31, val_main_v32, val_main_cst_2, val_main_v33, val_main_v34, val_main_cst_3, val_main_v35, val_main_v36, val_main_v37, val_main_v38, val_main_v39, val_main_cst_4, val_main_v40, val_main_v41, val_main_cst_5, val_main_v42, val_main_v43, val_main_cst_6, val_main_v44, val_main_v45, val_main_v46, val_main_v47, val_main_v48, val_main_v49, val_main_v50, val_main_v51, val_main_v52, val_main_v53, val_main_v54]
  pointwise [h, vn, lnm, ctr, eps, c512]
  first | done | rfl

/-- The causal mixture. -/
theorem mixed_0 (b : Fin 8) (s : Fin 8192) (j : Fin 512) :
    val_main_v67 (F := Ideal) x0 x2 x3 x4 x5 x6 x7 (ix3 b s j) = mixed (wt x2 x3 x4 x5 x6 x7 x8 x9 x10 x11 x12 0) (chunk (rowsOf x0 b) s) ⟨s.val % 128, by omega⟩ j := by
  have h := fun s j => vn_0 x0 x1 x2 x3 x4 x5 x6 x7 x8 x9 x10 x11 x12 x13 b s j
  simp only [val_main_v29, val_main_v30, val_main_v31, val_main_v32, val_main_v55, val_main_cst_7, val_main_v56, val_main_call0_v0, val_main_call0_c, val_main_call0_v1, val_main_call0_v2, val_main_call0_v3, val_main_call0_v4, val_main_call0_cst, val_main_call0_v5, val_main_v57, val_main_v58, val_main_v59, val_main_v60, val_main_v61, val_main_v62, val_main_v63, val_main_v64, val_main_v65, val_main_v66, val_main_v67]
  pointwise [h, mixed, dot_S8x64x128x4x128_S4x128x128_S4x8x64x128x128_2_2_014_1_3_0]
  refine congrArg₂ (· + ·) (Finset.sum_congr rfl fun r _ => ?_) rfl
  refine mask_mul ⟨s.val % 128, by omega⟩ r _ ?_ _ _ _ ?_
  · rw [show IntOp.addi (BitVec.ofNat 32 (s.val % 128)) 0#32 = BitVec.ofNat 32 (s.val % 128) from BitVec.add_zero _]
    exact sge_small _ _ (by omega) (by omega)
  · exact congrArg (fun a => vn _ (rowsOf _ b a) j) (Fin.ext (by show s.val / 128 * 128 + r.val = 128 * (s.val / 128) + r.val; omega))

/-- The spatial branch. -/
theorem brA_0 (b : Fin 8) (s : Fin 8192) (j : Fin 512) :
    val_main_v70 (F := Ideal) x0 x2 x3 x4 x5 x6 x7 (ix3 b s j) = brA (wt x2 x3 x4 x5 x6 x7 x8 x9 x10 x11 x12 0) (chunk (rowsOf x0 b) s) ⟨s.val % 128, by omega⟩ j := by
  have h := fun c => pr_0 x0 x1 x2 x3 x4 x5 x6 x7 x8 x9 x10 x11 x12 x13 b s c
  have hm := fun j => mixed_0 x0 x1 x2 x3 x4 x5 x6 x7 x8 x9 x10 x11 x12 x13 b s j
  simp only [val_main_v18, val_main_v20, val_main_v68, val_main_call1_v0, val_main_call1_v1, val_main_call1_cst, val_main_call1_v2, val_main_call1_v3, val_main_call1_cst_0, val_main_call1_v4, val_main_call1_v5, val_main_v69, val_main_v70]
  pointwise [h, hm, brA, chunk_self, silu, Ideal.logistic]
  first | done | rfl

/-- The convolution's input. -/
theorem xcv_0 (b : Fin 8) (s : Fin 8192) (j : Fin 512) :
    val_main_v73 (F := Ideal) x0 x2 x3 (ix3 b s j) = xc (wt x2 x3 x4 x5 x6 x7 x8 x9 x10 x11 x12 0) (rowsOf x0 b s) j := by
  have h := fun c => pr_0 x0 x1 x2 x3 x4 x5 x6 x7 x8 x9 x10 x11 x12 x13 b s c
  simp only [val_main_v21, val_main_v23, val_main_v73]
  pointwise [h, xc]
  first | done | rfl

/-- The convolution's input after the zero rows. -/
theorem pad_0 (b : Fin 8) (s : Fin 8194) (j : Fin 512) :
    val_main_v74 (F := Ideal) x0 x2 x3 (ix3 b s j) = if h : s.val < 2 then 0 else xc (wt x2 x3 x4 x5 x6 x7 x8 x9 x10 x11 x12 0) (rowsOf x0 b ⟨s.val - 2, by omega⟩) j := by
  have h := fun s j => xcv_0 x0 x1 x2 x3 x4 x5 x6 x7 x8 x9 x10 x11 x12 x13 b s j
  simp only [val_main_c, val_main_call2_v0, val_main_v74]
  pointwise [h]
  have hz : FloatOps.sitofp (F := Ideal) FTy.f32 0#32 = (0 : EReal) := by
    show (((0#32 : BitVec 32).toInt : ℝ) : EReal) = 0
    simp
  rw [hz]
  by_cases hs : s.val < 2
  · rw [dif_neg (by omega), dif_pos hs]
  · rw [dif_pos (by omega), dif_neg hs]

/-- The convolution branch. -/
theorem brB_0 (b : Fin 8) (s : Fin 8192) (j : Fin 512) :
    val_main_v97 (F := Ideal) x0 x2 x3 x8 (ix3 b s j) = brB (wt x2 x3 x4 x5 x6 x7 x8 x9 x10 x11 x12 0) (rowsOf x0 b s) (back (wt x2 x3 x4 x5 x6 x7 x8 x9 x10 x11 x12 0) (rowsOf x0 b) 2 s) (back (wt x2 x3 x4 x5 x6 x7 x8 x9 x10 x11 x12 0) (rowsOf x0 b) 1 s) j := by
  have h := fun c => pr_0 x0 x1 x2 x3 x4 x5 x6 x7 x8 x9 x10 x11 x12 x13 b s c
  have hp := fun s j => pad_0 x0 x1 x2 x3 x4 x5 x6 x7 x8 x9 x10 x11 x12 x13 b s j
  simp only [val_main_v22, val_main_v24, val_main_v71, val_main_v72, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_call3_v0, val_main_call3_v1, val_main_call3_cst, val_main_call3_v2, val_main_call3_v3, val_main_call3_cst_0, val_main_call3_v4, val_main_call3_v5, val_main_v96, val_main_v97]
  pointwise [h, hp, brB, silu, back_two, back_one, Ideal.logistic]
  first | done | rfl

/-- The rows after the mixing. -/
theorem mid_0 (b : Fin 8) (s : Fin 8192) (j : Fin 1024) :
    val_main_v102 (F := Ideal) x0 x2 x3 x4 x5 x6 x7 x8 x9 (ix3 b s j) = mid (wt x2 x3 x4 x5 x6 x7 x8 x9 x10 x11 x12 0) (chunk (rowsOf x0 b) s) ⟨s.val % 128, by omega⟩ (back (wt x2 x3 x4 x5 x6 x7 x8 x9 x10 x11 x12 0) (rowsOf x0 b) 2 s) (back (wt x2 x3 x4 x5 x6 x7 x8 x9 x10 x11 x12 0) (rowsOf x0 b) 1 s) j := by
  have ha := fun j => brA_0 x0 x1 x2 x3 x4 x5 x6 x7 x8 x9 x10 x11 x12 x13 b s j
  have hb := fun j => brB_0 x0 x1 x2 x3 x4 x5 x6 x7 x8 x9 x10 x11 x12 x13 b s j
  simp only [val_main_v98, val_main_v99, val_main_v100, val_main_v101, val_main_v102]
  pointwise [ha, hb, mid, cat, chunk_self, rowsOf, dot_S8x8192x1024_S1024x1024_S8x8192x1024_2_0_01_1_n_n]
  first | done | rfl

/-- The rows after the layer. -/
theorem layer_0 (b : Fin 8) (s : Fin 8192) (j : Fin 1024) :
    val_main_v133 (F := Ideal) x0 x1 x2 x3 x4 x5 x6 x7 x8 x9 x10 x11 x12 (ix3 b s j) = layer (wt x2 x3 x4 x5 x6 x7 x8 x9 x10 x11 x12 0) (rowsOf x0 b) (embOf x1 0 b) s j := by
  have h := fun j => mid_0 x0 x1 x2 x3 x4 x5 x6 x7 x8 x9 x10 x11 x12 x13 b s j
  simp only [val_main_v103, val_main_v104, val_main_v105, val_main_cst_8, val_main_v106, val_main_v107, val_main_cst_9, val_main_v108, val_main_v109, val_main_cst_10, val_main_v110, val_main_v111, val_main_v112, val_main_v113, val_main_v114, val_main_v115, val_main_v116, val_main_v117, val_main_v118, val_main_v119, val_main_v120, val_main_v121, val_main_v122, val_main_cst_11, val_main_v123, val_main_v124, val_main_cst_12, val_main_v125, val_main_v126, val_main_v127, val_main_v128, val_main_v129, val_main_v130, val_main_v131, val_main_v132, val_main_v133]
  pointwise [h, layer, row, gat, nrm, eps, c1024, embOf, Ideal.logistic, dot_S8x8192x1024_S1024x1024_S8x8192x1024_2_0_01_1_n_n, dot_S8x8192x256_S256x1024_S8x8192x1024_2_0_01_1_n_n]
  first | done | rfl

end

end Cert.Ref

end
-- ==== Proof.Ref1.lean ====
module

public import proofs.«01_k».proof.Proof.Gen.ReferenceIdeal.Read
public import proofs.«01_k».proof.Proof.Weights

/-! # The reference's layer 1, read at an element -/

@[expose] public section

set_option maxRecDepth 16384

noncomputable section

namespace Cert.Ref

open Cert.ReferenceIdeal Cert.ReferenceIdeal.Gen Cert.ReferenceIdeal.Read Cert.Spec
open Idealize.ShloMosaic Idealize.ShloMosaic.TcCoe

section
variable (x0 : (⟨S8x8192x1024, .f32⟩ : BufTy).Contents (Elt Ideal)) (x1 : (⟨S2x8x8192x256, .f32⟩ : BufTy).Contents (Elt Ideal)) (x2 : (⟨S2x1024, .f32⟩ : BufTy).Contents (Elt Ideal)) (x3 : (⟨S2x1024x3584, .f32⟩ : BufTy).Contents (Elt Ideal)) (x4 : (⟨S2x512, .f32⟩ : BufTy).Contents (Elt Ideal)) (x5 : (⟨S2x512, .f32⟩ : BufTy).Contents (Elt Ideal)) (x6 : (⟨S2x4x128x128, .f32⟩ : BufTy).Contents (Elt Ideal)) (x7 : (⟨S2x4x128, .f32⟩ : BufTy).Contents (Elt Ideal)) (x8 : (⟨S2x512x3, .f32⟩ : BufTy).Contents (Elt Ideal)) (x9 : (⟨S2x1024x1024, .f32⟩ : BufTy).Contents (Elt Ideal)) (x10 : (⟨S2x1024, .f32⟩ : BufTy).Contents (Elt Ideal)) (x11 : (⟨S2x1024x1024, .f32⟩ : BufTy).Contents (Elt Ideal)) (x12 : (⟨S2x256x1024, .f32⟩ : BufTy).Contents (Elt Ideal)) (x13 : (⟨S1024, .f32⟩ : BufTy).Contents (Elt Ideal))
include x0 x1 x2 x3 x4 x5 x6 x7 x8 x9 x10 x11 x12 x13

/-- The normalised rows. -/
theorem nrm_1 (b : Fin 8) (s : Fin 8192) (k : Fin 1024) :
    val_main_v148 (F := Ideal) x0 x1 x2 x3 x4 x5 x6 x7 x8 x9 x10 x11 x12 (ix3 b s k) = nrm (rowsOf (val_main_v133 (F := Ideal) x0 x1 x2 x3 x4 x5 x6 x7 x8 x9 x10 x11 x12) b s) (wt x2 x3 x4 x5 x6 x7 x8 x9 x10 x11 x12 1).ng k := by
  simp only [val_main_v134, val_main_v135, val_main_v136, val_main_cst_13, val_main_v137, val_main_v138, val_main_cst_14, val_main_v139, val_main_v140, val_main_cst_15, val_main_v141, val_main_v142, val_main_v143, val_main_v144, val_main_v145, val_main_v146, val_main_v147, val_main_v148]
  pointwise [nrm, eps, c1024, rowsOf, wt]

/-- The joint projection. -/
theorem pr_1 (b : Fin 8) (s : Fin 8192) (c : Fin 3584) :
    val_main_v151 (F := Ideal) x0 x1 x2 x3 x4 x5 x6 x7 x8 x9 x10 x11 x12 (ix3 b s c) = pr (wt x2 x3 x4 x5 x6 x7 x8 x9 x10 x11 x12 1) (rowsOf (val_main_v133 (F := Ideal) x0 x1 x2 x3 x4 x5 x6 x7 x8 x9 x10 x11 x12) b s) c := by
  have h := fun k => nrm_1 x0 x1 x2 x3 x4 x5 x6 x7 x8 x9 x10 x11 x12 x13 b s k
  simp only [val_main_v149, val_main_v150, val_main_v151]
  pointwise [h, pr, dot_S8x8192x1024_S1024x3584_S8x8192x3584_2_0_01_1_n_n]
  first | done | rfl

/-- The normalised gating values. -/
theorem vn_1 (b : Fin 8) (s : Fin 8192) (j : Fin 512) :
    val_main_v188 (F := Ideal) x0 x1 x2 x3 x4 x5 x6 x7 x8 x9 x10 x11 x12 (ix3 b s j) = vn (wt x2 x3 x4 x5 x6 x7 x8 x9 x10 x11 x12 1) (rowsOf (val_main_v133 (F := Ideal) x0 x1 x2 x3 x4 x5 x6 x7 x8 x9 x10 x11 x12) b s) j := by
  have h := fun c => pr_1 x0 x1 x2 x3 x4 x5 x6 x7 x8 x9 x10 x11 x12 x13 b s c
  simp only [val_main_v153, val_main_v154, val_main_v155, val_main_v156, val_main_v157, val_main_v158, val_main_v159, val_main_v160, val_main_v161, val_main_v162, val_main_v163, val_main_v164, val_main_v165, val_main_v166, val_main_cst_16, val_main_v167, val_main_v168, val_main_cst_17, val_main_v169, val_main_v170, val_main_v171, val_main_v172, val_main_v173, val_main_cst_18, val_main_v174, val_main_v175, val_main_cst_19, val_main_v176, val_main_v177, val_main_cst_20, val_main_v178, val_main_v179, val_main_v180, val_main_v181, val_main_v182, val_main_v183, val_main_v184, val_main_v185, val_main_v186, val_main_v187, val_main_v188]
  pointwise [h, vn, lnm, ctr, eps, c512]
  first | done | rfl

/-- The causal mixture. -/
theorem mixed_1 (b : Fin 8) (s : Fin 8192) (j : Fin 512) :
    val_main_v201 (F := Ideal) x0 x1 x2 x3 x4 x5 x6 x7 x8 x9 x10 x11 x12 (ix3 b s j) = mixed (wt x2 x3 x4 x5 x6 x7 x8 x9 x10 x11 x12 1) (chunk (rowsOf (val_main_v133 (F := Ideal) x0 x1 x2 x3 x4 x5 x6 x7 x8 x9 x10 x11 x12) b) s) ⟨s.val % 128, by omega⟩ j := by
  have h := fun s j => vn_1 x0 x1 x2 x3 x4 x5 x6 x7 x8 x9 x10 x11 x12 x13 b s j
  simp only [val_main_v163, val_main_v164, val_main_v165, val_main_v166, val_main_v189, val_main_cst_21, val_main_v190, val_main_call4_v0, val_main_call4_c, val_main_call4_v1, val_main_call4_v2, val_main_call4_v3, val_main_call4_v4, val_main_call4_cst, val_main_call4_v5, val_main_v191, val_main_v192, val_main_v193, val_main_v194, val_main_v195, val_main_v196, val_main_v197, val_main_v198, val_main_v199, val_main_v200, val_main_v201]
  pointwise [h, mixed, dot_S8x64x128x4x128_S4x128x128_S4x8x64x128x128_2_2_014_1_3_0]
  refine congrArg₂ (· + ·) (Finset.sum_congr rfl fun r _ => ?_) rfl
  refine mask_mul ⟨s.val % 128, by omega⟩ r _ ?_ _ _ _ ?_
  · rw [show IntOp.addi (BitVec.ofNat 32 (s.val % 128)) 0#32 = BitVec.ofNat 32 (s.val % 128) from BitVec.add_zero _]
    exact sge_small _ _ (by omega) (by omega)
  · exact congrArg (fun a => vn _ (rowsOf _ b a) j) (Fin.ext (by show s.val / 128 * 128 + r.val = 128 * (s.val / 128) + r.val; omega))

/-- The spatial branch. -/
theorem brA_1 (b : Fin 8) (s : Fin 8192) (j : Fin 512) :
    val_main_v204 (F := Ideal) x0 x1 x2 x3 x4 x5 x6 x7 x8 x9 x10 x11 x12 (ix3 b s j) = brA (wt x2 x3 x4 x5 x6 x7 x8 x9 x10 x11 x12 1) (chunk (rowsOf (val_main_v133 (F := Ideal) x0 x1 x2 x3 x4 x5 x6 x7 x8 x9 x10 x11 x12) b) s) ⟨s.val % 128, by omega⟩ j := by
  have h := fun c => pr_1 x0 x1 x2 x3 x4 x5 x6 x7 x8 x9 x10 x11 x12 x13 b s c
  have hm := fun j => mixed_1 x0 x1 x2 x3 x4 x5 x6 x7 x8 x9 x10 x11 x12 x13 b s j
  simp only [val_main_v152, val_main_v154, val_main_v202, val_main_call5_v0, val_main_call5_v1, val_main_call5_cst, val_main_call5_v2, val_main_call5_v3, val_main_call5_cst_0, val_main_call5_v4, val_main_call5_v5, val_main_v203, val_main_v204]
  pointwise [h, hm, brA, chunk_self, silu, Ideal.logistic]
  first | done | rfl

/-- The convolution's input. -/
theorem xcv_1 (b : Fin 8) (s : Fin 8192) (j : Fin 512) :
    val_main_v207 (F := Ideal) x0 x1 x2 x3 x4 x5 x6 x7 x8 x9 x10 x11 x12 (ix3 b s j) = xc (wt x2 x3 x4 x5 x6 x7 x8 x9 x10 x11 x12 1) (rowsOf (val_main_v133 (F := Ideal) x0 x1 x2 x3 x4 x5 x6 x7 x8 x9 x10 x11 x12) b s) j := by
  have h := fun c => pr_1 x0 x1 x2 x3 x4 x5 x6 x7 x8 x9 x10 x11 x12 x13 b s c
  simp only [val_main_v155, val_main_v157, val_main_v207]
  pointwise [h, xc]
  first | done | rfl

/-- The convolution's input after the zero rows. -/
theorem pad_1 (b : Fin 8) (s : Fin 8194) (j : Fin 512) :
    val_main_v208 (F := Ideal) x0 x1 x2 x3 x4 x5 x6 x7 x8 x9 x10 x11 x12 (ix3 b s j) = if h : s.val < 2 then 0 else xc (wt x2 x3 x4 x5 x6 x7 x8 x9 x10 x11 x12 1) (rowsOf (val_main_v133 (F := Ideal) x0 x1 x2 x3 x4 x5 x6 x7 x8 x9 x10 x11 x12) b ⟨s.val - 2, by omega⟩) j := by
  have h := fun s j => xcv_1 x0 x1 x2 x3 x4 x5 x6 x7 x8 x9 x10 x11 x12 x13 b s j
  simp only [val_main_c_22, val_main_call6_v0, val_main_v208]
  pointwise [h]
  have hz : FloatOps.sitofp (F := Ideal) FTy.f32 0#32 = (0 : EReal) := by
    show (((0#32 : BitVec 32).toInt : ℝ) : EReal) = 0
    simp
  rw [hz]
  by_cases hs : s.val < 2
  · rw [dif_neg (by omega), dif_pos hs]
  · rw [dif_pos (by omega), dif_neg hs]

/-- The convolution branch. -/
theorem brB_1 (b : Fin 8) (s : Fin 8192) (j : Fin 512) :
    val_main_v231 (F := Ideal) x0 x1 x2 x3 x4 x5 x6 x7 x8 x9 x10 x11 x12 (ix3 b s j) = brB (wt x2 x3 x4 x5 x6 x7 x8 x9 x10 x11 x12 1) (rowsOf (val_main_v133 (F := Ideal) x0 x1 x2 x3 x4 x5 x6 x7 x8 x9 x10 x11 x12) b s) (back (wt x2 x3 x4 x5 x6 x7 x8 x9 x10 x11 x12 1) (rowsOf (val_main_v133 (F := Ideal) x0 x1 x2 x3 x4 x5 x6 x7 x8 x9 x10 x11 x12) b) 2 s) (back (wt x2 x3 x4 x5 x6 x7 x8 x9 x10 x11 x12 1) (rowsOf (val_main_v133 (F := Ideal) x0 x1 x2 x3 x4 x5 x6 x7 x8 x9 x10 x11 x12) b) 1 s) j := by
  have h := fun c => pr_1 x0 x1 x2 x3 x4 x5 x6 x7 x8 x9 x10 x11 x12 x13 b s c
  have hp := fun s j => pad_1 x0 x1 x2 x3 x4 x5 x6 x7 x8 x9 x10 x11 x12 x13 b s j
  simp only [val_main_v156, val_main_v158, val_main_v205, val_main_v206, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_call7_v0, val_main_call7_v1, val_main_call7_cst, val_main_call7_v2, val_main_call7_v3, val_main_call7_cst_0, val_main_call7_v4, val_main_call7_v5, val_main_v230, val_main_v231]
  pointwise [h, hp, brB, silu, back_two, back_one, Ideal.logistic]
  first | done | rfl

/-- The rows after the mixing. -/
theorem mid_1 (b : Fin 8) (s : Fin 8192) (j : Fin 1024) :
    val_main_v236 (F := Ideal) x0 x1 x2 x3 x4 x5 x6 x7 x8 x9 x10 x11 x12 (ix3 b s j) = mid (wt x2 x3 x4 x5 x6 x7 x8 x9 x10 x11 x12 1) (chunk (rowsOf (val_main_v133 (F := Ideal) x0 x1 x2 x3 x4 x5 x6 x7 x8 x9 x10 x11 x12) b) s) ⟨s.val % 128, by omega⟩ (back (wt x2 x3 x4 x5 x6 x7 x8 x9 x10 x11 x12 1) (rowsOf (val_main_v133 (F := Ideal) x0 x1 x2 x3 x4 x5 x6 x7 x8 x9 x10 x11 x12) b) 2 s) (back (wt x2 x3 x4 x5 x6 x7 x8 x9 x10 x11 x12 1) (rowsOf (val_main_v133 (F := Ideal) x0 x1 x2 x3 x4 x5 x6 x7 x8 x9 x10 x11 x12) b) 1 s) j := by
  have ha := fun j => brA_1 x0 x1 x2 x3 x4 x5 x6 x7 x8 x9 x10 x11 x12 x13 b s j
  have hb := fun j => brB_1 x0 x1 x2 x3 x4 x5 x6 x7 x8 x9 x10 x11 x12 x13 b s j
  simp only [val_main_v232, val_main_v233, val_main_v234, val_main_v235, val_main_v236]
  pointwise [ha, hb, mid, cat, chunk_self, rowsOf, dot_S8x8192x1024_S1024x1024_S8x8192x1024_2_0_01_1_n_n]
  first | done | rfl

/-- The rows after the layer. -/
theorem layer_1 (b : Fin 8) (s : Fin 8192) (j : Fin 1024) :
    val_main_v267 (F := Ideal) x0 x1 x2 x3 x4 x5 x6 x7 x8 x9 x10 x11 x12 (ix3 b s j) = layer (wt x2 x3 x4 x5 x6 x7 x8 x9 x10 x11 x12 1) (rowsOf (val_main_v133 (F := Ideal) x0 x1 x2 x3 x4 x5 x6 x7 x8 x9 x10 x11 x12) b) (embOf x1 1 b) s j := by
  have h := fun j => mid_1 x0 x1 x2 x3 x4 x5 x6 x7 x8 x9 x10 x11 x12 x13 b s j
  simp only [val_main_v237, val_main_v238, val_main_v239, val_main_cst_23, val_main_v240, val_main_v241, val_main_cst_24, val_main_v242, val_main_v243, val_main_cst_25, val_main_v244, val_main_v245, val_main_v246, val_main_v247, val_main_v248, val_main_v249, val_main_v250, val_main_v251, val_main_v252, val_main_v253, val_main_v254, val_main_v255, val_main_v256, val_main_cst_26, val_main_v257, val_main_v258, val_main_cst_27, val_main_v259, val_main_v260, val_main_v261, val_main_v262, val_main_v263, val_main_v264, val_main_v265, val_main_v266, val_main_v267]
  pointwise [h, layer, row, gat, nrm, eps, c1024, embOf, Ideal.logistic, dot_S8x8192x1024_S1024x1024_S8x8192x1024_2_0_01_1_n_n, dot_S8x8192x256_S256x1024_S8x8192x1024_2_0_01_1_n_n]
  first | done | rfl

end

end Cert.Ref

end
-- ==== Proof.Ref2.lean ====
module

public import proofs.«01_k».proof.Proof.Ref0
public import proofs.«01_k».proof.Proof.Ref1
public import proofs.«01_k».proof.Proof.Gen.ReferenceIdeal.Read
public import proofs.«01_k».proof.Proof.Weights

/-! # The reference's result, read at an element -/

@[expose] public section

set_option maxRecDepth 16384

noncomputable section

namespace Cert.Ref

open Cert.ReferenceIdeal Cert.ReferenceIdeal.Gen Cert.ReferenceIdeal.Read Cert.Spec
open Idealize.ShloMosaic Idealize.ShloMosaic.TcCoe

section
variable (x0 : (⟨S8x8192x1024, .f32⟩ : BufTy).Contents (Elt Ideal)) (x1 : (⟨S2x8x8192x256, .f32⟩ : BufTy).Contents (Elt Ideal)) (x2 : (⟨S2x1024, .f32⟩ : BufTy).Contents (Elt Ideal)) (x3 : (⟨S2x1024x3584, .f32⟩ : BufTy).Contents (Elt Ideal)) (x4 : (⟨S2x512, .f32⟩ : BufTy).Contents (Elt Ideal)) (x5 : (⟨S2x512, .f32⟩ : BufTy).Contents (Elt Ideal)) (x6 : (⟨S2x4x128x128, .f32⟩ : BufTy).Contents (Elt Ideal)) (x7 : (⟨S2x4x128, .f32⟩ : BufTy).Contents (Elt Ideal)) (x8 : (⟨S2x512x3, .f32⟩ : BufTy).Contents (Elt Ideal)) (x9 : (⟨S2x1024x1024, .f32⟩ : BufTy).Contents (Elt Ideal)) (x10 : (⟨S2x1024, .f32⟩ : BufTy).Contents (Elt Ideal)) (x11 : (⟨S2x1024x1024, .f32⟩ : BufTy).Contents (Elt Ideal)) (x12 : (⟨S2x256x1024, .f32⟩ : BufTy).Contents (Elt Ideal)) (x13 : (⟨S1024, .f32⟩ : BufTy).Contents (Elt Ideal))
include x0 x1 x2 x3 x4 x5 x6 x7 x8 x9 x10 x11 x12 x13

/-- The reference's rows after layer 0. -/
theorem mid_eq : val_main_v133 (F := Ideal) x0 x1 x2 x3 x4 x5 x6 x7 x8 x9 x10 x11 x12 = fun y : S8x8192x1024.Idx => layer (wt x2 x3 x4 x5 x6 x7 x8 x9 x10 x11 x12 0) (rowsOf x0 (y 0)) (embOf x1 0 (y 0)) (y 1) (y 2) :=
  funext fun y => (congrArg (val_main_v133 (F := Ideal) x0 x1 x2 x3 x4 x5 x6 x7 x8 x9 x10 x11 x12) (ix3_eta y).symm).trans (layer_0 x0 x1 x2 x3 x4 x5 x6 x7 x8 x9 x10 x11 x12 x13 (y 0) (y 1) (y 2))

/-- The reference's result: layer 1 on layer 0's rows, normalised. -/
theorem result_at (b : Fin 8) (s : Fin 8192) (j : Fin 1024) :
    val_main_v280 (F := Ideal) x0 x1 x2 x3 x4 x5 x6 x7 x8 x9 x10 x11 x12 x13 (ix3 b s j)
      = nrm (fun j => layer (wt x2 x3 x4 x5 x6 x7 x8 x9 x10 x11 x12 1) (rowsOf (fun y : S8x8192x1024.Idx => layer (wt x2 x3 x4 x5 x6 x7 x8 x9 x10 x11 x12 0) (rowsOf x0 (y 0)) (embOf x1 0 (y 0)) (y 1) (y 2)) b) (embOf x1 1 b) s j)
          (fun k => x13 (ix1 k)) j := by
  have h := fun j => layer_1 x0 x1 x2 x3 x4 x5 x6 x7 x8 x9 x10 x11 x12 x13 b s j
  rw [← mid_eq x0 x1 x2 x3 x4 x5 x6 x7 x8 x9 x10 x11 x12 x13]
  simp only [val_main_v268, val_main_v269, val_main_v270, val_main_v271, val_main_v272, val_main_v273, val_main_v274, val_main_v275, val_main_v276, val_main_v277, val_main_v278, val_main_v279, val_main_v280, val_main_cst_28, val_main_cst_29, val_main_cst_30]
  pointwise [h, nrm, eps, c1024]

end

end Cert.Ref

end
-- ==== Proof.Equal.lean ====
module

public import proofs.«01_k».proof.Defs
public import proofs.«01_k».proof.Proof.Result
public import proofs.«01_k».proof.Proof.Ref2
public import proofs.«01_k».proof.Proof.Gen.ReferenceIdeal.Run

/-! # The program's result is the reference's, over the extended reals -/

@[expose] public section

set_option maxRecDepth 16384

noncomputable section

namespace Cert.Equal

open Idealize.ShloMosaic Idealize.ShloMosaic.TcCoe Idealize.SL.Sem
open Cert.ReferenceIdeal.Read

/-- From arguments that agree, the reference's result is what the program's result buffer holds. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    val_main_v280 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = Cert.KernelIdeal.Whole.W6 m c (Proc.devRef .tc Cert.KernelIdeal.main_v8) := by
  obtain ⟨h0, h1, h2, h3, h4, h5, h6, h7, h8, h9, h10, h11, h12, h13⟩ := h
  rw [h0, h1, h2, h3, h4, h5, h6, h7, h8, h9, h10, h11, h12, h13]
  funext y
  have e : y = ix3 (y 0) (y 1) (y 2) := (ix3_eta y).symm
  rw [e]
  exact (Cert.Ref.result_at _ _ _ _ _ _ _ _ _ _ _ _ _ _ (y 0) (y 1) (y 2)).trans (Cert.KernelIdeal.Whole.v8_at m c (y 0) (y 1) (y 2)).symm

/-- The two programs leave the same result and their arguments as launched. -/
theorem algebraic : Cert.algebraic_KernelIdeal_ReferenceIdeal := by
  intro m g m' g' _ h
  refine ⟨fun c => Cert.KernelIdeal.Whole.W6 m c (Proc.devRef .tc Cert.KernelIdeal.main_v8), ?_, ?_⟩
  · exact (θ_run Cert.KernelIdeal.defs _ _).mono
      (fun r hr c => ⟨hr.1 c _ (Cert.KernelIdeal.Whole.mem_uc Cert.KernelIdeal.main_v8 rfl), Cert.KernelIdeal.Whole.args_kept m c r.2.mem (hr.1 c)⟩)
      (Cert.KernelIdeal.Whole.run_main (F := Ideal) m g)
  · exact (θ_run Cert.ReferenceIdeal.defs _ _).mono
      (fun r hr c => ⟨(hr c).1.trans ((val_main_v280_eq (F := Ideal) (StableHlo.launchContents m' c)).trans (same_result m m' c (h c))), (hr c).2⟩)
      (Cert.ReferenceIdeal.Value.run (F := Ideal) m' g')

end Cert.Equal
-- ==== Proof.Same.lean ====
module

public import proofs.«01_k».proof.Defs
public import proofs.«01_k».proof.Proof.Gen.Kernel
public import proofs.«01_k».proof.Proof.Args

/-! # The printed program and its ideal reading are one text

No rewrite was applied, so the two modules define the same program; the run proved for one is the run of the other. -/

@[expose] public section

noncomputable section

namespace Cert.Same

open Idealize.ShloMosaic Idealize.SL.Sem

variable {F : FTy → Type} [FloatOps F]

set_option maxHeartbeats 2000000 in
/-- The two modules' function tables are one. -/
theorem defs_eq : (Cert.Kernel.defs (F := F)) = Cert.KernelIdeal.defs (F := F) := by sl_kernel_rfl
set_option maxHeartbeats 2000000 in
/-- The two modules' main programs are one. -/
theorem main_eq : (Cert.Kernel.main (F := F)) = Cert.KernelIdeal.main (F := F) := by sl_kernel_rfl

set_option maxHeartbeats 4000000 in
/-- The program over machine floats leaves every argument array as it was and every counter at zero. -/
theorem frame_kernel : Cert.quiescent_Kernel := by
  intro m ρ _
  rw [defs_eq, main_eq]
  exact (θ_run Cert.KernelIdeal.defs _ _).mono (fun _ h => ⟨h.1, h.2⟩) (Cert.KernelIdeal.Whole.unchanged (F := Bits) m ρ)

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Args
public import proofs.«01_k».proof.Proof.Equal
public import proofs.«01_k».proof.Proof.Same
public import Idealize.ShloMosaic.Adequacy
public import Idealize.ShloMosaic.Init

@[expose] public section

noncomputable section

namespace Cert.Proof

open Idealize.ShloMosaic Idealize.SL.Sem Cert.Kernel

/-- The program over the reals: the same run. -/
theorem frame_ideal : Cert.quiescent_KernelIdeal :=
  fun m ρ _ => Cert.KernelIdeal.Whole.unchanged (F := Ideal) m ρ

/-- The reference is host operations only; none writes an argument, and it declares no counter. -/
theorem frame_reference : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The claims together. -/
theorem claim : Cert.Claim := ⟨Cert.Kernel.Gen.facts, Cert.KernelIdeal.Gen.facts, Cert.ReferenceIdeal.Gen.facts,
  Cert.Same.frame_kernel, frame_ideal, frame_reference, trivial, Cert.Equal.algebraic⟩

end Cert.Proof

end
